-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27)
      ∧ r.2.mem ((c.tc : Thread Cert.Kernel15.nD Cert.Kernel15.τ).loc Cert.Kernel15.main_arg28) = m ((c.tc : Thread Cert.Kernel15.nD Cert.Kernel15.τ).loc Cert.Kernel15.main_arg28)
      ∧ r.2.mem ((c.tc : Thread Cert.Kernel15.nD Cert.Kernel15.τ).loc Cert.Kernel15.main_arg29) = m ((c.tc : Thread Cert.Kernel15.nD Cert.Kernel15.τ).loc Cert.Kernel15.main_arg29)
      ∧ r.2.mem ((c.tc : Thread Cert.Kernel15.nD Cert.Kernel15.τ).loc Cert.Kernel15.main_arg30) = m ((c.tc : Thread Cert.Kernel15.nD Cert.Kernel15.τ).loc Cert.Kernel15.main_arg30)
      ∧ r.2.mem ((c.tc : Thread Cert.Kernel15.nD Cert.Kernel15.τ).loc Cert.Kernel15.main_arg31) = m ((c.tc : Thread Cert.Kernel15.nD Cert.Kernel15.τ).loc Cert.Kernel15.main_arg31)
      ∧ r.2.mem ((c.tc : Thread Cert.Kernel15.nD Cert.Kernel15.τ).loc Cert.Kernel15.main_arg32) = m ((c.tc : Thread Cert.Kernel15.nD Cert.Kernel15.τ).loc Cert.Kernel15.main_arg32)
      ∧ r.2.mem ((c.tc : Thread Cert.Kernel15.nD Cert.Kernel15.τ).loc Cert.Kernel15.main_arg33) = m ((c.tc : Thread Cert.Kernel15.nD Cert.Kernel15.τ).loc Cert.Kernel15.main_arg33)
      ∧ r.2.mem ((c.tc : Thread Cert.Kernel15.nD Cert.Kernel15.τ).loc Cert.Kernel15.main_arg34) = m ((c.tc : Thread Cert.Kernel15.nD Cert.Kernel15.τ).loc Cert.Kernel15.main_arg34)
      ∧ r.2.mem ((c.tc : Thread Cert.Kernel15.nD Cert.Kernel15.τ).loc Cert.Kernel15.main_arg35) = m ((c.tc : Thread Cert.Kernel15.nD Cert.Kernel15.τ).loc Cert.Kernel15.main_arg35)
      ∧ r.2.mem ((c.tc : Thread Cert.Kernel15.nD Cert.Kernel15.τ).loc Cert.Kernel15.main_arg36) = m ((c.tc : Thread Cert.Kernel15.nD Cert.Kernel15.τ).loc Cert.Kernel15.main_arg36)
      ∧ r.2.mem ((c.tc : Thread Cert.Kernel15.nD Cert.Kernel15.τ).loc Cert.Kernel15.main_arg37) = m ((c.tc : Thread Cert.Kernel15.nD Cert.Kernel15.τ).loc Cert.Kernel15.main_arg37)
      ∧ r.2.mem ((c.tc : Thread Cert.Kernel15.nD Cert.Kernel15.τ).loc Cert.Kernel15.main_arg38) = m ((c.tc : Thread Cert.Kernel15.nD Cert.Kernel15.τ).loc Cert.Kernel15.main_arg38)
      ∧ r.2.mem ((c.tc : Thread Cert.Kernel15.nD Cert.Kernel15.τ).loc Cert.Kernel15.main_arg39) = m ((c.tc : Thread Cert.Kernel15.nD Cert.Kernel15.τ).loc Cert.Kernel15.main_arg39)
      ∧ r.2.mem ((c.tc : Thread Cert.Kernel15.nD Cert.Kernel15.τ).loc Cert.Kernel15.main_arg40) = m ((c.tc : Thread Cert.Kernel15.nD Cert.Kernel15.τ).loc Cert.Kernel15.main_arg40)
      ∧ r.2.mem ((c.tc : Thread Cert.Kernel15.nD Cert.Kernel15.τ).loc Cert.Kernel15.main_arg41) = m ((c.tc : Thread Cert.Kernel15.nD Cert.Kernel15.τ).loc Cert.Kernel15.main_arg41)
      ∧ r.2.mem ((c.tc : Thread Cert.Kernel15.nD Cert.Kernel15.τ).loc Cert.Kernel15.main_arg42) = m ((c.tc : Thread Cert.Kernel15.nD Cert.Kernel15.τ).loc Cert.Kernel15.main_arg42)
      ∧ r.2.mem ((c.tc : Thread Cert.Kernel15.nD Cert.Kernel15.τ).loc Cert.Kernel15.main_arg43) = m ((c.tc : Thread Cert.Kernel15.nD Cert.Kernel15.τ).loc Cert.Kernel15.main_arg43))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
      ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
      ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
      ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
      ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
      ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
      ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
      ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
      ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35)
      ∧ r.2.mem ((c.tc : Thread Cert.Kernel15Ideal.nD Cert.Kernel15Ideal.τ).loc Cert.Kernel15Ideal.main_arg36) = m ((c.tc : Thread Cert.Kernel15Ideal.nD Cert.Kernel15Ideal.τ).loc Cert.Kernel15Ideal.main_arg36)
      ∧ r.2.mem ((c.tc : Thread Cert.Kernel15Ideal.nD Cert.Kernel15Ideal.τ).loc Cert.Kernel15Ideal.main_arg37) = m ((c.tc : Thread Cert.Kernel15Ideal.nD Cert.Kernel15Ideal.τ).loc Cert.Kernel15Ideal.main_arg37)
      ∧ r.2.mem ((c.tc : Thread Cert.Kernel15Ideal.nD Cert.Kernel15Ideal.τ).loc Cert.Kernel15Ideal.main_arg38) = m ((c.tc : Thread Cert.Kernel15Ideal.nD Cert.Kernel15Ideal.τ).loc Cert.Kernel15Ideal.main_arg38)
      ∧ r.2.mem ((c.tc : Thread Cert.Kernel15Ideal.nD Cert.Kernel15Ideal.τ).loc Cert.Kernel15Ideal.main_arg39) = m ((c.tc : Thread Cert.Kernel15Ideal.nD Cert.Kernel15Ideal.τ).loc Cert.Kernel15Ideal.main_arg39)
      ∧ r.2.mem ((c.tc : Thread Cert.Kernel15Ideal.nD Cert.Kernel15Ideal.τ).loc Cert.Kernel15Ideal.main_arg40) = m ((c.tc : Thread Cert.Kernel15Ideal.nD Cert.Kernel15Ideal.τ).loc Cert.Kernel15Ideal.main_arg40)
      ∧ r.2.mem ((c.tc : Thread Cert.Kernel15Ideal.nD Cert.Kernel15Ideal.τ).loc Cert.Kernel15Ideal.main_arg41) = m ((c.tc : Thread Cert.Kernel15Ideal.nD Cert.Kernel15Ideal.τ).loc Cert.Kernel15Ideal.main_arg41)
      ∧ r.2.mem ((c.tc : Thread Cert.Kernel15Ideal.nD Cert.Kernel15Ideal.τ).loc Cert.Kernel15Ideal.main_arg42) = m ((c.tc : Thread Cert.Kernel15Ideal.nD Cert.Kernel15Ideal.τ).loc Cert.Kernel15Ideal.main_arg42)
      ∧ r.2.mem ((c.tc : Thread Cert.Kernel15Ideal.nD Cert.Kernel15Ideal.τ).loc Cert.Kernel15Ideal.main_arg43) = m ((c.tc : Thread Cert.Kernel15Ideal.nD Cert.Kernel15Ideal.τ).loc Cert.Kernel15Ideal.main_arg43))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27)
      ∧ r.2.mem ((c.tc : Thread Cert.Reference15Ideal.nD Cert.Reference15Ideal.τ).loc Cert.Reference15Ideal.main_arg28) = m ((c.tc : Thread Cert.Reference15Ideal.nD Cert.Reference15Ideal.τ).loc Cert.Reference15Ideal.main_arg28)
      ∧ r.2.mem ((c.tc : Thread Cert.Reference15Ideal.nD Cert.Reference15Ideal.τ).loc Cert.Reference15Ideal.main_arg29) = m ((c.tc : Thread Cert.Reference15Ideal.nD Cert.Reference15Ideal.τ).loc Cert.Reference15Ideal.main_arg29)
      ∧ r.2.mem ((c.tc : Thread Cert.Reference15Ideal.nD Cert.Reference15Ideal.τ).loc Cert.Reference15Ideal.main_arg30) = m ((c.tc : Thread Cert.Reference15Ideal.nD Cert.Reference15Ideal.τ).loc Cert.Reference15Ideal.main_arg30)
      ∧ r.2.mem ((c.tc : Thread Cert.Reference15Ideal.nD Cert.Reference15Ideal.τ).loc Cert.Reference15Ideal.main_arg31) = m ((c.tc : Thread Cert.Reference15Ideal.nD Cert.Reference15Ideal.τ).loc Cert.Reference15Ideal.main_arg31)
      ∧ r.2.mem ((c.tc : Thread Cert.Reference15Ideal.nD Cert.Reference15Ideal.τ).loc Cert.Reference15Ideal.main_arg32) = m ((c.tc : Thread Cert.Reference15Ideal.nD Cert.Reference15Ideal.τ).loc Cert.Reference15Ideal.main_arg32)
      ∧ r.2.mem ((c.tc : Thread Cert.Reference15Ideal.nD Cert.Reference15Ideal.τ).loc Cert.Reference15Ideal.main_arg33) = m ((c.tc : Thread Cert.Reference15Ideal.nD Cert.Reference15Ideal.τ).loc Cert.Reference15Ideal.main_arg33)
      ∧ r.2.mem ((c.tc : Thread Cert.Reference15Ideal.nD Cert.Reference15Ideal.τ).loc Cert.Reference15Ideal.main_arg34) = m ((c.tc : Thread Cert.Reference15Ideal.nD Cert.Reference15Ideal.τ).loc Cert.Reference15Ideal.main_arg34)
      ∧ r.2.mem ((c.tc : Thread Cert.Reference15Ideal.nD Cert.Reference15Ideal.τ).loc Cert.Reference15Ideal.main_arg35) = m ((c.tc : Thread Cert.Reference15Ideal.nD Cert.Reference15Ideal.τ).loc Cert.Reference15Ideal.main_arg35)
      ∧ r.2.mem ((c.tc : Thread Cert.Reference15Ideal.nD Cert.Reference15Ideal.τ).loc Cert.Reference15Ideal.main_arg36) = m ((c.tc : Thread Cert.Reference15Ideal.nD Cert.Reference15Ideal.τ).loc Cert.Reference15Ideal.main_arg36)
      ∧ r.2.mem ((c.tc : Thread Cert.Reference15Ideal.nD Cert.Reference15Ideal.τ).loc Cert.Reference15Ideal.main_arg37) = m ((c.tc : Thread Cert.Reference15Ideal.nD Cert.Reference15Ideal.τ).loc Cert.Reference15Ideal.main_arg37)
      ∧ r.2.mem ((c.tc : Thread Cert.Reference15Ideal.nD Cert.Reference15Ideal.τ).loc Cert.Reference15Ideal.main_arg38) = m ((c.tc : Thread Cert.Reference15Ideal.nD Cert.Reference15Ideal.τ).loc Cert.Reference15Ideal.main_arg38)
      ∧ r.2.mem ((c.tc : Thread Cert.Reference15Ideal.nD Cert.Reference15Ideal.τ).loc Cert.Reference15Ideal.main_arg39) = m ((c.tc : Thread Cert.Reference15Ideal.nD Cert.Reference15Ideal.τ).loc Cert.Reference15Ideal.main_arg39)
      ∧ r.2.mem ((c.tc : Thread Cert.Reference15Ideal.nD Cert.Reference15Ideal.τ).loc Cert.Reference15Ideal.main_arg40) = m ((c.tc : Thread Cert.Reference15Ideal.nD Cert.Reference15Ideal.τ).loc Cert.Reference15Ideal.main_arg40)
      ∧ r.2.mem ((c.tc : Thread Cert.Reference15Ideal.nD Cert.Reference15Ideal.τ).loc Cert.Reference15Ideal.main_arg41) = m ((c.tc : Thread Cert.Reference15Ideal.nD Cert.Reference15Ideal.τ).loc Cert.Reference15Ideal.main_arg41)
      ∧ r.2.mem ((c.tc : Thread Cert.Reference15Ideal.nD Cert.Reference15Ideal.τ).loc Cert.Reference15Ideal.main_arg42) = m ((c.tc : Thread Cert.Reference15Ideal.nD Cert.Reference15Ideal.τ).loc Cert.Reference15Ideal.main_arg42)
      ∧ r.2.mem ((c.tc : Thread Cert.Reference15Ideal.nD Cert.Reference15Ideal.τ).loc Cert.Reference15Ideal.main_arg43) = m ((c.tc : Thread Cert.Reference15Ideal.nD Cert.Reference15Ideal.τ).loc Cert.Reference15Ideal.main_arg43))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def preserves_Kernel_KernelIdeal : Prop :=
  True

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v26) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)
      ∧ m' ((c.tc : Thread Cert.Reference15Ideal.nD Cert.Reference15Ideal.τ).loc Cert.Reference15Ideal.main_arg28) = m ((c.tc : Thread Cert.Kernel15Ideal.nD Cert.Kernel15Ideal.τ).loc Cert.Kernel15Ideal.main_arg28)
      ∧ m' ((c.tc : Thread Cert.Reference15Ideal.nD Cert.Reference15Ideal.τ).loc Cert.Reference15Ideal.main_arg29) = m ((c.tc : Thread Cert.Kernel15Ideal.nD Cert.Kernel15Ideal.τ).loc Cert.Kernel15Ideal.main_arg29)
      ∧ m' ((c.tc : Thread Cert.Reference15Ideal.nD Cert.Reference15Ideal.τ).loc Cert.Reference15Ideal.main_arg30) = m ((c.tc : Thread Cert.Kernel15Ideal.nD Cert.Kernel15Ideal.τ).loc Cert.Kernel15Ideal.main_arg30)
      ∧ m' ((c.tc : Thread Cert.Reference15Ideal.nD Cert.Reference15Ideal.τ).loc Cert.Reference15Ideal.main_arg31) = m ((c.tc : Thread Cert.Kernel15Ideal.nD Cert.Kernel15Ideal.τ).loc Cert.Kernel15Ideal.main_arg31)
      ∧ m' ((c.tc : Thread Cert.Reference15Ideal.nD Cert.Reference15Ideal.τ).loc Cert.Reference15Ideal.main_arg32) = m ((c.tc : Thread Cert.Kernel15Ideal.nD Cert.Kernel15Ideal.τ).loc Cert.Kernel15Ideal.main_arg32)
      ∧ m' ((c.tc : Thread Cert.Reference15Ideal.nD Cert.Reference15Ideal.τ).loc Cert.Reference15Ideal.main_arg33) = m ((c.tc : Thread Cert.Kernel15Ideal.nD Cert.Kernel15Ideal.τ).loc Cert.Kernel15Ideal.main_arg33)
      ∧ m' ((c.tc : Thread Cert.Reference15Ideal.nD Cert.Reference15Ideal.τ).loc Cert.Reference15Ideal.main_arg34) = m ((c.tc : Thread Cert.Kernel15Ideal.nD Cert.Kernel15Ideal.τ).loc Cert.Kernel15Ideal.main_arg34)
      ∧ m' ((c.tc : Thread Cert.Reference15Ideal.nD Cert.Reference15Ideal.τ).loc Cert.Reference15Ideal.main_arg35) = m ((c.tc : Thread Cert.Kernel15Ideal.nD Cert.Kernel15Ideal.τ).loc Cert.Kernel15Ideal.main_arg35)
      ∧ m' ((c.tc : Thread Cert.Reference15Ideal.nD Cert.Reference15Ideal.τ).loc Cert.Reference15Ideal.main_arg36) = m ((c.tc : Thread Cert.Kernel15Ideal.nD Cert.Kernel15Ideal.τ).loc Cert.Kernel15Ideal.main_arg36)
      ∧ m' ((c.tc : Thread Cert.Reference15Ideal.nD Cert.Reference15Ideal.τ).loc Cert.Reference15Ideal.main_arg37) = m ((c.tc : Thread Cert.Kernel15Ideal.nD Cert.Kernel15Ideal.τ).loc Cert.Kernel15Ideal.main_arg37)
      ∧ m' ((c.tc : Thread Cert.Reference15Ideal.nD Cert.Reference15Ideal.τ).loc Cert.Reference15Ideal.main_arg38) = m ((c.tc : Thread Cert.Kernel15Ideal.nD Cert.Kernel15Ideal.τ).loc Cert.Kernel15Ideal.main_arg38)
      ∧ m' ((c.tc : Thread Cert.Reference15Ideal.nD Cert.Reference15Ideal.τ).loc Cert.Reference15Ideal.main_arg39) = m ((c.tc : Thread Cert.Kernel15Ideal.nD Cert.Kernel15Ideal.τ).loc Cert.Kernel15Ideal.main_arg39)
      ∧ m' ((c.tc : Thread Cert.Reference15Ideal.nD Cert.Reference15Ideal.τ).loc Cert.Reference15Ideal.main_arg40) = m ((c.tc : Thread Cert.Kernel15Ideal.nD Cert.Kernel15Ideal.τ).loc Cert.Kernel15Ideal.main_arg40)
      ∧ m' ((c.tc : Thread Cert.Reference15Ideal.nD Cert.Reference15Ideal.τ).loc Cert.Reference15Ideal.main_arg41) = m ((c.tc : Thread Cert.Kernel15Ideal.nD Cert.Kernel15Ideal.τ).loc Cert.Kernel15Ideal.main_arg41)
      ∧ m' ((c.tc : Thread Cert.Reference15Ideal.nD Cert.Reference15Ideal.τ).loc Cert.Reference15Ideal.main_arg42) = m ((c.tc : Thread Cert.Kernel15Ideal.nD Cert.Kernel15Ideal.τ).loc Cert.Kernel15Ideal.main_arg42)
      ∧ m' ((c.tc : Thread Cert.Reference15Ideal.nD Cert.Reference15Ideal.τ).loc Cert.Reference15Ideal.main_arg43) = m ((c.tc : Thread Cert.Kernel15Ideal.nD Cert.Kernel15Ideal.τ).loc Cert.Kernel15Ideal.main_arg43)) →
    ∃ (v0 : (c : Dev Cert.Kernel15Ideal.nD) → Buf (Elt Ideal) ((c.tc : Thread Cert.Kernel15Ideal.nD Cert.Kernel15Ideal.τ).loc Cert.Kernel15Ideal.main_v139)) (v1 : (c : Dev Cert.Kernel15Ideal.nD) → Buf (Elt Ideal) ((c.tc : Thread Cert.Kernel15Ideal.nD Cert.Kernel15Ideal.τ).loc Cert.Kernel15Ideal.main_v143)) (v2 : (c : Dev Cert.Kernel15Ideal.nD) → Buf (Elt Ideal) ((c.tc : Thread Cert.Kernel15Ideal.nD Cert.Kernel15Ideal.τ).loc Cert.Kernel15Ideal.main_v147)) (v3 : (c : Dev Cert.Kernel15Ideal.nD) → Buf (Elt Ideal) ((c.tc : Thread Cert.Kernel15Ideal.nD Cert.Kernel15Ideal.τ).loc Cert.Kernel15Ideal.main_v151)) (v4 : (c : Dev Cert.Kernel15Ideal.nD) → Buf (Elt Ideal) ((c.tc : Thread Cert.Kernel15Ideal.nD Cert.Kernel15Ideal.τ).loc Cert.Kernel15Ideal.main_v155)) (v5 : (c : Dev Cert.Kernel15Ideal.nD) → Buf (Elt Ideal) ((c.tc : Thread Cert.Kernel15Ideal.nD Cert.Kernel15Ideal.τ).loc Cert.Kernel15Ideal.main_v159)) (v6 : (c : Dev Cert.Kernel15Ideal.nD) → Buf (Elt Ideal) ((c.tc : Thread Cert.Kernel15Ideal.nD Cert.Kernel15Ideal.τ).loc Cert.Kernel15Ideal.main_v163)) (v7 : (c : Dev Cert.Kernel15Ideal.nD) → Buf (Elt Ideal) ((c.tc : Thread Cert.Kernel15Ideal.nD Cert.Kernel15Ideal.τ).loc Cert.Kernel15Ideal.main_v166)) (v8 : (c : Dev Cert.Kernel15Ideal.nD) → Buf (Elt Ideal) ((c.tc : Thread Cert.Kernel15Ideal.nD Cert.Kernel15Ideal.τ).loc Cert.Kernel15Ideal.main_v169)) (v9 : (c : Dev Cert.Kernel15Ideal.nD) → Buf (Elt Ideal) ((c.tc : Thread Cert.Kernel15Ideal.nD Cert.Kernel15Ideal.τ).loc Cert.Kernel15Ideal.main_v172)) (v10 : (c : Dev Cert.Kernel15Ideal.nD) → Buf (Elt Ideal) ((c.tc : Thread Cert.Kernel15Ideal.nD Cert.Kernel15Ideal.τ).loc Cert.Kernel15Ideal.main_v175)) (v11 : (c : Dev Cert.Kernel15Ideal.nD) → Buf (Elt Ideal) ((c.tc : Thread Cert.Kernel15Ideal.nD Cert.Kernel15Ideal.τ).loc Cert.Kernel15Ideal.main_v178)) (v12 : (c : Dev Cert.Kernel15Ideal.nD) → Buf (Elt Ideal) ((c.tc : Thread Cert.Kernel15Ideal.nD Cert.Kernel15Ideal.τ).loc Cert.Kernel15Ideal.main_v182)) (v13 : (c : Dev Cert.Kernel15Ideal.nD) → Buf (Elt Ideal) ((c.tc : Thread Cert.Kernel15Ideal.nD Cert.Kernel15Ideal.τ).loc Cert.Kernel15Ideal.main_v186)) (v14 : (c : Dev Cert.Kernel15Ideal.nD) → Buf (Elt Ideal) ((c.tc : Thread Cert.Kernel15Ideal.nD Cert.Kernel15Ideal.τ).loc Cert.Kernel15Ideal.main_v190)) (v15 : (c : Dev Cert.Kernel15Ideal.nD) → Buf (Elt Ideal) ((c.tc : Thread Cert.Kernel15Ideal.nD Cert.Kernel15Ideal.τ).loc Cert.Kernel15Ideal.main_v194)) (v16 : (c : Dev Cert.Kernel15Ideal.nD) → Buf (Elt Ideal) ((c.tc : Thread Cert.Kernel15Ideal.nD Cert.Kernel15Ideal.τ).loc Cert.Kernel15Ideal.main_v198)) (v17 : (c : Dev Cert.Kernel15Ideal.nD) → Buf (Elt Ideal) ((c.tc : Thread Cert.Kernel15Ideal.nD Cert.Kernel15Ideal.τ).loc Cert.Kernel15Ideal.main_v202)) (v18 : (c : Dev Cert.Kernel15Ideal.nD) → Buf (Elt Ideal) ((c.tc : Thread Cert.Kernel15Ideal.nD Cert.Kernel15Ideal.τ).loc Cert.Kernel15Ideal.main_v205)) (v19 : (c : Dev Cert.Kernel15Ideal.nD) → Buf (Elt Ideal) ((c.tc : Thread Cert.Kernel15Ideal.nD Cert.Kernel15Ideal.τ).loc Cert.Kernel15Ideal.main_v208)) (v20 : (c : Dev Cert.Kernel15Ideal.nD) → Buf (Elt Ideal) ((c.tc : Thread Cert.Kernel15Ideal.nD Cert.Kernel15Ideal.τ).loc Cert.Kernel15Ideal.main_v211)) (v21 : (c : Dev Cert.Kernel15Ideal.nD) → Buf (Elt Ideal) ((c.tc : Thread Cert.Kernel15Ideal.nD Cert.Kernel15Ideal.τ).loc Cert.Kernel15Ideal.main_v214)) (v22 : (c : Dev Cert.Kernel15Ideal.nD) → Buf (Elt Ideal) ((c.tc : Thread Cert.Kernel15Ideal.nD Cert.Kernel15Ideal.τ).loc Cert.Kernel15Ideal.main_v217)) (v23 : (c : Dev Cert.Kernel15Ideal.nD) → Buf (Elt Ideal) ((c.tc : Thread Cert.Kernel15Ideal.nD Cert.Kernel15Ideal.τ).loc Cert.Kernel15Ideal.main_v221)) (v24 : (c : Dev Cert.Kernel15Ideal.nD) → Buf (Elt Ideal) ((c.tc : Thread Cert.Kernel15Ideal.nD Cert.Kernel15Ideal.τ).loc Cert.Kernel15Ideal.main_v225)) (v25 : (c : Dev Cert.Kernel15Ideal.nD) → Buf (Elt Ideal) ((c.tc : Thread Cert.Kernel15Ideal.nD Cert.Kernel15Ideal.τ).loc Cert.Kernel15Ideal.main_v229)) (v26 : (c : Dev Cert.Kernel15Ideal.nD) → Buf (Elt Ideal) ((c.tc : Thread Cert.Kernel15Ideal.nD Cert.Kernel15Ideal.τ).loc Cert.Kernel15Ideal.main_v233)) (v27 : (c : Dev Cert.Kernel15Ideal.nD) → Buf (Elt Ideal) ((c.tc : Thread Cert.Kernel15Ideal.nD Cert.Kernel15Ideal.τ).loc Cert.Kernel15Ideal.main_v237)) (v28 : (c : Dev Cert.Kernel15Ideal.nD) → Buf (Elt Ideal) ((c.tc : Thread Cert.Kernel15Ideal.nD Cert.Kernel15Ideal.τ).loc Cert.Kernel15Ideal.main_v241)) (v29 : (c : Dev Cert.Kernel15Ideal.nD) → Buf (Elt Ideal) ((c.tc : Thread Cert.Kernel15Ideal.nD Cert.Kernel15Ideal.τ).loc Cert.Kernel15Ideal.main_v244)) (v30 : (c : Dev Cert.Kernel15Ideal.nD) → Buf (Elt Ideal) ((c.tc : Thread Cert.Kernel15Ideal.nD Cert.Kernel15Ideal.τ).loc Cert.Kernel15Ideal.main_v247)) (v31 : (c : Dev Cert.Kernel15Ideal.nD) → Buf (Elt Ideal) ((c.tc : Thread Cert.Kernel15Ideal.nD Cert.Kernel15Ideal.τ).loc Cert.Kernel15Ideal.main_v250)) (v32 : (c : Dev Cert.Kernel15Ideal.nD) → Buf (Elt Ideal) ((c.tc : Thread Cert.Kernel15Ideal.nD Cert.Kernel15Ideal.τ).loc Cert.Kernel15Ideal.main_v253)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v139) = v0 c
          ∧ r.2.mem ((c.tc : Thread Cert.Kernel15Ideal.nD Cert.Kernel15Ideal.τ).loc Cert.Kernel15Ideal.main_v143) = v1 c
          ∧ r.2.mem ((c.tc : Thread Cert.Kernel15Ideal.nD Cert.Kernel15Ideal.τ).loc Cert.Kernel15Ideal.main_v147) = v2 c
          ∧ r.2.mem ((c.tc : Thread Cert.Kernel15Ideal.nD Cert.Kernel15Ideal.τ).loc Cert.Kernel15Ideal.main_v151) = v3 c
          ∧ r.2.mem ((c.tc : Thread Cert.Kernel15Ideal.nD Cert.Kernel15Ideal.τ).loc Cert.Kernel15Ideal.main_v155) = v4 c
          ∧ r.2.mem ((c.tc : Thread Cert.Kernel15Ideal.nD Cert.Kernel15Ideal.τ).loc Cert.Kernel15Ideal.main_v159) = v5 c
          ∧ r.2.mem ((c.tc : Thread Cert.Kernel15Ideal.nD Cert.Kernel15Ideal.τ).loc Cert.Kernel15Ideal.main_v163) = v6 c
          ∧ r.2.mem ((c.tc : Thread Cert.Kernel15Ideal.nD Cert.Kernel15Ideal.τ).loc Cert.Kernel15Ideal.main_v166) = v7 c
          ∧ r.2.mem ((c.tc : Thread Cert.Kernel15Ideal.nD Cert.Kernel15Ideal.τ).loc Cert.Kernel15Ideal.main_v169) = v8 c
          ∧ r.2.mem ((c.tc : Thread Cert.Kernel15Ideal.nD Cert.Kernel15Ideal.τ).loc Cert.Kernel15Ideal.main_v172) = v9 c
          ∧ r.2.mem ((c.tc : Thread Cert.Kernel15Ideal.nD Cert.Kernel15Ideal.τ).loc Cert.Kernel15Ideal.main_v175) = v10 c
          ∧ r.2.mem ((c.tc : Thread Cert.Kernel15Ideal.nD Cert.Kernel15Ideal.τ).loc Cert.Kernel15Ideal.main_v178) = v11 c
          ∧ r.2.mem ((c.tc : Thread Cert.Kernel15Ideal.nD Cert.Kernel15Ideal.τ).loc Cert.Kernel15Ideal.main_v182) = v12 c
          ∧ r.2.mem ((c.tc : Thread Cert.Kernel15Ideal.nD Cert.Kernel15Ideal.τ).loc Cert.Kernel15Ideal.main_v186) = v13 c
          ∧ r.2.mem ((c.tc : Thread Cert.Kernel15Ideal.nD Cert.Kernel15Ideal.τ).loc Cert.Kernel15Ideal.main_v190) = v14 c
          ∧ r.2.mem ((c.tc : Thread Cert.Kernel15Ideal.nD Cert.Kernel15Ideal.τ).loc Cert.Kernel15Ideal.main_v194) = v15 c
          ∧ r.2.mem ((c.tc : Thread Cert.Kernel15Ideal.nD Cert.Kernel15Ideal.τ).loc Cert.Kernel15Ideal.main_v198) = v16 c
          ∧ r.2.mem ((c.tc : Thread Cert.Kernel15Ideal.nD Cert.Kernel15Ideal.τ).loc Cert.Kernel15Ideal.main_v202) = v17 c
          ∧ r.2.mem ((c.tc : Thread Cert.Kernel15Ideal.nD Cert.Kernel15Ideal.τ).loc Cert.Kernel15Ideal.main_v205) = v18 c
          ∧ r.2.mem ((c.tc : Thread Cert.Kernel15Ideal.nD Cert.Kernel15Ideal.τ).loc Cert.Kernel15Ideal.main_v208) = v19 c
          ∧ r.2.mem ((c.tc : Thread Cert.Kernel15Ideal.nD Cert.Kernel15Ideal.τ).loc Cert.Kernel15Ideal.main_v211) = v20 c
          ∧ r.2.mem ((c.tc : Thread Cert.Kernel15Ideal.nD Cert.Kernel15Ideal.τ).loc Cert.Kernel15Ideal.main_v214) = v21 c
          ∧ r.2.mem ((c.tc : Thread Cert.Kernel15Ideal.nD Cert.Kernel15Ideal.τ).loc Cert.Kernel15Ideal.main_v217) = v22 c
          ∧ r.2.mem ((c.tc : Thread Cert.Kernel15Ideal.nD Cert.Kernel15Ideal.τ).loc Cert.Kernel15Ideal.main_v221) = v23 c
          ∧ r.2.mem ((c.tc : Thread Cert.Kernel15Ideal.nD Cert.Kernel15Ideal.τ).loc Cert.Kernel15Ideal.main_v225) = v24 c
          ∧ r.2.mem ((c.tc : Thread Cert.Kernel15Ideal.nD Cert.Kernel15Ideal.τ).loc Cert.Kernel15Ideal.main_v229) = v25 c
          ∧ r.2.mem ((c.tc : Thread Cert.Kernel15Ideal.nD Cert.Kernel15Ideal.τ).loc Cert.Kernel15Ideal.main_v233) = v26 c
          ∧ r.2.mem ((c.tc : Thread Cert.Kernel15Ideal.nD Cert.Kernel15Ideal.τ).loc Cert.Kernel15Ideal.main_v237) = v27 c
          ∧ r.2.mem ((c.tc : Thread Cert.Kernel15Ideal.nD Cert.Kernel15Ideal.τ).loc Cert.Kernel15Ideal.main_v241) = v28 c
          ∧ r.2.mem ((c.tc : Thread Cert.Kernel15Ideal.nD Cert.Kernel15Ideal.τ).loc Cert.Kernel15Ideal.main_v244) = v29 c
          ∧ r.2.mem ((c.tc : Thread Cert.Kernel15Ideal.nD Cert.Kernel15Ideal.τ).loc Cert.Kernel15Ideal.main_v247) = v30 c
          ∧ r.2.mem ((c.tc : Thread Cert.Kernel15Ideal.nD Cert.Kernel15Ideal.τ).loc Cert.Kernel15Ideal.main_v250) = v31 c
          ∧ r.2.mem ((c.tc : Thread Cert.Kernel15Ideal.nD Cert.Kernel15Ideal.τ).loc Cert.Kernel15Ideal.main_v253) = v32 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
          ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
          ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
          ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
          ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
          ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
          ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
          ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
          ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35)
          ∧ r.2.mem ((c.tc : Thread Cert.Kernel15Ideal.nD Cert.Kernel15Ideal.τ).loc Cert.Kernel15Ideal.main_arg36) = m ((c.tc : Thread Cert.Kernel15Ideal.nD Cert.Kernel15Ideal.τ).loc Cert.Kernel15Ideal.main_arg36)
          ∧ r.2.mem ((c.tc : Thread Cert.Kernel15Ideal.nD Cert.Kernel15Ideal.τ).loc Cert.Kernel15Ideal.main_arg37) = m ((c.tc : Thread Cert.Kernel15Ideal.nD Cert.Kernel15Ideal.τ).loc Cert.Kernel15Ideal.main_arg37)
          ∧ r.2.mem ((c.tc : Thread Cert.Kernel15Ideal.nD Cert.Kernel15Ideal.τ).loc Cert.Kernel15Ideal.main_arg38) = m ((c.tc : Thread Cert.Kernel15Ideal.nD Cert.Kernel15Ideal.τ).loc Cert.Kernel15Ideal.main_arg38)
          ∧ r.2.mem ((c.tc : Thread Cert.Kernel15Ideal.nD Cert.Kernel15Ideal.τ).loc Cert.Kernel15Ideal.main_arg39) = m ((c.tc : Thread Cert.Kernel15Ideal.nD Cert.Kernel15Ideal.τ).loc Cert.Kernel15Ideal.main_arg39)
          ∧ r.2.mem ((c.tc : Thread Cert.Kernel15Ideal.nD Cert.Kernel15Ideal.τ).loc Cert.Kernel15Ideal.main_arg40) = m ((c.tc : Thread Cert.Kernel15Ideal.nD Cert.Kernel15Ideal.τ).loc Cert.Kernel15Ideal.main_arg40)
          ∧ r.2.mem ((c.tc : Thread Cert.Kernel15Ideal.nD Cert.Kernel15Ideal.τ).loc Cert.Kernel15Ideal.main_arg41) = m ((c.tc : Thread Cert.Kernel15Ideal.nD Cert.Kernel15Ideal.τ).loc Cert.Kernel15Ideal.main_arg41)
          ∧ r.2.mem ((c.tc : Thread Cert.Kernel15Ideal.nD Cert.Kernel15Ideal.τ).loc Cert.Kernel15Ideal.main_arg42) = m ((c.tc : Thread Cert.Kernel15Ideal.nD Cert.Kernel15Ideal.τ).loc Cert.Kernel15Ideal.main_arg42)
          ∧ r.2.mem ((c.tc : Thread Cert.Kernel15Ideal.nD Cert.Kernel15Ideal.τ).loc Cert.Kernel15Ideal.main_arg43) = m ((c.tc : Thread Cert.Kernel15Ideal.nD Cert.Kernel15Ideal.τ).loc Cert.Kernel15Ideal.main_arg43))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v119) = v4 c
          ∧ r.2.mem ((c.tc : Thread Cert.Reference15Ideal.nD Cert.Reference15Ideal.τ).loc Cert.Reference15Ideal.main_v143) = v5 c
          ∧ r.2.mem ((c.tc : Thread Cert.Reference15Ideal.nD Cert.Reference15Ideal.τ).loc Cert.Reference15Ideal.main_v167) = v6 c
          ∧ r.2.mem ((c.tc : Thread Cert.Reference15Ideal.nD Cert.Reference15Ideal.τ).loc Cert.Reference15Ideal.main_v191) = v7 c
          ∧ r.2.mem ((c.tc : Thread Cert.Reference15Ideal.nD Cert.Reference15Ideal.τ).loc Cert.Reference15Ideal.main_v215) = v8 c
          ∧ r.2.mem ((c.tc : Thread Cert.Reference15Ideal.nD Cert.Reference15Ideal.τ).loc Cert.Reference15Ideal.main_v239) = v9 c
          ∧ r.2.mem ((c.tc : Thread Cert.Reference15Ideal.nD Cert.Reference15Ideal.τ).loc Cert.Reference15Ideal.main_v263) = v10 c
          ∧ r.2.mem ((c.tc : Thread Cert.Reference15Ideal.nD Cert.Reference15Ideal.τ).loc Cert.Reference15Ideal.main_v4) = v11 c
          ∧ r.2.mem ((c.tc : Thread Cert.Reference15Ideal.nD Cert.Reference15Ideal.τ).loc Cert.Reference15Ideal.main_v28) = v12 c
          ∧ r.2.mem ((c.tc : Thread Cert.Reference15Ideal.nD Cert.Reference15Ideal.τ).loc Cert.Reference15Ideal.main_v52) = v13 c
          ∧ r.2.mem ((c.tc : Thread Cert.Reference15Ideal.nD Cert.Reference15Ideal.τ).loc Cert.Reference15Ideal.main_v76) = v14 c
          ∧ r.2.mem ((c.tc : Thread Cert.Reference15Ideal.nD Cert.Reference15Ideal.τ).loc Cert.Reference15Ideal.main_v100) = v15 c
          ∧ r.2.mem ((c.tc : Thread Cert.Reference15Ideal.nD Cert.Reference15Ideal.τ).loc Cert.Reference15Ideal.main_v124) = v16 c
          ∧ r.2.mem ((c.tc : Thread Cert.Reference15Ideal.nD Cert.Reference15Ideal.τ).loc Cert.Reference15Ideal.main_v148) = v17 c
          ∧ r.2.mem ((c.tc : Thread Cert.Reference15Ideal.nD Cert.Reference15Ideal.τ).loc Cert.Reference15Ideal.main_v172) = v18 c
          ∧ r.2.mem ((c.tc : Thread Cert.Reference15Ideal.nD Cert.Reference15Ideal.τ).loc Cert.Reference15Ideal.main_v196) = v19 c
          ∧ r.2.mem ((c.tc : Thread Cert.Reference15Ideal.nD Cert.Reference15Ideal.τ).loc Cert.Reference15Ideal.main_v220) = v20 c
          ∧ r.2.mem ((c.tc : Thread Cert.Reference15Ideal.nD Cert.Reference15Ideal.τ).loc Cert.Reference15Ideal.main_v244) = v21 c
          ∧ r.2.mem ((c.tc : Thread Cert.Reference15Ideal.nD Cert.Reference15Ideal.τ).loc Cert.Reference15Ideal.main_v10) = v22 c
          ∧ r.2.mem ((c.tc : Thread Cert.Reference15Ideal.nD Cert.Reference15Ideal.τ).loc Cert.Reference15Ideal.main_v34) = v23 c
          ∧ r.2.mem ((c.tc : Thread Cert.Reference15Ideal.nD Cert.Reference15Ideal.τ).loc Cert.Reference15Ideal.main_v58) = v24 c
          ∧ r.2.mem ((c.tc : Thread Cert.Reference15Ideal.nD Cert.Reference15Ideal.τ).loc Cert.Reference15Ideal.main_v82) = v25 c
          ∧ r.2.mem ((c.tc : Thread Cert.Reference15Ideal.nD Cert.Reference15Ideal.τ).loc Cert.Reference15Ideal.main_v106) = v26 c
          ∧ r.2.mem ((c.tc : Thread Cert.Reference15Ideal.nD Cert.Reference15Ideal.τ).loc Cert.Reference15Ideal.main_v130) = v27 c
          ∧ r.2.mem ((c.tc : Thread Cert.Reference15Ideal.nD Cert.Reference15Ideal.τ).loc Cert.Reference15Ideal.main_v154) = v28 c
          ∧ r.2.mem ((c.tc : Thread Cert.Reference15Ideal.nD Cert.Reference15Ideal.τ).loc Cert.Reference15Ideal.main_v178) = v29 c
          ∧ r.2.mem ((c.tc : Thread Cert.Reference15Ideal.nD Cert.Reference15Ideal.τ).loc Cert.Reference15Ideal.main_v202) = v30 c
          ∧ r.2.mem ((c.tc : Thread Cert.Reference15Ideal.nD Cert.Reference15Ideal.τ).loc Cert.Reference15Ideal.main_v226) = v31 c
          ∧ r.2.mem ((c.tc : Thread Cert.Reference15Ideal.nD Cert.Reference15Ideal.τ).loc Cert.Reference15Ideal.main_v250) = v32 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27)
          ∧ r.2.mem ((c.tc : Thread Cert.Reference15Ideal.nD Cert.Reference15Ideal.τ).loc Cert.Reference15Ideal.main_arg28) = m' ((c.tc : Thread Cert.Reference15Ideal.nD Cert.Reference15Ideal.τ).loc Cert.Reference15Ideal.main_arg28)
          ∧ r.2.mem ((c.tc : Thread Cert.Reference15Ideal.nD Cert.Reference15Ideal.τ).loc Cert.Reference15Ideal.main_arg29) = m' ((c.tc : Thread Cert.Reference15Ideal.nD Cert.Reference15Ideal.τ).loc Cert.Reference15Ideal.main_arg29)
          ∧ r.2.mem ((c.tc : Thread Cert.Reference15Ideal.nD Cert.Reference15Ideal.τ).loc Cert.Reference15Ideal.main_arg30) = m' ((c.tc : Thread Cert.Reference15Ideal.nD Cert.Reference15Ideal.τ).loc Cert.Reference15Ideal.main_arg30)
          ∧ r.2.mem ((c.tc : Thread Cert.Reference15Ideal.nD Cert.Reference15Ideal.τ).loc Cert.Reference15Ideal.main_arg31) = m' ((c.tc : Thread Cert.Reference15Ideal.nD Cert.Reference15Ideal.τ).loc Cert.Reference15Ideal.main_arg31)
          ∧ r.2.mem ((c.tc : Thread Cert.Reference15Ideal.nD Cert.Reference15Ideal.τ).loc Cert.Reference15Ideal.main_arg32) = m' ((c.tc : Thread Cert.Reference15Ideal.nD Cert.Reference15Ideal.τ).loc Cert.Reference15Ideal.main_arg32)
          ∧ r.2.mem ((c.tc : Thread Cert.Reference15Ideal.nD Cert.Reference15Ideal.τ).loc Cert.Reference15Ideal.main_arg33) = m' ((c.tc : Thread Cert.Reference15Ideal.nD Cert.Reference15Ideal.τ).loc Cert.Reference15Ideal.main_arg33)
          ∧ r.2.mem ((c.tc : Thread Cert.Reference15Ideal.nD Cert.Reference15Ideal.τ).loc Cert.Reference15Ideal.main_arg34) = m' ((c.tc : Thread Cert.Reference15Ideal.nD Cert.Reference15Ideal.τ).loc Cert.Reference15Ideal.main_arg34)
          ∧ r.2.mem ((c.tc : Thread Cert.Reference15Ideal.nD Cert.Reference15Ideal.τ).loc Cert.Reference15Ideal.main_arg35) = m' ((c.tc : Thread Cert.Reference15Ideal.nD Cert.Reference15Ideal.τ).loc Cert.Reference15Ideal.main_arg35)
          ∧ r.2.mem ((c.tc : Thread Cert.Reference15Ideal.nD Cert.Reference15Ideal.τ).loc Cert.Reference15Ideal.main_arg36) = m' ((c.tc : Thread Cert.Reference15Ideal.nD Cert.Reference15Ideal.τ).loc Cert.Reference15Ideal.main_arg36)
          ∧ r.2.mem ((c.tc : Thread Cert.Reference15Ideal.nD Cert.Reference15Ideal.τ).loc Cert.Reference15Ideal.main_arg37) = m' ((c.tc : Thread Cert.Reference15Ideal.nD Cert.Reference15Ideal.τ).loc Cert.Reference15Ideal.main_arg37)
          ∧ r.2.mem ((c.tc : Thread Cert.Reference15Ideal.nD Cert.Reference15Ideal.τ).loc Cert.Reference15Ideal.main_arg38) = m' ((c.tc : Thread Cert.Reference15Ideal.nD Cert.Reference15Ideal.τ).loc Cert.Reference15Ideal.main_arg38)
          ∧ r.2.mem ((c.tc : Thread Cert.Reference15Ideal.nD Cert.Reference15Ideal.τ).loc Cert.Reference15Ideal.main_arg39) = m' ((c.tc : Thread Cert.Reference15Ideal.nD Cert.Reference15Ideal.τ).loc Cert.Reference15Ideal.main_arg39)
          ∧ r.2.mem ((c.tc : Thread Cert.Reference15Ideal.nD Cert.Reference15Ideal.τ).loc Cert.Reference15Ideal.main_arg40) = m' ((c.tc : Thread Cert.Reference15Ideal.nD Cert.Reference15Ideal.τ).loc Cert.Reference15Ideal.main_arg40)
          ∧ r.2.mem ((c.tc : Thread Cert.Reference15Ideal.nD Cert.Reference15Ideal.τ).loc Cert.Reference15Ideal.main_arg41) = m' ((c.tc : Thread Cert.Reference15Ideal.nD Cert.Reference15Ideal.τ).loc Cert.Reference15Ideal.main_arg41)
          ∧ r.2.mem ((c.tc : Thread Cert.Reference15Ideal.nD Cert.Reference15Ideal.τ).loc Cert.Reference15Ideal.main_arg42) = m' ((c.tc : Thread Cert.Reference15Ideal.nD Cert.Reference15Ideal.τ).loc Cert.Reference15Ideal.main_arg42)
          ∧ r.2.mem ((c.tc : Thread Cert.Reference15Ideal.nD Cert.Reference15Ideal.τ).loc Cert.Reference15Ideal.main_arg43) = m' ((c.tc : Thread Cert.Reference15Ideal.nD Cert.Reference15Ideal.τ).loc Cert.Reference15Ideal.main_arg43))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S8192x2048 .f32) (main_arg2 : FVec F S2048 .f32) (main_arg3 : FVec F S2048 .f32) : IVec S8192x2048 1 × IVec S8192x2048 1 × IVec S2048 1 × IVec S2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  (main_v2, main_v5, main_v8, main_v11)
-- ==== Kernel.lean ====
abbrev S8192x2048 : Shape := ⟨2, ![8192, 2048]⟩
abbrev S8192x4096 : Shape := ⟨2, ![8192, 4096]⟩
abbrev S31x2048 : Shape := ⟨2, ![31, 2048]⟩
abbrev S_ : Shape := ⟨0, ![]⟩
abbrev S1x4096 : Shape := ⟨2, ![1, 4096]⟩
abbrev S128x2048 : Shape := ⟨2, ![128, 2048]⟩
abbrev S32x2048 : Shape := ⟨2, ![32, 2048]⟩
abbrev S128x4096 : Shape := ⟨2, ![128, 4096]⟩
abbrev S160x2048 : Shape := ⟨2, ![160, 2048]⟩
abbrev S31x8x2048 : Shape := ⟨3, ![31, 8, 2048]⟩
abbrev S8x4096 : Shape := ⟨2, ![8, 4096]⟩
abbrev S7x152x2048 : Shape := ⟨3, ![7, 152, 2048]⟩
abbrev S152x2048 : Shape := ⟨2, ![152, 2048]⟩
abbrev S1x152x2048 : Shape := ⟨3, ![1, 152, 2048]⟩
abbrev S64x256 : Shape := ⟨2, ![64, 256]⟩
abbrev S1x256 : Shape := ⟨2, ![1, 256]⟩
abbrev S1x64x256 : Shape := ⟨3, ![1, 64, 256]⟩
abbrev S1x8x256 : Shape := ⟨3, ![1, 8, 256]⟩
abbrev S8x256 : Shape := ⟨2, ![8, 256]⟩
abbrev S8x8x256 : Shape := ⟨3, ![8, 8, 256]⟩
abbrev S8x2048 : Shape := ⟨2, ![8, 2048]⟩
abbrev S16x8x2048 : Shape := ⟨3, ![16, 8, 2048]⟩
abbrev S4096 : Shape := ⟨1, ![4096]⟩

abbrev nBuf : Space → Nat
  | .hbm => 17
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S31x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x4096, .bf16⟩
  | .hbm, ⟨15, _⟩ => ⟨S1x4096, .f32⟩
  | .hbm, ⟨16, _⟩ => ⟨S31x2048, .f32⟩
  | .local _ .vmem, ⟨0, _⟩ => ⟨S128x2048, .f32⟩
  | .local _ .vmem, ⟨1, _⟩ => ⟨S128x2048, .f32⟩
  | .local _ .vmem, ⟨2, _⟩ => ⟨S32x2048, .f32⟩
  | .local _ .vmem, ⟨3, _⟩ => ⟨S32x2048, .f32⟩
  | .local _ .vmem, ⟨4, _⟩ => ⟨S128x2048, .f32⟩
  | .local _ .vmem, ⟨5, _⟩ => ⟨S128x2048, .f32⟩
  | .local _ .vmem, ⟨6, _⟩ => ⟨S32x2048, .f32⟩
  | .local _ .vmem, ⟨7, _⟩ => ⟨S32x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S31x2048, .f32⟩
  | .local _ .vmem, ⟨13, _⟩ => ⟨S128x4096, .bf16⟩
  | .local _ .vmem, ⟨14, _⟩ => ⟨S128x4096, .bf16⟩
  | .local _ .vmem, ⟨15, _⟩ => ⟨S1x4096, .f32⟩
  | .local _ .vmem, ⟨16, _⟩ => ⟨S31x2048, .f32⟩
  | .local _ .vmem, ⟨17, _⟩ => ⟨S160x2048, .f32⟩
  | .local _ .vmem, ⟨18, _⟩ => ⟨S160x2048, .f32⟩
  | .local _ .vmem, ⟨19, _⟩ => ⟨S128x2048, .f32⟩
  | .local _ .vmem, ⟨20, _⟩ => ⟨S31x8x2048, .f32⟩
  | .local _ .vmem, ⟨21, _⟩ => ⟨S8x4096, .f32⟩
  | .local _ .vmem, ⟨22, _⟩ => ⟨S7x152x2048, .f32⟩
  | .local _ .vmem, ⟨23, _⟩ => ⟨S7x152x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![64], ![false]⟩

def k0_off1 (i : grid0.Coords) (c0_i32_18 : BitVec 32) : Fin 3 → Nat :=
  let arg0 : BitVec 32 := BitVec.ofNat 32 (i 0).val
  let c0_i32_16 : BitVec 32 := 0#32
  let v27 : BitVec 32 := Scalar.minsi arg0 c0_i32_16
  let v29 : BitVec 32 := Scalar.addi v27 c0_i32_18
  let v30 : Index := Scalar.indexCast v29
  let c0_19 : Index := 0#32
  let c0_20 : Index := 0#32
  ![v30.toNat, 0, 0]
def k0_cond2 (i : grid0.Coords) : BitVec 1 :=
  let arg0 : BitVec 32 := BitVec.ofNat 32 (i 0).val
  let c63_i32_7455 : BitVec 32 := 63#32
  let v8531 : BitVec 1 := Scalar.cmpi .eq arg0 c63_i32_7455
  let v8532 : BitVec 32 := Scalar.extui v8531
  let c0_i32_7456 : BitVec 32 := 0#32
  let v8533 : BitVec 1 := Scalar.cmpi .ne v8532 c0_i32_7456
  v8533

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S31x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x2048 : Shape := ⟨2, ![8192, 2048]⟩
abbrev S8192x4096 : Shape := ⟨2, ![8192, 4096]⟩
abbrev S31x2048 : Shape := ⟨2, ![31, 2048]⟩
abbrev S_ : Shape := ⟨0, ![]⟩
abbrev S30x2048 : Shape := ⟨2, ![30, 2048]⟩
abbrev S8222x2048 : Shape := ⟨2, ![8222, 2048]⟩
abbrev S1x2048 : Shape := ⟨2, ![1, 2048]⟩
abbrev S2048 : Shape := ⟨1, ![2048]⟩
abbrev S4096 : Shape := ⟨1, ![4096]⟩
abbrev S1x4096 : Shape := ⟨2, ![1, 4096]⟩

abbrev nBuf : Space → Nat
  | .hbm => 559
  | .vmem => 0
  | .smem => 0
  | _ => 0

abbrev hbmTy0_0 (i : Nat) : BufTy := match i % 128 with
  | 0 => ⟨S8192x2048, .f32⟩
  | 1 => ⟨S8192x4096, .f32⟩
  | 2 => ⟨S31x2048, .f32⟩
  | 3 => ⟨S8192x2048, .f32⟩
  | 4 => ⟨S8192x2048, .f32⟩
  | 5 => ⟨S8192x2048, .f32⟩
  | 6 => ⟨S8192x2048, .f32⟩
  | 7 => ⟨S_, .f32⟩
  | 8 => ⟨S8192x2048, .f32⟩
  | 9 => ⟨S8192x2048, .f32⟩
  | 10 => ⟨S_, .f32⟩
  | 11 => ⟨S8192x2048, .f32⟩
  | 12 => ⟨S8192x2048, .f32⟩
  | 13 => ⟨S_, .f32⟩
  | 14 => ⟨S8192x2048, .f32⟩
  | 15 => ⟨S8192x2048, .f32⟩
  | 16 => ⟨S8192x2048, .f32⟩
  | 17 => ⟨S8192x2048, .f32⟩
  | 18 => ⟨S_, .f32⟩
  | 19 => ⟨S30x2048, .f32⟩
  | 20 => ⟨S8222x2048, .f32⟩
  | 21 => ⟨S_, .f32⟩
  | 22 => ⟨S30x2048, .f32⟩
  | 23 => ⟨S8192x2048, .f32⟩
  | 24 => ⟨S1x2048, .f32⟩
  | 25 => ⟨S8192x2048, .f32⟩
  | 26 => ⟨S8192x2048, .f32⟩
  | 27 => ⟨S8192x2048, .f32⟩
  | 28 => ⟨S1x2048, .f32⟩
  | 29 => ⟨S8192x2048, .f32⟩
  | 30 => ⟨S8192x2048, .f32⟩
  | 31 => ⟨S8192x2048, .f32⟩
  | 32 => ⟨S8192x2048, .f32⟩
  | 33 => ⟨S1x2048, .f32⟩
  | 34 => ⟨S8192x2048, .f32⟩
  | 35 => ⟨S8192x2048, .f32⟩
  | 36 => ⟨S8192x2048, .f32⟩
  | 37 => ⟨S8192x2048, .f32⟩
  | 38 => ⟨S1x2048, .f32⟩
  | 39 => ⟨S8192x2048, .f32⟩
  | 40 => ⟨S8192x2048, .f32⟩
  | 41 => ⟨S8192x2048, .f32⟩
  | 42 => ⟨S8192x2048, .f32⟩
  | 43 => ⟨S1x2048, .f32⟩
  | 44 => ⟨S8192x2048, .f32⟩
  | 45 => ⟨S8192x2048, .f32⟩
  | 46 => ⟨S8192x2048, .f32⟩
  | 47 => ⟨S8192x2048, .f32⟩
  | 48 => ⟨S1x2048, .f32⟩
  | 49 => ⟨S8192x2048, .f32⟩
  | 50 => ⟨S8192x2048, .f32⟩
  | 51 => ⟨S8192x2048, .f32⟩
  | 52 => ⟨S8192x2048, .f32⟩
  | 53 => ⟨S1x2048, .f32⟩
  | 54 => ⟨S8192x2048, .f32⟩
  | 55 => ⟨S8192x2048, .f32⟩
  | 56 => ⟨S8192x2048, .f32⟩
  | 57 => ⟨S8192x2048, .f32⟩
  | 58 => ⟨S1x2048, .f32⟩
  | 59 => ⟨S8192x2048, .f32⟩
  | 60 => ⟨S8192x2048, .f32⟩
  | 61 => ⟨S8192x2048, .f32⟩
  | 62 => ⟨S8192x2048, .f32⟩
  | 63 => ⟨S1x2048, .f32⟩
  | 64 => ⟨S8192x2048, .f32⟩
  | 65 => ⟨S8192x2048, .f32⟩
  | 66 => ⟨S8192x2048, .f32⟩
  | 67 => ⟨S8192x2048, .f32⟩
  | 68 => ⟨S1x2048, .f32⟩
  | 69 => ⟨S8192x2048, .f32⟩
  | 70 => ⟨S8192x2048, .f32⟩
  | 71 => ⟨S8192x2048, .f32⟩
  | 72 => ⟨S8192x2048, .f32⟩
  | 73 => ⟨S1x2048, .f32⟩
  | 74 => ⟨S8192x2048, .f32⟩
  | 75 => ⟨S8192x2048, .f32⟩
  | 76 => ⟨S8192x2048, .f32⟩
  | 77 => ⟨S8192x2048, .f32⟩
  | 78 => ⟨S1x2048, .f32⟩
  | 79 => ⟨S8192x2048, .f32⟩
  | 80 => ⟨S8192x2048, .f32⟩
  | 81 => ⟨S8192x2048, .f32⟩
  | 82 => ⟨S8192x2048, .f32⟩
  | 83 => ⟨S1x2048, .f32⟩
  | 84 => ⟨S8192x2048, .f32⟩
  | 85 => ⟨S8192x2048, .f32⟩
  | 86 => ⟨S8192x2048, .f32⟩
  | 87 => ⟨S8192x2048, .f32⟩
  | 88 => ⟨S1x2048, .f32⟩
  | 89 => ⟨S8192x2048, .f32⟩
  | 90 => ⟨S8192x2048, .f32⟩
  | 91 => ⟨S8192x2048, .f32⟩
  | 92 => ⟨S8192x2048, .f32⟩
  | 93 => ⟨S1x2048, .f32⟩
  | 94 => ⟨S8192x2048, .f32⟩
  | 95 => ⟨S8192x2048, .f32⟩
  | 96 => ⟨S8192x2048, .f32⟩
  | 97 => ⟨S8192x2048, .f32⟩
  | 98 => ⟨S1x2048, .f32⟩
  | 99 => ⟨S8192x2048, .f32⟩
  | 100 => ⟨S8192x2048, .f32⟩
  | 101 => ⟨S8192x2048, .f32⟩
  | 102 => ⟨S8192x2048, .f32⟩
  | 103 => ⟨S1x2048, .f32⟩
  | 104 => ⟨S8192x2048, .f32⟩
  | 105 => ⟨S8192x2048, .f32⟩
  | 106 => ⟨S8192x2048, .f32⟩
  | 107 => ⟨S8192x2048, .f32⟩
  | 108 => ⟨S1x2048, .f32⟩
  | 109 => ⟨S8192x2048, .f32⟩
  | 110 => ⟨S8192x2048, .f32⟩
  | 111 => ⟨S8192x2048, .f32⟩
  | 112 => ⟨S8192x2048, .f32⟩
  | 113 => ⟨S1x2048, .f32⟩
  | 114 => ⟨S8192x2048, .f32⟩
  | 115 => ⟨S8192x2048, .f32⟩
  | 116 => ⟨S8192x2048, .f32⟩
  | 117 => ⟨S8192x2048, .f32⟩
  | 118 => ⟨S1x2048, .f32⟩
  | 119 => ⟨S8192x2048, .f32⟩
  | 120 => ⟨S8192x2048, .f32⟩
  | 121 => ⟨S8192x2048, .f32⟩
  | 122 => ⟨S8192x2048, .f32⟩
  | 123 => ⟨S1x2048, .f32⟩
  | 124 => ⟨S8192x2048, .f32⟩
  | 125 => ⟨S8192x2048, .f32⟩
  | 126 => ⟨S8192x2048, .f32⟩
  | 127 => ⟨S8192x2048, .f32⟩
  | _ => ⟨S8192x2048, .f32⟩

abbrev hbmTy0_1 (i : Nat) : BufTy := match i % 128 with
  | 0 => ⟨S1x2048, .f32⟩
  | 1 => ⟨S8192x2048, .f32⟩
  | 2 => ⟨S8192x2048, .f32⟩
  | 3 => ⟨S8192x2048, .f32⟩
  | 4 => ⟨S8192x2048, .f32⟩
  | 5 => ⟨S1x2048, .f32⟩
  | 6 => ⟨S8192x2048, .f32⟩
  | 7 => ⟨S8192x2048, .f32⟩
  | 8 => ⟨S8192x2048, .f32⟩
  | 9 => ⟨S8192x2048, .f32⟩
  | 10 => ⟨S1x2048, .f32⟩
  | 11 => ⟨S8192x2048, .f32⟩
  | 12 => ⟨S8192x2048, .f32⟩
  | 13 => ⟨S8192x2048, .f32⟩
  | 14 => ⟨S8192x2048, .f32⟩
  | 15 => ⟨S1x2048, .f32⟩
  | 16 => ⟨S8192x2048, .f32⟩
  | 17 => ⟨S8192x2048, .f32⟩
  | 18 => ⟨S8192x2048, .f32⟩
  | 19 => ⟨S8192x2048, .f32⟩
  | 20 => ⟨S1x2048, .f32⟩
  | 21 => ⟨S8192x2048, .f32⟩
  | 22 => ⟨S8192x2048, .f32⟩
  | 23 => ⟨S8192x2048, .f32⟩
  | 24 => ⟨S8192x2048, .f32⟩
  | 25 => ⟨S1x2048, .f32⟩
  | 26 => ⟨S8192x2048, .f32⟩
  | 27 => ⟨S8192x2048, .f32⟩
  | 28 => ⟨S8192x2048, .f32⟩
  | 29 => ⟨S8192x2048, .f32⟩
  | 30 => ⟨S1x2048, .f32⟩
  | 31 => ⟨S8192x2048, .f32⟩
  | 32 => ⟨S8192x2048, .f32⟩
  | 33 => ⟨S8192x2048, .f32⟩
  | 34 => ⟨S8192x2048, .f32⟩
  | 35 => ⟨S1x2048, .f32⟩
  | 36 => ⟨S8192x2048, .f32⟩
  | 37 => ⟨S8192x2048, .f32⟩
  | 38 => ⟨S8192x2048, .f32⟩
  | 39 => ⟨S8192x2048, .f32⟩
  | 40 => ⟨S1x2048, .f32⟩
  | 41 => ⟨S8192x2048, .f32⟩
  | 42 => ⟨S8192x2048, .f32⟩
  | 43 => ⟨S8192x2048, .f32⟩
  | 44 => ⟨S8192x2048, .f32⟩
  | 45 => ⟨S1x2048, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S_, .f32⟩
  | 53 => ⟨S2048, .f32⟩
  | 54 => ⟨S1x2048, .f32⟩
  | 55 => ⟨S8192x2048, .f32⟩
  | 56 => ⟨S8192x2048, .f32⟩
  | 57 => ⟨S_, .f32⟩
  | 58 => ⟨S31x2048, .f32⟩
  | 59 => ⟨S_, .f32⟩
  | 60 => ⟨S8222x2048, .f32⟩
  | 61 => ⟨S8192x2048, .f32⟩
  | 62 => ⟨S_, .f32⟩
  | 63 => ⟨S2048, .f32⟩
  | 64 => ⟨S1x2048, .f32⟩
  | 65 => ⟨S8192x2048, .f32⟩
  | 66 => ⟨S8192x2048, .f32⟩
  | 67 => ⟨S_, .f32⟩
  | 68 => ⟨S31x2048, .f32⟩
  | 69 => ⟨S31x2048, .f32⟩
  | 70 => ⟨S_, .f32⟩
  | 71 => ⟨S8222x2048, .f32⟩
  | 72 => ⟨S8222x2048, .f32⟩
  | 73 => ⟨S8192x2048, .f32⟩
  | 74 => ⟨S_, .f32⟩
  | 75 => ⟨S2048, .f32⟩
  | 76 => ⟨S1x2048, .f32⟩
  | 77 => ⟨S8192x2048, .f32⟩
  | 78 => ⟨S8192x2048, .f32⟩
  | 79 => ⟨S_, .f32⟩
  | 80 => ⟨S31x2048, .f32⟩
  | 81 => ⟨S31x2048, .f32⟩
  | 82 => ⟨S_, .f32⟩
  | 83 => ⟨S8222x2048, .f32⟩
  | 84 => ⟨S8222x2048, .f32⟩
  | 85 => ⟨S8192x2048, .f32⟩
  | 86 => ⟨S_, .f32⟩
  | 87 => ⟨S2048, .f32⟩
  | 88 => ⟨S1x2048, .f32⟩
  | 89 => ⟨S8192x2048, .f32⟩
  | 90 => ⟨S8192x2048, .f32⟩
  | 91 => ⟨S_, .f32⟩
  | 92 => ⟨S31x2048, .f32⟩
  | 93 => ⟨S31x2048, .f32⟩
  | 94 => ⟨S_, .f32⟩
  | 95 => ⟨S8222x2048, .f32⟩
  | 96 => ⟨S8222x2048, .f32⟩
  | 97 => ⟨S8192x2048, .f32⟩
  | 98 => ⟨S_, .f32⟩
  | 99 => ⟨S2048, .f32⟩
  | 100 => ⟨S1x2048, .f32⟩
  | 101 => ⟨S8192x2048, .f32⟩
  | 102 => ⟨S8192x2048, .f32⟩
  | 103 => ⟨S_, .f32⟩
  | 104 => ⟨S31x2048, .f32⟩
  | 105 => ⟨S31x2048, .f32⟩
  | 106 => ⟨S_, .f32⟩
  | 107 => ⟨S8222x2048, .f32⟩
  | 108 => ⟨S8222x2048, .f32⟩
  | 109 => ⟨S8192x2048, .f32⟩
  | 110 => ⟨S_, .f32⟩
  | 111 => ⟨S2048, .f32⟩
  | 112 => ⟨S1x2048, .f32⟩
  | 113 => ⟨S8192x2048, .f32⟩
  | 114 => ⟨S8192x2048, .f32⟩
  | 115 => ⟨S_, .f32⟩
  | 116 => ⟨S31x2048, .f32⟩
  | 117 => ⟨S31x2048, .f32⟩
  | 118 => ⟨S_, .f32⟩
  | 119 => ⟨S8222x2048, .f32⟩
  | 120 => ⟨S8222x2048, .f32⟩
  | 121 => ⟨S8192x2048, .f32⟩
  | 122 => ⟨S_, .f32⟩
  | 123 => ⟨S2048, .f32⟩
  | 124 => ⟨S1x2048, .f32⟩
  | 125 => ⟨S8192x2048, .f32⟩
  | 126 => ⟨S8192x2048, .f32⟩
  | 127 => ⟨S_, .f32⟩
  | _ => ⟨S8192x2048, .f32⟩

abbrev hbmTy0_2 (i : Nat) : BufTy := match i % 128 with
  | 0 => ⟨S31x2048, .f32⟩
  | 1 => ⟨S31x2048, .f32⟩
  | 2 => ⟨S_, .f32⟩
  | 3 => ⟨S8222x2048, .f32⟩
  | 4 => ⟨S8222x2048, .f32⟩
  | 5 => ⟨S8192x2048, .f32⟩
  | 6 => ⟨S_, .f32⟩
  | 7 => ⟨S2048, .f32⟩
  | 8 => ⟨S1x2048, .f32⟩
  | 9 => ⟨S8192x2048, .f32⟩
  | 10 => ⟨S8192x2048, .f32⟩
  | 11 => ⟨S_, .f32⟩
  | 12 => ⟨S31x2048, .f32⟩
  | 13 => ⟨S31x2048, .f32⟩
  | 14 => ⟨S_, .f32⟩
  | 15 => ⟨S8222x2048, .f32⟩
  | 16 => ⟨S8222x2048, .f32⟩
  | 17 => ⟨S8192x2048, .f32⟩
  | 18 => ⟨S_, .f32⟩
  | 19 => ⟨S2048, .f32⟩
  | 20 => ⟨S1x2048, .f32⟩
  | 21 => ⟨S8192x2048, .f32⟩
  | 22 => ⟨S8192x2048, .f32⟩
  | 23 => ⟨S_, .f32⟩
  | 24 => ⟨S31x2048, .f32⟩
  | 25 => ⟨S31x2048, .f32⟩
  | 26 => ⟨S_, .f32⟩
  | 27 => ⟨S8222x2048, .f32⟩
  | 28 => ⟨S8222x2048, .f32⟩
  | 29 => ⟨S8192x2048, .f32⟩
  | 30 => ⟨S_, .f32⟩
  | 31 => ⟨S2048, .f32⟩
  | 32 => ⟨S1x2048, .f32⟩
  | 33 => ⟨S8192x2048, .f32⟩
  | 34 => ⟨S8192x2048, .f32⟩
  | 35 => ⟨S_, .f32⟩
  | 36 => ⟨S31x2048, .f32⟩
  | 37 => ⟨S31x2048, .f32⟩
  | 38 => ⟨S_, .f32⟩
  | 39 => ⟨S8222x2048, .f32⟩
  | 40 => ⟨S8222x2048, .f32⟩
  | 41 => ⟨S8192x2048, .f32⟩
  | 42 => ⟨S_, .f32⟩
  | 43 => ⟨S2048, .f32⟩
  | 44 => ⟨S1x2048, .f32⟩
  | 45 => ⟨S8192x2048, .f32⟩
  | 46 => ⟨S8192x2048, .f32⟩
  | 47 => ⟨S_, .f32⟩
  | 48 => ⟨S31x2048, .f32⟩
  | 49 => ⟨S31x2048, .f32⟩
  | 50 => ⟨S_, .f32⟩
  | 51 => ⟨S8222x2048, .f32⟩
  | 52 => ⟨S8222x2048, .f32⟩
  | 53 => ⟨S8192x2048, .f32⟩
  | 54 => ⟨S_, .f32⟩
  | 55 => ⟨S2048, .f32⟩
  | 56 => ⟨S1x2048, .f32⟩
  | 57 => ⟨S8192x2048, .f32⟩
  | 58 => ⟨S8192x2048, .f32⟩
  | 59 => ⟨S_, .f32⟩
  | 60 => ⟨S31x2048, .f32⟩
  | 61 => ⟨S31x2048, .f32⟩
  | 62 => ⟨S_, .f32⟩
  | 63 => ⟨S8222x2048, .f32⟩
  | 64 => ⟨S8222x2048, .f32⟩
  | 65 => ⟨S8192x2048, .f32⟩
  | 66 => ⟨S_, .f32⟩
  | 67 => ⟨S2048, .f32⟩
  | 68 => ⟨S1x2048, .f32⟩
  | 69 => ⟨S8192x2048, .f32⟩
  | 70 => ⟨S8192x2048, .f32⟩
  | 71 => ⟨S_, .f32⟩
  | 72 => ⟨S31x2048, .f32⟩
  | 73 => ⟨S31x2048, .f32⟩
  | 74 => ⟨S_, .f32⟩
  | 75 => ⟨S8222x2048, .f32⟩
  | 76 => ⟨S8222x2048, .f32⟩
  | 77 => ⟨S8192x2048, .f32⟩
  | 78 => ⟨S_, .f32⟩
  | 79 => ⟨S2048, .f32⟩
  | 80 => ⟨S1x2048, .f32⟩
  | 81 => ⟨S8192x2048, .f32⟩
  | 82 => ⟨S8192x2048, .f32⟩
  | 83 => ⟨S_, .f32⟩
  | 84 => ⟨S31x2048, .f32⟩
  | 85 => ⟨S31x2048, .f32⟩
  | 86 => ⟨S_, .f32⟩
  | 87 => ⟨S8222x2048, .f32⟩
  | 88 => ⟨S8222x2048, .f32⟩
  | 89 => ⟨S8192x2048, .f32⟩
  | 90 => ⟨S_, .f32⟩
  | 91 => ⟨S2048, .f32⟩
  | 92 => ⟨S1x2048, .f32⟩
  | 93 => ⟨S8192x2048, .f32⟩
  | 94 => ⟨S8192x2048, .f32⟩
  | 95 => ⟨S_, .f32⟩
  | 96 => ⟨S31x2048, .f32⟩
  | 97 => ⟨S31x2048, .f32⟩
  | 98 => ⟨S_, .f32⟩
  | 99 => ⟨S8222x2048, .f32⟩
  | 100 => ⟨S8222x2048, .f32⟩
  | 101 => ⟨S8192x2048, .f32⟩
  | 102 => ⟨S_, .f32⟩
  | 103 => ⟨S2048, .f32⟩
  | 104 => ⟨S1x2048, .f32⟩
  | 105 => ⟨S8192x2048, .f32⟩
  | 106 => ⟨S8192x2048, .f32⟩
  | 107 => ⟨S_, .f32⟩
  | 108 => ⟨S31x2048, .f32⟩
  | 109 => ⟨S31x2048, .f32⟩
  | 110 => ⟨S_, .f32⟩
  | 111 => ⟨S8222x2048, .f32⟩
  | 112 => ⟨S8222x2048, .f32⟩
  | 113 => ⟨S8192x2048, .f32⟩
  | 114 => ⟨S_, .f32⟩
  | 115 => ⟨S2048, .f32⟩
  | 116 => ⟨S1x2048, .f32⟩
  | 117 => ⟨S8192x2048, .f32⟩
  | 118 => ⟨S8192x2048, .f32⟩
  | 119 => ⟨S_, .f32⟩
  | 120 => ⟨S31x2048, .f32⟩
  | 121 => ⟨S31x2048, .f32⟩
  | 122 => ⟨S_, .f32⟩
  | 123 => ⟨S8222x2048, .f32⟩
  | 124 => ⟨S8222x2048, .f32⟩
  | 125 => ⟨S8192x2048, .f32⟩
  | 126 => ⟨S_, .f32⟩
  | 127 => ⟨S2048, .f32⟩
  | _ => ⟨S8192x2048, .f32⟩

abbrev hbmTy0_3 (i : Nat) : BufTy := match i % 128 with
  | 0 => ⟨S1x2048, .f32⟩
  | 1 => ⟨S8192x2048, .f32⟩
  | 2 => ⟨S8192x2048, .f32⟩
  | 3 => ⟨S_, .f32⟩
  | 4 => ⟨S31x2048, .f32⟩
  | 5 => ⟨S31x2048, .f32⟩
  | 6 => ⟨S_, .f32⟩
  | 7 => ⟨S8222x2048, .f32⟩
  | 8 => ⟨S8222x2048, .f32⟩
  | 9 => ⟨S8192x2048, .f32⟩
  | 10 => ⟨S_, .f32⟩
  | 11 => ⟨S2048, .f32⟩
  | 12 => ⟨S1x2048, .f32⟩
  | 13 => ⟨S8192x2048, .f32⟩
  | 14 => ⟨S8192x2048, .f32⟩
  | 15 => ⟨S_, .f32⟩
  | 16 => ⟨S31x2048, .f32⟩
  | 17 => ⟨S31x2048, .f32⟩
  | 18 => ⟨S_, .f32⟩
  | 19 => ⟨S8222x2048, .f32⟩
  | 20 => ⟨S8222x2048, .f32⟩
  | 21 => ⟨S8192x2048, .f32⟩
  | 22 => ⟨S_, .f32⟩
  | 23 => ⟨S2048, .f32⟩
  | 24 => ⟨S1x2048, .f32⟩
  | 25 => ⟨S8192x2048, .f32⟩
  | 26 => ⟨S8192x2048, .f32⟩
  | 27 => ⟨S_, .f32⟩
  | 28 => ⟨S31x2048, .f32⟩
  | 29 => ⟨S31x2048, .f32⟩
  | 30 => ⟨S_, .f32⟩
  | 31 => ⟨S8222x2048, .f32⟩
  | 32 => ⟨S8222x2048, .f32⟩
  | 33 => ⟨S8192x2048, .f32⟩
  | 34 => ⟨S_, .f32⟩
  | 35 => ⟨S2048, .f32⟩
  | 36 => ⟨S1x2048, .f32⟩
  | 37 => ⟨S8192x2048, .f32⟩
  | 38 => ⟨S8192x2048, .f32⟩
  | 39 => ⟨S_, .f32⟩
  | 40 => ⟨S31x2048, .f32⟩
  | 41 => ⟨S31x2048, .f32⟩
  | 42 => ⟨S_, .f32⟩
  | 43 => ⟨S8222x2048, .f32⟩
  | 44 => ⟨S8222x2048, .f32⟩
  | 45 => ⟨S8192x2048, .f32⟩
  | 46 => ⟨S_, .f32⟩
  | 47 => ⟨S2048, .f32⟩
  | 48 => ⟨S1x2048, .f32⟩
  | 49 => ⟨S8192x2048, .f32⟩
  | 50 => ⟨S8192x2048, .f32⟩
  | 51 => ⟨S_, .f32⟩
  | 52 => ⟨S31x2048, .f32⟩
  | 53 => ⟨S31x2048, .f32⟩
  | 54 => ⟨S_, .f32⟩
  | 55 => ⟨S8222x2048, .f32⟩
  | 56 => ⟨S8222x2048, .f32⟩
  | 57 => ⟨S8192x2048, .f32⟩
  | 58 => ⟨S_, .f32⟩
  | 59 => ⟨S2048, .f32⟩
  | 60 => ⟨S1x2048, .f32⟩
  | 61 => ⟨S8192x2048, .f32⟩
  | 62 => ⟨S8192x2048, .f32⟩
  | 63 => ⟨S_, .f32⟩
  | 64 => ⟨S31x2048, .f32⟩
  | 65 => ⟨S31x2048, .f32⟩
  | 66 => ⟨S_, .f32⟩
  | 67 => ⟨S8222x2048, .f32⟩
  | 68 => ⟨S8222x2048, .f32⟩
  | 69 => ⟨S8192x2048, .f32⟩
  | 70 => ⟨S_, .f32⟩
  | 71 => ⟨S2048, .f32⟩
  | 72 => ⟨S1x2048, .f32⟩
  | 73 => ⟨S8192x2048, .f32⟩
  | 74 => ⟨S8192x2048, .f32⟩
  | 75 => ⟨S_, .f32⟩
  | 76 => ⟨S31x2048, .f32⟩
  | 77 => ⟨S31x2048, .f32⟩
  | 78 => ⟨S_, .f32⟩
  | 79 => ⟨S8222x2048, .f32⟩
  | 80 => ⟨S8222x2048, .f32⟩
  | 81 => ⟨S8192x2048, .f32⟩
  | 82 => ⟨S_, .f32⟩
  | 83 => ⟨S2048, .f32⟩
  | 84 => ⟨S1x2048, .f32⟩
  | 85 => ⟨S8192x2048, .f32⟩
  | 86 => ⟨S8192x2048, .f32⟩
  | 87 => ⟨S_, .f32⟩
  | 88 => ⟨S31x2048, .f32⟩
  | 89 => ⟨S31x2048, .f32⟩
  | 90 => ⟨S_, .f32⟩
  | 91 => ⟨S8222x2048, .f32⟩
  | 92 => ⟨S8222x2048, .f32⟩
  | 93 => ⟨S8192x2048, .f32⟩
  | 94 => ⟨S_, .f32⟩
  | 95 => ⟨S2048, .f32⟩
  | 96 => ⟨S1x2048, .f32⟩
  | 97 => ⟨S8192x2048, .f32⟩
  | 98 => ⟨S8192x2048, .f32⟩
  | 99 => ⟨S_, .f32⟩
  | 100 => ⟨S31x2048, .f32⟩
  | 101 => ⟨S31x2048, .f32⟩
  | 102 => ⟨S_, .f32⟩
  | 103 => ⟨S8222x2048, .f32⟩
  | 104 => ⟨S8222x2048, .f32⟩
  | 105 => ⟨S8192x2048, .f32⟩
  | 106 => ⟨S_, .f32⟩
  | 107 => ⟨S2048, .f32⟩
  | 108 => ⟨S1x2048, .f32⟩
  | 109 => ⟨S8192x2048, .f32⟩
  | 110 => ⟨S8192x2048, .f32⟩
  | 111 => ⟨S_, .f32⟩
  | 112 => ⟨S31x2048, .f32⟩
  | 113 => ⟨S31x2048, .f32⟩
  | 114 => ⟨S_, .f32⟩
  | 115 => ⟨S8222x2048, .f32⟩
  | 116 => ⟨S8222x2048, .f32⟩
  | 117 => ⟨S8192x2048, .f32⟩
  | 118 => ⟨S_, .f32⟩
  | 119 => ⟨S2048, .f32⟩
  | 120 => ⟨S1x2048, .f32⟩
  | 121 => ⟨S8192x2048, .f32⟩
  | 122 => ⟨S8192x2048, .f32⟩
  | 123 => ⟨S_, .f32⟩
  | 124 => ⟨S31x2048, .f32⟩
  | 125 => ⟨S31x2048, .f32⟩
  | 126 => ⟨S_, .f32⟩
  | 127 => ⟨S8222x2048, .f32⟩
  | _ => ⟨S8192x2048, .f32⟩

abbrev hbmTy0_4 (i : Nat) : BufTy := match i % 128 with
  | 0 => ⟨S8222x2048, .f32⟩
  | 1 => ⟨S8192x2048, .f32⟩
  | 2 => ⟨S_, .f32⟩
  | 3 => ⟨S2048, .f32⟩
  | 4 => ⟨S1x2048, .f32⟩
  | 5 => ⟨S8192x2048, .f32⟩
  | 6 => ⟨S8192x2048, .f32⟩
  | 7 => ⟨S_, .f32⟩
  | 8 => ⟨S31x2048, .f32⟩
  | 9 => ⟨S31x2048, .f32⟩
  | 10 => ⟨S_, .f32⟩
  | 11 => ⟨S8222x2048, .f32⟩
  | 12 => ⟨S8222x2048, .f32⟩
  | 13 => ⟨S8192x2048, .f32⟩
  | 14 => ⟨S_, .f32⟩
  | 15 => ⟨S2048, .f32⟩
  | 16 => ⟨S1x2048, .f32⟩
  | 17 => ⟨S8192x2048, .f32⟩
  | 18 => ⟨S8192x2048, .f32⟩
  | 19 => ⟨S_, .f32⟩
  | 20 => ⟨S31x2048, .f32⟩
  | 21 => ⟨S31x2048, .f32⟩
  | 22 => ⟨S_, .f32⟩
  | 23 => ⟨S8222x2048, .f32⟩
  | 24 => ⟨S8222x2048, .f32⟩
  | 25 => ⟨S8192x2048, .f32⟩
  | 26 => ⟨S_, .f32⟩
  | 27 => ⟨S2048, .f32⟩
  | 28 => ⟨S1x2048, .f32⟩
  | 29 => ⟨S8192x2048, .f32⟩
  | 30 => ⟨S8192x2048, .f32⟩
  | 31 => ⟨S_, .f32⟩
  | 32 => ⟨S31x2048, .f32⟩
  | 33 => ⟨S31x2048, .f32⟩
  | 34 => ⟨S_, .f32⟩
  | 35 => ⟨S8222x2048, .f32⟩
  | 36 => ⟨S8222x2048, .f32⟩
  | 37 => ⟨S30x2048, .f32⟩
  | 38 => ⟨S8192x2048, .f32⟩
  | 39 => ⟨S8192x2048, .f32⟩
  | 40 => ⟨S8192x2048, .f32⟩
  | 41 => ⟨S8192x2048, .f32⟩
  | 42 => ⟨S8192x4096, .f32⟩
  | 43 => ⟨S_, .f32⟩
  | 44 => ⟨S4096, .f32⟩
  | 45 => ⟨S1x4096, .f32⟩
  | 46 => ⟨S8192x4096, .bf16⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_cst_4 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_cst_5 : Ref sig .tc := ⟨.hbm, 185, rfl⟩
abbrev main_v176 : Ref sig .tc := ⟨.hbm, 186, rfl⟩
abbrev main_cst_6 : Ref sig .tc := ⟨.hbm, 187, rfl⟩
abbrev main_v177 : Ref sig .tc := ⟨.hbm, 188, rfl⟩
abbrev main_v178 : Ref sig .tc := ⟨.hbm, 189, rfl⟩
abbrev main_cst_7 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_cst_8 : Ref sig .tc := ⟨.hbm, 195, rfl⟩
abbrev main_v183 : Ref sig .tc := ⟨.hbm, 196, rfl⟩
abbrev main_v184 : Ref sig .tc := ⟨.hbm, 197, rfl⟩
abbrev main_cst_9 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_cst_10 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_cst_11 : Ref sig .tc := ⟨.hbm, 207, rfl⟩
abbrev main_v192 : Ref sig .tc := ⟨.hbm, 208, rfl⟩
abbrev main_v193 : Ref sig .tc := ⟨.hbm, 209, rfl⟩
abbrev main_cst_12 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_cst_13 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_cst_14 : Ref sig .tc := ⟨.hbm, 219, rfl⟩
abbrev main_v201 : Ref sig .tc := ⟨.hbm, 220, rfl⟩
abbrev main_v202 : Ref sig .tc := ⟨.hbm, 221, rfl⟩
abbrev main_cst_15 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_cst_16 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_cst_17 : Ref sig .tc := ⟨.hbm, 231, rfl⟩
abbrev main_v210 : Ref sig .tc := ⟨.hbm, 232, rfl⟩
abbrev main_v211 : Ref sig .tc := ⟨.hbm, 233, rfl⟩
abbrev main_cst_18 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_cst_19 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_cst_20 : Ref sig .tc := ⟨.hbm, 243, rfl⟩
abbrev main_v219 : Ref sig .tc := ⟨.hbm, 244, rfl⟩
abbrev main_v220 : Ref sig .tc := ⟨.hbm, 245, rfl⟩
abbrev main_cst_21 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_cst_22 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_cst_23 : Ref sig .tc := ⟨.hbm, 255, rfl⟩
abbrev main_v228 : Ref sig .tc := ⟨.hbm, 256, rfl⟩
abbrev main_v229 : Ref sig .tc := ⟨.hbm, 257, rfl⟩
abbrev main_cst_24 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_cst_25 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_cst_26 : Ref sig .tc := ⟨.hbm, 267, rfl⟩
abbrev main_v237 : Ref sig .tc := ⟨.hbm, 268, rfl⟩
abbrev main_v238 : Ref sig .tc := ⟨.hbm, 269, rfl⟩
abbrev main_cst_27 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_cst_28 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_cst_29 : Ref sig .tc := ⟨.hbm, 279, rfl⟩
abbrev main_v246 : Ref sig .tc := ⟨.hbm, 280, rfl⟩
abbrev main_v247 : Ref sig .tc := ⟨.hbm, 281, rfl⟩
abbrev main_cst_30 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_cst_31 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_32 : Ref sig .tc := ⟨.hbm, 291, rfl⟩
abbrev main_v255 : Ref sig .tc := ⟨.hbm, 292, rfl⟩
abbrev main_v256 : Ref sig .tc := ⟨.hbm, 293, rfl⟩
abbrev main_cst_33 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_cst_34 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_cst_35 : Ref sig .tc := ⟨.hbm, 303, rfl⟩
abbrev main_v264 : Ref sig .tc := ⟨.hbm, 304, rfl⟩
abbrev main_v265 : Ref sig .tc := ⟨.hbm, 305, rfl⟩
abbrev main_cst_36 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_cst_37 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_cst_38 : Ref sig .tc := ⟨.hbm, 315, rfl⟩
abbrev main_v273 : Ref sig .tc := ⟨.hbm, 316, rfl⟩
abbrev main_v274 : Ref sig .tc := ⟨.hbm, 317, rfl⟩
abbrev main_cst_39 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_cst_40 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_cst_41 : Ref sig .tc := ⟨.hbm, 327, rfl⟩
abbrev main_v282 : Ref sig .tc := ⟨.hbm, 328, rfl⟩
abbrev main_v283 : Ref sig .tc := ⟨.hbm, 329, rfl⟩
abbrev main_cst_42 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_cst_43 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_cst_44 : Ref sig .tc := ⟨.hbm, 339, rfl⟩
abbrev main_v291 : Ref sig .tc := ⟨.hbm, 340, rfl⟩
abbrev main_v292 : Ref sig .tc := ⟨.hbm, 341, rfl⟩
abbrev main_cst_45 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_cst_46 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_cst_47 : Ref sig .tc := ⟨.hbm, 351, rfl⟩
abbrev main_v300 : Ref sig .tc := ⟨.hbm, 352, rfl⟩
abbrev main_v301 : Ref sig .tc := ⟨.hbm, 353, rfl⟩
abbrev main_cst_48 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_cst_49 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_cst_50 : Ref sig .tc := ⟨.hbm, 363, rfl⟩
abbrev main_v309 : Ref sig .tc := ⟨.hbm, 364, rfl⟩
abbrev main_v310 : Ref sig .tc := ⟨.hbm, 365, rfl⟩
abbrev main_cst_51 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_cst_52 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_53 : Ref sig .tc := ⟨.hbm, 375, rfl⟩
abbrev main_v318 : Ref sig .tc := ⟨.hbm, 376, rfl⟩
abbrev main_v319 : Ref sig .tc := ⟨.hbm, 377, rfl⟩
abbrev main_cst_54 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_cst_55 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_cst_56 : Ref sig .tc := ⟨.hbm, 387, rfl⟩
abbrev main_v327 : Ref sig .tc := ⟨.hbm, 388, rfl⟩
abbrev main_v328 : Ref sig .tc := ⟨.hbm, 389, rfl⟩
abbrev main_cst_57 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_cst_58 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_cst_59 : Ref sig .tc := ⟨.hbm, 399, rfl⟩
abbrev main_v336 : Ref sig .tc := ⟨.hbm, 400, rfl⟩
abbrev main_v337 : Ref sig .tc := ⟨.hbm, 401, rfl⟩
abbrev main_cst_60 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_cst_61 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_cst_62 : Ref sig .tc := ⟨.hbm, 411, rfl⟩
abbrev main_v345 : Ref sig .tc := ⟨.hbm, 412, rfl⟩
abbrev main_v346 : Ref sig .tc := ⟨.hbm, 413, rfl⟩
abbrev main_cst_63 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_cst_64 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_cst_65 : Ref sig .tc := ⟨.hbm, 423, rfl⟩
abbrev main_v354 : Ref sig .tc := ⟨.hbm, 424, rfl⟩
abbrev main_v355 : Ref sig .tc := ⟨.hbm, 425, rfl⟩
abbrev main_cst_66 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_cst_67 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_cst_68 : Ref sig .tc := ⟨.hbm, 435, rfl⟩
abbrev main_v363 : Ref sig .tc := ⟨.hbm, 436, rfl⟩
abbrev main_v364 : Ref sig .tc := ⟨.hbm, 437, rfl⟩
abbrev main_cst_69 : Ref sig .tc := ⟨.hbm, 438, rfl⟩
abbrev main_v365 : Ref sig .tc := ⟨.hbm, 439, rfl⟩
abbrev main_v366 : Ref sig .tc := ⟨.hbm, 440, rfl⟩
abbrev main_v367 : Ref sig .tc := ⟨.hbm, 441, rfl⟩
abbrev main_cst_70 : Ref sig .tc := ⟨.hbm, 442, rfl⟩
abbrev main_v368 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_cst_71 : Ref sig .tc := ⟨.hbm, 447, rfl⟩
abbrev main_v372 : Ref sig .tc := ⟨.hbm, 448, rfl⟩
abbrev main_v373 : Ref sig .tc := ⟨.hbm, 449, rfl⟩
abbrev main_cst_72 : Ref sig .tc := ⟨.hbm, 450, rfl⟩
abbrev main_v374 : Ref sig .tc := ⟨.hbm, 451, rfl⟩
abbrev main_v375 : Ref sig .tc := ⟨.hbm, 452, rfl⟩
abbrev main_v376 : Ref sig .tc := ⟨.hbm, 453, rfl⟩
abbrev main_cst_73 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_cst_74 : Ref sig .tc := ⟨.hbm, 459, rfl⟩
abbrev main_v381 : Ref sig .tc := ⟨.hbm, 460, rfl⟩
abbrev main_v382 : Ref sig .tc := ⟨.hbm, 461, rfl⟩
abbrev main_cst_75 : Ref sig .tc := ⟨.hbm, 462, rfl⟩
abbrev main_v383 : Ref sig .tc := ⟨.hbm, 463, rfl⟩
abbrev main_v384 : Ref sig .tc := ⟨.hbm, 464, rfl⟩
abbrev main_v385 : Ref sig .tc := ⟨.hbm, 465, rfl⟩
abbrev main_cst_76 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_cst_77 : Ref sig .tc := ⟨.hbm, 471, rfl⟩
abbrev main_v390 : Ref sig .tc := ⟨.hbm, 472, rfl⟩
abbrev main_v391 : Ref sig .tc := ⟨.hbm, 473, rfl⟩
abbrev main_cst_78 : Ref sig .tc := ⟨.hbm, 474, rfl⟩
abbrev main_v392 : Ref sig .tc := ⟨.hbm, 475, rfl⟩
abbrev main_v393 : Ref sig .tc := ⟨.hbm, 476, rfl⟩
abbrev main_v394 : Ref sig .tc := ⟨.hbm, 477, rfl⟩
abbrev main_cst_79 : Ref sig .tc := ⟨.hbm, 478, rfl⟩
abbrev main_v395 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_cst_80 : Ref sig .tc := ⟨.hbm, 483, rfl⟩
abbrev main_v399 : Ref sig .tc := ⟨.hbm, 484, rfl⟩
abbrev main_v400 : Ref sig .tc := ⟨.hbm, 485, rfl⟩
abbrev main_cst_81 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_cst_82 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_cst_83 : Ref sig .tc := ⟨.hbm, 495, rfl⟩
abbrev main_v408 : Ref sig .tc := ⟨.hbm, 496, rfl⟩
abbrev main_v409 : Ref sig .tc := ⟨.hbm, 497, rfl⟩
abbrev main_cst_84 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_cst_85 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_cst_86 : Ref sig .tc := ⟨.hbm, 507, rfl⟩
abbrev main_v417 : Ref sig .tc := ⟨.hbm, 508, rfl⟩
abbrev main_v418 : Ref sig .tc := ⟨.hbm, 509, rfl⟩
abbrev main_cst_87 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_cst_88 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_cst_89 : Ref sig .tc := ⟨.hbm, 519, rfl⟩
abbrev main_v426 : Ref sig .tc := ⟨.hbm, 520, rfl⟩
abbrev main_v427 : Ref sig .tc := ⟨.hbm, 521, rfl⟩
abbrev main_cst_90 : Ref sig .tc := ⟨.hbm, 522, rfl⟩
abbrev main_v428 : Ref sig .tc := ⟨.hbm, 523, rfl⟩
abbrev main_v429 : Ref sig .tc := ⟨.hbm, 524, rfl⟩
abbrev main_v430 : Ref sig .tc := ⟨.hbm, 525, rfl⟩
abbrev main_cst_91 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_cst_92 : Ref sig .tc := ⟨.hbm, 531, rfl⟩
abbrev main_v435 : Ref sig .tc := ⟨.hbm, 532, rfl⟩
abbrev main_v436 : Ref sig .tc := ⟨.hbm, 533, rfl⟩
abbrev main_cst_93 : Ref sig .tc := ⟨.hbm, 534, rfl⟩
abbrev main_v437 : Ref sig .tc := ⟨.hbm, 535, rfl⟩
abbrev main_v438 : Ref sig .tc := ⟨.hbm, 536, rfl⟩
abbrev main_v439 : Ref sig .tc := ⟨.hbm, 537, rfl⟩
abbrev main_cst_94 : Ref sig .tc := ⟨.hbm, 538, rfl⟩
abbrev main_v440 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩
abbrev main_cst_95 : Ref sig .tc := ⟨.hbm, 543, rfl⟩
abbrev main_v444 : Ref sig .tc := ⟨.hbm, 544, rfl⟩
abbrev main_v445 : Ref sig .tc := ⟨.hbm, 545, rfl⟩
abbrev main_cst_96 : Ref sig .tc := ⟨.hbm, 546, rfl⟩
abbrev main_v446 : Ref sig .tc := ⟨.hbm, 547, rfl⟩
abbrev main_v447 : Ref sig .tc := ⟨.hbm, 548, rfl⟩
abbrev main_v448 : Ref sig .tc := ⟨.hbm, 549, rfl⟩
abbrev main_v449 : Ref sig .tc := ⟨.hbm, 550, rfl⟩
abbrev main_v450 : Ref sig .tc := ⟨.hbm, 551, rfl⟩
abbrev main_v451 : Ref sig .tc := ⟨.hbm, 552, rfl⟩
abbrev main_v452 : Ref sig .tc := ⟨.hbm, 553, rfl⟩
abbrev main_v453 : Ref sig .tc := ⟨.hbm, 554, rfl⟩
abbrev main_cst_97 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S3x8x2048 : Shape := ⟨3, ![3, 8, 2048]⟩
abbrev S256 : Shape := ⟨1, ![256]⟩
abbrev S256x1 : Shape := ⟨2, ![256, 1]⟩
abbrev S1x8x2048 : Shape := ⟨3, ![1, 8, 2048]⟩
abbrev S8x2048 : Shape := ⟨2, ![8, 2048]⟩
abbrev S32x8x2048 : Shape := ⟨3, ![32, 8, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S3x8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v89 : BitVec 1 := Scalar.cmpi .eq arg0 c31_i32
  let v90 : BitVec 32 := Scalar.extui v89
  let c0_i32_44 : BitVec 32 := 0#32
  let v91 : BitVec 1 := Scalar.cmpi .ne v90 c0_i32_44
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 106
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S2048, .f32⟩
  | .hbm, ⟨62, _⟩ => ⟨S8192x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S2048, .f32⟩
  | .hbm, ⟨70, _⟩ => ⟨S8192x2048, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S8192x1, .f32⟩
  | .hbm, ⟨77, _⟩ => ⟨S8192x2048, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x2048, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S2048, .f32⟩
  | .hbm, ⟨103, _⟩ => ⟨S1x2048, .f32⟩
  | .hbm, ⟨104, _⟩ => ⟨S1x2048, .f32⟩
  | .hbm, ⟨105, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== Kernel3.lean ====
abbrev S8192x8192 : Shape := ⟨2, ![8192, 8192]⟩
abbrev S2048x8192 : Shape := ⟨2, ![2048, 8192]⟩
abbrev S8192x2048 : Shape := ⟨2, ![8192, 2048]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S8192x8192, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S4x2048x2048, .f32⟩
  | .hbm, ⟨13, _⟩ => ⟨S4x2048x2048, .bf16⟩
  | .hbm, ⟨14, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x8192 : Shape := ⟨2, ![8192, 8192]⟩
abbrev S2048x8192 : Shape := ⟨2, ![2048, 8192]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x8192, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S_ : Shape := ⟨0, ![]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S4x2048x2048, .f32⟩
  | .hbm, ⟨9, _⟩ => ⟨S4x2048x2048, .bf16⟩
  | .hbm, ⟨10, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel5.lean ====
abbrev S8192x2048 : Shape := ⟨2, ![8192, 2048]⟩
abbrev S8192x8192 : Shape := ⟨2, ![8192, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .bf16⟩
  | .hbm, ⟨3, _⟩ => ⟨S8192x8192, .bf16⟩
  | .hbm, ⟨4, _⟩ => ⟨S4x2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S4x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel6.lean ====
abbrev S8192x8192 : Shape := ⟨2, ![8192, 8192]⟩
abbrev S8192x2048 : Shape := ⟨2, ![8192, 2048]⟩
abbrev S_ : Shape := ⟨0, ![]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x2048, .bf16⟩
  | .hbm, ⟨8, _⟩ => ⟨S4x2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S4x2048x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel7.lean ====
abbrev S8192x2048 : Shape := ⟨2, ![8192, 2048]⟩
abbrev S2048x8192 : Shape := ⟨2, ![2048, 8192]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S4x2048x2048, .f32⟩
  | .hbm, ⟨12, _⟩ => ⟨S4x2048x2048, .bf16⟩
  | .hbm, ⟨13, _⟩ => ⟨S8192x8192, .bf16⟩
  | .hbm, ⟨14, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x8192 : Shape := ⟨2, ![8192, 8192]⟩
abbrev S8192x2048 : Shape := ⟨2, ![8192, 2048]⟩
abbrev S4x2048x2048 : Shape := ⟨3, ![4, 2048, 2048]⟩
abbrev S1024x4096 : Shape := ⟨2, ![1024, 4096]⟩
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S4x2048x2048, .f32⟩
  | .hbm, ⟨4, _⟩ => ⟨S4x2048x2048, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S2x2048x1024, .bf16⟩
  | .local _ .vmem, ⟨3, _⟩ => ⟨S2x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x8192 : Shape := ⟨2, ![8192, 8192]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x4096 : Shape := ⟨2, ![8192, 4096]⟩
abbrev S2048x4096 : Shape := ⟨2, ![2048, 4096]⟩
abbrev S8192x2048 : Shape := ⟨2, ![8192, 2048]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S8192x4096, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S4x2048x1024, .f32⟩
  | .hbm, ⟨13, _⟩ => ⟨S4x2048x1024, .bf16⟩
  | .hbm, ⟨14, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x4096 : Shape := ⟨2, ![8192, 4096]⟩
abbrev S2048x4096 : Shape := ⟨2, ![2048, 4096]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel10.lean ====
abbrev S8192x2048 : Shape := ⟨2, ![8192, 2048]⟩
abbrev S8192x4096 : Shape := ⟨2, ![8192, 4096]⟩
abbrev S4x2048x1024 : Shape := ⟨3, ![4, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S4x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x1024 : Shape := ⟨2, ![2048, 1024]⟩
abbrev S1x2048x1024 : Shape := ⟨3, ![1, 2048, 1024]⟩
abbrev S4x2048x1024 : Shape := ⟨3, ![4, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S4x2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel11.lean ====
abbrev S8192x2048 : Shape := ⟨2, ![8192, 2048]⟩
abbrev S2048x4096 : Shape := ⟨2, ![2048, 4096]⟩
abbrev S4096 : Shape := ⟨1, ![4096]⟩
abbrev S2048x1024 : Shape := ⟨2, ![2048, 1024]⟩
abbrev S1x2048x1024 : Shape := ⟨3, ![1, 2048, 1024]⟩
abbrev S4x2048x1024 : Shape := ⟨3, ![4, 2048, 1024]⟩
abbrev S1x4096 : Shape := ⟨2, ![1, 4096]⟩
abbrev S8192x4096 : Shape := ⟨2, ![8192, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 16
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S4096, .f32⟩
  | .hbm, ⟨3, _⟩ => ⟨S8192x2048, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S4x2048x1024, .f32⟩
  | .hbm, ⟨13, _⟩ => ⟨S4x2048x1024, .bf16⟩
  | .hbm, ⟨14, _⟩ => ⟨S1x4096, .f32⟩
  | .hbm, ⟨15, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x512x2048 : Shape := ⟨3, ![1, 512, 2048]⟩
abbrev S512x2048 : Shape := ⟨2, ![512, 2048]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S2x2048x2048 : Shape := ⟨3, ![2, 2048, 2048]⟩
abbrev S2048x2048 : Shape := ⟨2, ![2048, 2048]⟩
abbrev S1x512x1024 : Shape := ⟨3, ![1, 512, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let v4 : BitVec 1 := Scalar.cmpi .eq arg0 c0_i32_2
  let c0_i32_3 : BitVec 32 := 0#32
  let v5 : BitVec 1 := Scalar.cmpi .slt arg0 c0_i32_3
  let c0_i32_4 : BitVec 32 := 0#32
  let c1_i32 : BitVec 32 := 1#32
  let v6 : BitVec 32 := Scalar.select v5 c0_i32_4 c1_i32
  let v7 : BitVec 32 := Scalar.select v4 arg2 v6
  let c0_i32_5 : BitVec 32 := 0#32
  ![v3.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c1_i32_1 : BitVec 32 := 1#32
  let v4 : BitVec 1 := Scalar.cmpi .eq arg0 c1_i32_1
  let c1_i32_2 : BitVec 32 := 1#32
  let v5 : BitVec 1 := Scalar.cmpi .slt arg0 c1_i32_2
  let c0_i32_3 : BitVec 32 := 0#32
  let c1_i32_4 : BitVec 32 := 1#32
  let v6 : BitVec 32 := Scalar.select v5 c0_i32_3 c1_i32_4
  let v7 : BitVec 32 := Scalar.select v4 arg2 v6
  let c0_i32_5 : BitVec 32 := 0#32
  ![v3.toNat, v7.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference14Ideal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2x2048x2048, .f32⟩
  | .hbm, ⟨5, _⟩ => ⟨S1x2048x2048, .f32⟩
  | .hbm, ⟨6, _⟩ => ⟨S1x2048x2048, .f32⟩
  | .hbm, ⟨7, _⟩ => ⟨S2x2048x2048, .f32⟩
  | .hbm, ⟨8, _⟩ => ⟨S_, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048x2048, .f32⟩
  | .hbm, ⟨40, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S1x1024 : Shape := ⟨2, ![1, 1024]⟩
abbrev S1x31x512 : Shape := ⟨3, ![1, 31, 512]⟩
abbrev S1x512 : Shape := ⟨2, ![1, 512]⟩
abbrev S32x16 : Shape := ⟨2, ![32, 16]⟩
abbrev S2x2048 : Shape := ⟨2, ![2, 2048]⟩
abbrev S1024 : Shape := ⟨1, ![1024]⟩
abbrev S_ : Shape := ⟨0, ![]⟩
abbrev S8x128 : Shape := ⟨2, ![8, 128]⟩
abbrev S15872 : Shape := ⟨1, ![15872]⟩
abbrev S16384 : Shape := ⟨1, ![16384]⟩
abbrev S128x128 : Shape := ⟨2, ![128, 128]⟩
abbrev S512 : Shape := ⟨1, ![512]⟩
abbrev S4096 : Shape := ⟨1, ![4096]⟩
abbrev S32x128 : Shape := ⟨2, ![32, 128]⟩
abbrev S304x128 : Shape := ⟨2, ![304, 128]⟩

abbrev nBuf : Space → Nat
  | .hbm => 388
  | .vmem => 7
  | .smem => 0
  | _ => 0

abbrev hbmTy0_0 (i : Nat) : BufTy := match i % 128 with
  | 0 => ⟨S1x1024, .f32⟩
  | 1 => ⟨S1x31x512, .f32⟩
  | 2 => ⟨S1x512, .f32⟩
  | 3 => ⟨S1x512, .f32⟩
  | 4 => ⟨S1x512, .f32⟩
  | 5 => ⟨S1x512, .f32⟩
  | 6 => ⟨S32x16, .f32⟩
  | 7 => ⟨S2x2048, .f32⟩
  | 8 => ⟨S2x2048, .f32⟩
  | 9 => ⟨S2x2048, .f32⟩
  | 10 => ⟨S2x2048, .f32⟩
  | 11 => ⟨S1x1024, .f32⟩
  | 12 => ⟨S1x31x512, .f32⟩
  | 13 => ⟨S1x512, .f32⟩
  | 14 => ⟨S1x512, .f32⟩
  | 15 => ⟨S1x512, .f32⟩
  | 16 => ⟨S1x512, .f32⟩
  | 17 => ⟨S32x16, .f32⟩
  | 18 => ⟨S2x2048, .f32⟩
  | 19 => ⟨S2x2048, .f32⟩
  | 20 => ⟨S2x2048, .f32⟩
  | 21 => ⟨S2x2048, .f32⟩
  | 22 => ⟨S1x1024, .f32⟩
  | 23 => ⟨S1x31x512, .f32⟩
  | 24 => ⟨S1x512, .f32⟩
  | 25 => ⟨S1x512, .f32⟩
  | 26 => ⟨S1x512, .f32⟩
  | 27 => ⟨S1x512, .f32⟩
  | 28 => ⟨S32x16, .f32⟩
  | 29 => ⟨S2x2048, .f32⟩
  | 30 => ⟨S2x2048, .f32⟩
  | 31 => ⟨S2x2048, .f32⟩
  | 32 => ⟨S2x2048, .f32⟩
  | 33 => ⟨S1x1024, .f32⟩
  | 34 => ⟨S1x31x512, .f32⟩
  | 35 => ⟨S1x512, .f32⟩
  | 36 => ⟨S1x512, .f32⟩
  | 37 => ⟨S1x512, .f32⟩
  | 38 => ⟨S1x512, .f32⟩
  | 39 => ⟨S32x16, .f32⟩
  | 40 => ⟨S2x2048, .f32⟩
  | 41 => ⟨S2x2048, .f32⟩
  | 42 => ⟨S2x2048, .f32⟩
  | 43 => ⟨S2x2048, .f32⟩
  | 44 => ⟨S1024, .f32⟩
  | 45 => ⟨S_, .i32⟩
  | 46 => ⟨S_, .f32⟩
  | 47 => ⟨S1024, .f32⟩
  | 48 => ⟨S8x128, .f32⟩
  | 49 => ⟨S15872, .f32⟩
  | 50 => ⟨S_, .i32⟩
  | 51 => ⟨S_, .f32⟩
  | 52 => ⟨S16384, .f32⟩
  | 53 => ⟨S128x128, .f32⟩
  | 54 => ⟨S512, .f32⟩
  | 55 => ⟨S_, .i32⟩
  | 56 => ⟨S_, .f32⟩
  | 57 => ⟨S1024, .f32⟩
  | 58 => ⟨S8x128, .f32⟩
  | 59 => ⟨S512, .f32⟩
  | 60 => ⟨S_, .i32⟩
  | 61 => ⟨S_, .f32⟩
  | 62 => ⟨S1024, .f32⟩
  | 63 => ⟨S8x128, .f32⟩
  | 64 => ⟨S512, .f32⟩
  | 65 => ⟨S_, .i32⟩
  | 66 => ⟨S_, .f32⟩
  | 67 => ⟨S1024, .f32⟩
  | 68 => ⟨S8x128, .f32⟩
  | 69 => ⟨S512, .f32⟩
  | 70 => ⟨S_, .i32⟩
  | 71 => ⟨S_, .f32⟩
  | 72 => ⟨S1024, .f32⟩
  | 73 => ⟨S8x128, .f32⟩
  | 74 => ⟨S512, .f32⟩
  | 75 => ⟨S_, .i32⟩
  | 76 => ⟨S_, .f32⟩
  | 77 => ⟨S1024, .f32⟩
  | 78 => ⟨S8x128, .f32⟩
  | 79 => ⟨S4096, .f32⟩
  | 80 => ⟨S_, .i32⟩
  | 81 => ⟨S_, .f32⟩
  | 82 => ⟨S4096, .f32⟩
  | 83 => ⟨S32x128, .f32⟩
  | 84 => ⟨S4096, .f32⟩
  | 85 => ⟨S_, .i32⟩
  | 86 => ⟨S_, .f32⟩
  | 87 => ⟨S4096, .f32⟩
  | 88 => ⟨S32x128, .f32⟩
  | 89 => ⟨S4096, .f32⟩
  | 90 => ⟨S_, .i32⟩
  | 91 => ⟨S_, .f32⟩
  | 92 => ⟨S4096, .f32⟩
  | 93 => ⟨S32x128, .f32⟩
  | 94 => ⟨S4096, .f32⟩
  | 95 => ⟨S_, .i32⟩
  | 96 => ⟨S_, .f32⟩
  | 97 => ⟨S4096, .f32⟩
  | 98 => ⟨S32x128, .f32⟩
  | 99 => ⟨S304x128, .f32⟩
  | 100 => ⟨S1024, .f32⟩
  | 101 => ⟨S_, .i32⟩
  | 102 => ⟨S_, .f32⟩
  | 103 => ⟨S1024, .f32⟩
  | 104 => ⟨S8x128, .f32⟩
  | 105 => ⟨S15872, .f32⟩
  | 106 => ⟨S_, .i32⟩
  | 107 => ⟨S_, .f32⟩
  | 108 => ⟨S16384, .f32⟩
  | 109 => ⟨S128x128, .f32⟩
  | 110 => ⟨S512, .f32⟩
  | 111 => ⟨S_, .i32⟩
  | 112 => ⟨S_, .f32⟩
  | 113 => ⟨S1024, .f32⟩
  | 114 => ⟨S8x128, .f32⟩
  | 115 => ⟨S512, .f32⟩
  | 116 => ⟨S_, .i32⟩
  | 117 => ⟨S_, .f32⟩
  | 118 => ⟨S1024, .f32⟩
  | 119 => ⟨S8x128, .f32⟩
  | 120 => ⟨S512, .f32⟩
  | 121 => ⟨S_, .i32⟩
  | 122 => ⟨S_, .f32⟩
  | 123 => ⟨S1024, .f32⟩
  | 124 => ⟨S8x128, .f32⟩
  | 125 => ⟨S512, .f32⟩
  | 126 => ⟨S_, .i32⟩
  | 127 => ⟨S_, .f32⟩
  | _ => ⟨S1x1024, .f32⟩

abbrev hbmTy0_1 (i : Nat) : BufTy := match i % 128 with
  | 0 => ⟨S1024, .f32⟩
  | 1 => ⟨S8x128, .f32⟩
  | 2 => ⟨S512, .f32⟩
  | 3 => ⟨S_, .i32⟩
  | 4 => ⟨S_, .f32⟩
  | 5 => ⟨S1024, .f32⟩
  | 6 => ⟨S8x128, .f32⟩
  | 7 => ⟨S4096, .f32⟩
  | 8 => ⟨S_, .i32⟩
  | 9 => ⟨S_, .f32⟩
  | 10 => ⟨S4096, .f32⟩
  | 11 => ⟨S32x128, .f32⟩
  | 12 => ⟨S4096, .f32⟩
  | 13 => ⟨S_, .i32⟩
  | 14 => ⟨S_, .f32⟩
  | 15 => ⟨S4096, .f32⟩
  | 16 => ⟨S32x128, .f32⟩
  | 17 => ⟨S4096, .f32⟩
  | 18 => ⟨S_, .i32⟩
  | 19 => ⟨S_, .f32⟩
  | 20 => ⟨S4096, .f32⟩
  | 21 => ⟨S32x128, .f32⟩
  | 22 => ⟨S4096, .f32⟩
  | 23 => ⟨S_, .i32⟩
  | 24 => ⟨S_, .f32⟩
  | 25 => ⟨S4096, .f32⟩
  | 26 => ⟨S32x128, .f32⟩
  | 27 => ⟨S304x128, .f32⟩
  | 28 => ⟨S1024, .f32⟩
  | 29 => ⟨S_, .i32⟩
  | 30 => ⟨S_, .f32⟩
  | 31 => ⟨S1024, .f32⟩
  | 32 => ⟨S8x128, .f32⟩
  | 33 => ⟨S15872, .f32⟩
  | 34 => ⟨S_, .i32⟩
  | 35 => ⟨S_, .f32⟩
  | 36 => ⟨S16384, .f32⟩
  | 37 => ⟨S128x128, .f32⟩
  | 38 => ⟨S512, .f32⟩
  | 39 => ⟨S_, .i32⟩
  | 40 => ⟨S_, .f32⟩
  | 41 => ⟨S1024, .f32⟩
  | 42 => ⟨S8x128, .f32⟩
  | 43 => ⟨S512, .f32⟩
  | 44 => ⟨S_, .i32⟩
  | 45 => ⟨S_, .f32⟩
  | 46 => ⟨S1024, .f32⟩
  | 47 => ⟨S8x128, .f32⟩
  | 48 => ⟨S512, .f32⟩
  | 49 => ⟨S_, .i32⟩
  | 50 => ⟨S_, .f32⟩
  | 51 => ⟨S1024, .f32⟩
  | 52 => ⟨S8x128, .f32⟩
  | 53 => ⟨S512, .f32⟩
  | 54 => ⟨S_, .i32⟩
  | 55 => ⟨S_, .f32⟩
  | 56 => ⟨S1024, .f32⟩
  | 57 => ⟨S8x128, .f32⟩
  | 58 => ⟨S512, .f32⟩
  | 59 => ⟨S_, .i32⟩
  | 60 => ⟨S_, .f32⟩
  | 61 => ⟨S1024, .f32⟩
  | 62 => ⟨S8x128, .f32⟩
  | 63 => ⟨S4096, .f32⟩
  | 64 => ⟨S_, .i32⟩
  | 65 => ⟨S_, .f32⟩
  | 66 => ⟨S4096, .f32⟩
  | 67 => ⟨S32x128, .f32⟩
  | 68 => ⟨S4096, .f32⟩
  | 69 => ⟨S_, .i32⟩
  | 70 => ⟨S_, .f32⟩
  | 71 => ⟨S4096, .f32⟩
  | 72 => ⟨S32x128, .f32⟩
  | 73 => ⟨S4096, .f32⟩
  | 74 => ⟨S_, .i32⟩
  | 75 => ⟨S_, .f32⟩
  | 76 => ⟨S4096, .f32⟩
  | 77 => ⟨S32x128, .f32⟩
  | 78 => ⟨S4096, .f32⟩
  | 79 => ⟨S_, .i32⟩
  | 80 => ⟨S_, .f32⟩
  | 81 => ⟨S4096, .f32⟩
  | 82 => ⟨S32x128, .f32⟩
  | 83 => ⟨S304x128, .f32⟩
  | 84 => ⟨S1024, .f32⟩
  | 85 => ⟨S_, .i32⟩
  | 86 => ⟨S_, .f32⟩
  | 87 => ⟨S1024, .f32⟩
  | 88 => ⟨S8x128, .f32⟩
  | 89 => ⟨S15872, .f32⟩
  | 90 => ⟨S_, .i32⟩
  | 91 => ⟨S_, .f32⟩
  | 92 => ⟨S16384, .f32⟩
  | 93 => ⟨S128x128, .f32⟩
  | 94 => ⟨S512, .f32⟩
  | 95 => ⟨S_, .i32⟩
  | 96 => ⟨S_, .f32⟩
  | 97 => ⟨S1024, .f32⟩
  | 98 => ⟨S8x128, .f32⟩
  | 99 => ⟨S512, .f32⟩
  | 100 => ⟨S_, .i32⟩
  | 101 => ⟨S_, .f32⟩
  | 102 => ⟨S1024, .f32⟩
  | 103 => ⟨S8x128, .f32⟩
  | 104 => ⟨S512, .f32⟩
  | 105 => ⟨S_, .i32⟩
  | 106 => ⟨S_, .f32⟩
  | 107 => ⟨S1024, .f32⟩
  | 108 => ⟨S8x128, .f32⟩
  | 109 => ⟨S512, .f32⟩
  | 110 => ⟨S_, .i32⟩
  | 111 => ⟨S_, .f32⟩
  | 112 => ⟨S1024, .f32⟩
  | 113 => ⟨S8x128, .f32⟩
  | 114 => ⟨S512, .f32⟩
  | 115 => ⟨S_, .i32⟩
  | 116 => ⟨S_, .f32⟩
  | 117 => ⟨S1024, .f32⟩
  | 118 => ⟨S8x128, .f32⟩
  | 119 => ⟨S4096, .f32⟩
  | 120 => ⟨S_, .i32⟩
  | 121 => ⟨S_, .f32⟩
  | 122 => ⟨S4096, .f32⟩
  | 123 => ⟨S32x128, .f32⟩
  | 124 => ⟨S4096, .f32⟩
  | 125 => ⟨S_, .i32⟩
  | 126 => ⟨S_, .f32⟩
  | 127 => ⟨S4096, .f32⟩
  | _ => ⟨S1x1024, .f32⟩

abbrev hbmTy0_2 (i : Nat) : BufTy := match i % 128 with
  | 0 => ⟨S32x128, .f32⟩
  | 1 => ⟨S4096, .f32⟩
  | 2 => ⟨S_, .i32⟩
  | 3 => ⟨S_, .f32⟩
  | 4 => ⟨S4096, .f32⟩
  | 5 => ⟨S32x128, .f32⟩
  | 6 => ⟨S4096, .f32⟩
  | 7 => ⟨S_, .i32⟩
  | 8 => ⟨S_, .f32⟩
  | 9 => ⟨S4096, .f32⟩
  | 10 => ⟨S32x128, .f32⟩
  | 11 => ⟨S304x128, .f32⟩
  | 12 => ⟨S304x128, .f32⟩
  | 13 => ⟨S304x128, .f32⟩
  | 14 => ⟨S304x128, .f32⟩
  | 15 => ⟨S8x128, .f32⟩
  | 16 => ⟨S1024, .f32⟩
  | 17 => ⟨S1x1024, .f32⟩
  | 18 => ⟨S128x128, .f32⟩
  | 19 => ⟨S16384, .f32⟩
  | 20 => ⟨S15872, .f32⟩
  | 21 => ⟨S1x31x512, .f32⟩
  | 22 => ⟨S8x128, .f32⟩
  | 23 => ⟨S1024, .f32⟩
  | 24 => ⟨S512, .f32⟩
  | 25 => ⟨S1x512, .f32⟩
  | 26 => ⟨S8x128, .f32⟩
  | 27 => ⟨S1024, .f32⟩
  | 28 => ⟨S512, .f32⟩
  | 29 => ⟨S1x512, .f32⟩
  | 30 => ⟨S8x128, .f32⟩
  | 31 => ⟨S1024, .f32⟩
  | 32 => ⟨S512, .f32⟩
  | 33 => ⟨S1x512, .f32⟩
  | 34 => ⟨S8x128, .f32⟩
  | 35 => ⟨S1024, .f32⟩
  | 36 => ⟨S512, .f32⟩
  | 37 => ⟨S1x512, .f32⟩
  | 38 => ⟨S8x128, .f32⟩
  | 39 => ⟨S1024, .f32⟩
  | 40 => ⟨S512, .f32⟩
  | 41 => ⟨S32x16, .f32⟩
  | 42 => ⟨S32x128, .f32⟩
  | 43 => ⟨S4096, .f32⟩
  | 44 => ⟨S2x2048, .f32⟩
  | 45 => ⟨S32x128, .f32⟩
  | 46 => ⟨S4096, .f32⟩
  | 47 => ⟨S2x2048, .f32⟩
  | 48 => ⟨S32x128, .f32⟩
  | 49 => ⟨S4096, .f32⟩
  | 50 => ⟨S2x2048, .f32⟩
  | 51 => ⟨S32x128, .f32⟩
  | 52 => ⟨S4096, .f32⟩
  | 53 => ⟨S2x2048, .f32⟩
  | 54 => ⟨S8x128, .f32⟩
  | 55 => ⟨S1024, .f32⟩
  | 56 => ⟨S1x1024, .f32⟩
  | 57 => ⟨S128x128, .f32⟩
  | 58 => ⟨S16384, .f32⟩
  | 59 => ⟨S15872, .f32⟩
  | 60 => ⟨S1x31x512, .f32⟩
  | 61 => ⟨S8x128, .f32⟩
  | 62 => ⟨S1024, .f32⟩
  | 63 => ⟨S512, .f32⟩
  | 64 => ⟨S1x512, .f32⟩
  | 65 => ⟨S8x128, .f32⟩
  | 66 => ⟨S1024, .f32⟩
  | 67 => ⟨S512, .f32⟩
  | 68 => ⟨S1x512, .f32⟩
  | 69 => ⟨S8x128, .f32⟩
  | 70 => ⟨S1024, .f32⟩
  | 71 => ⟨S512, .f32⟩
  | 72 => ⟨S1x512, .f32⟩
  | 73 => ⟨S8x128, .f32⟩
  | 74 => ⟨S1024, .f32⟩
  | 75 => ⟨S512, .f32⟩
  | 76 => ⟨S1x512, .f32⟩
  | 77 => ⟨S8x128, .f32⟩
  | 78 => ⟨S1024, .f32⟩
  | 79 => ⟨S512, .f32⟩
  | 80 => ⟨S32x16, .f32⟩
  | 81 => ⟨S32x128, .f32⟩
  | 82 => ⟨S4096, .f32⟩
  | 83 => ⟨S2x2048, .f32⟩
  | 84 => ⟨S32x128, .f32⟩
  | 85 => ⟨S4096, .f32⟩
  | 86 => ⟨S2x2048, .f32⟩
  | 87 => ⟨S32x128, .f32⟩
  | 88 => ⟨S4096, .f32⟩
  | 89 => ⟨S2x2048, .f32⟩
  | 90 => ⟨S32x128, .f32⟩
  | 91 => ⟨S4096, .f32⟩
  | 92 => ⟨S2x2048, .f32⟩
  | 93 => ⟨S8x128, .f32⟩
  | 94 => ⟨S1024, .f32⟩
  | 95 => ⟨S1x1024, .f32⟩
  | 96 => ⟨S128x128, .f32⟩
  | 97 => ⟨S16384, .f32⟩
  | 98 => ⟨S15872, .f32⟩
  | 99 => ⟨S1x31x512, .f32⟩
  | 100 => ⟨S8x128, .f32⟩
  | 101 => ⟨S1024, .f32⟩
  | 102 => ⟨S512, .f32⟩
  | 103 => ⟨S1x512, .f32⟩
  | 104 => ⟨S8x128, .f32⟩
  | 105 => ⟨S1024, .f32⟩
  | 106 => ⟨S512, .f32⟩
  | 107 => ⟨S1x512, .f32⟩
  | 108 => ⟨S8x128, .f32⟩
  | 109 => ⟨S1024, .f32⟩
  | 110 => ⟨S512, .f32⟩
  | 111 => ⟨S1x512, .f32⟩
  | 112 => ⟨S8x128, .f32⟩
  | 113 => ⟨S1024, .f32⟩
  | 114 => ⟨S512, .f32⟩
  | 115 => ⟨S1x512, .f32⟩
  | 116 => ⟨S8x128, .f32⟩
  | 117 => ⟨S1024, .f32⟩
  | 118 => ⟨S512, .f32⟩
  | 119 => ⟨S32x16, .f32⟩
  | 120 => ⟨S32x128, .f32⟩
  | 121 => ⟨S4096, .f32⟩
  | 122 => ⟨S2x2048, .f32⟩
  | 123 => ⟨S32x128, .f32⟩
  | 124 => ⟨S4096, .f32⟩
  | 125 => ⟨S2x2048, .f32⟩
  | 126 => ⟨S32x128, .f32⟩
  | 127 => ⟨S4096, .f32⟩
  | _ => ⟨S1x1024, .f32⟩

abbrev hbmTy0_3 (i : Nat) : BufTy := match i % 128 with
  | 0 => ⟨S2x2048, .f32⟩
  | 1 => ⟨S32x128, .f32⟩
  | 2 => ⟨S4096, .f32⟩
  | 3 => ⟨S2x2048, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | .local _ .vmem, ⟨0, _⟩ => ⟨S304x128, .f32⟩
  | .local _ .vmem, ⟨1, _⟩ => ⟨S304x128, .f32⟩
  | .local _ .vmem, ⟨2, _⟩ => ⟨S304x128, .f32⟩
  | .local _ .vmem, ⟨3, _⟩ => ⟨S304x128, .f32⟩
  | .local _ .vmem, ⟨4, _⟩ => ⟨S304x128, .f32⟩
  | .local _ .vmem, ⟨5, _⟩ => ⟨S304x128, .f32⟩
  | .local _ .vmem, ⟨6, _⟩ => ⟨S304x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_c : Ref sig .tc := ⟨.hbm, 45, rfl⟩
abbrev main_call0_v0 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_c_0 : Ref sig .tc := ⟨.hbm, 50, rfl⟩
abbrev main_call1_v0 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_c_1 : Ref sig .tc := ⟨.hbm, 55, rfl⟩
abbrev main_call2_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_c_2 : Ref sig .tc := ⟨.hbm, 60, rfl⟩
abbrev main_call3_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c_3 : Ref sig .tc := ⟨.hbm, 65, rfl⟩
abbrev main_call4_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_c_4 : Ref sig .tc := ⟨.hbm, 70, rfl⟩
abbrev main_call5_v0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_c_5 : Ref sig .tc := ⟨.hbm, 75, rfl⟩
abbrev main_call6_v0 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_c_6 : Ref sig .tc := ⟨.hbm, 80, rfl⟩
abbrev main_call7_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_call8_v0 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_c_8 : Ref sig .tc := ⟨.hbm, 90, rfl⟩
abbrev main_call9_v0 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_c_9 : Ref sig .tc := ⟨.hbm, 95, rfl⟩
abbrev main_call10_v0 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_c_10 : Ref sig .tc := ⟨.hbm, 101, rfl⟩
abbrev main_call11_v0 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_c_11 : Ref sig .tc := ⟨.hbm, 106, rfl⟩
abbrev main_call12_v0 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_c_12 : Ref sig .tc := ⟨.hbm, 111, rfl⟩
abbrev main_call13_v0 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_c_13 : Ref sig .tc := ⟨.hbm, 116, rfl⟩
abbrev main_call14_v0 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_c_14 : Ref sig .tc := ⟨.hbm, 121, rfl⟩
abbrev main_call15_v0 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_c_15 : Ref sig .tc := ⟨.hbm, 126, rfl⟩
abbrev main_call16_v0 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_c_16 : Ref sig .tc := ⟨.hbm, 131, rfl⟩
abbrev main_call17_v0 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_c_17 : Ref sig .tc := ⟨.hbm, 136, rfl⟩
abbrev main_call18_v0 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_c_18 : Ref sig .tc := ⟨.hbm, 141, rfl⟩
abbrev main_call19_v0 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_c_19 : Ref sig .tc := ⟨.hbm, 146, rfl⟩
abbrev main_call20_v0 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_c_20 : Ref sig .tc := ⟨.hbm, 151, rfl⟩
abbrev main_call21_v0 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_c_21 : Ref sig .tc := ⟨.hbm, 157, rfl⟩
abbrev main_call22_v0 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_c_22 : Ref sig .tc := ⟨.hbm, 162, rfl⟩
abbrev main_call23_v0 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_c_23 : Ref sig .tc := ⟨.hbm, 167, rfl⟩
abbrev main_call24_v0 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_c_24 : Ref sig .tc := ⟨.hbm, 172, rfl⟩
abbrev main_call25_v0 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_c_25 : Ref sig .tc := ⟨.hbm, 177, rfl⟩
abbrev main_call26_v0 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_c_26 : Ref sig .tc := ⟨.hbm, 182, rfl⟩
abbrev main_call27_v0 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_c_27 : Ref sig .tc := ⟨.hbm, 187, rfl⟩
abbrev main_call28_v0 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_c_28 : Ref sig .tc := ⟨.hbm, 192, rfl⟩
abbrev main_call29_v0 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_c_29 : Ref sig .tc := ⟨.hbm, 197, rfl⟩
abbrev main_call30_v0 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_c_30 : Ref sig .tc := ⟨.hbm, 202, rfl⟩
abbrev main_call31_v0 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_c_31 : Ref sig .tc := ⟨.hbm, 207, rfl⟩
abbrev main_call32_v0 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_c_32 : Ref sig .tc := ⟨.hbm, 213, rfl⟩
abbrev main_call33_v0 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_c_33 : Ref sig .tc := ⟨.hbm, 218, rfl⟩
abbrev main_call34_v0 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_c_34 : Ref sig .tc := ⟨.hbm, 223, rfl⟩
abbrev main_call35_v0 : Ref sig .tc := ⟨.hbm, 224, rfl⟩
abbrev main_v109 : Ref sig .tc := ⟨.hbm, 225, rfl⟩
abbrev main_v110 : Ref sig .tc := ⟨.hbm, 226, rfl⟩
abbrev main_v111 : Ref sig .tc := ⟨.hbm, 227, rfl⟩
abbrev main_c_35 : Ref sig .tc := ⟨.hbm, 228, rfl⟩
abbrev main_call36_v0 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_c_36 : Ref sig .tc := ⟨.hbm, 233, rfl⟩
abbrev main_call37_v0 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_c_37 : Ref sig .tc := ⟨.hbm, 238, rfl⟩
abbrev main_call38_v0 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_c_38 : Ref sig .tc := ⟨.hbm, 243, rfl⟩
abbrev main_call39_v0 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_c_39 : Ref sig .tc := ⟨.hbm, 248, rfl⟩
abbrev main_call40_v0 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_c_40 : Ref sig .tc := ⟨.hbm, 253, rfl⟩
abbrev main_call41_v0 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_c_41 : Ref sig .tc := ⟨.hbm, 258, rfl⟩
abbrev main_call42_v0 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_c_42 : Ref sig .tc := ⟨.hbm, 263, rfl⟩
abbrev main_call43_v0 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136_0 : Ref sig .tc := ⟨.hbm, 268, rfl⟩
abbrev main_v136_1 : Ref sig .tc := ⟨.hbm, 269, rfl⟩
abbrev main_v136_2 : Ref sig .tc := ⟨.hbm, 270, rfl⟩
abbrev main_v137 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_v241 : Ref sig .tc := ⟨.hbm, 375, rfl⟩
abbrev main_v242 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S304x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S304x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference15Ideal.lean ====
abbrev S1x1024 : Shape := ⟨2, ![1, 1024]⟩
abbrev S1x31x512 : Shape := ⟨3, ![1, 31, 512]⟩
abbrev S1x512 : Shape := ⟨2, ![1, 512]⟩
abbrev S32x16 : Shape := ⟨2, ![32, 16]⟩
abbrev S2x2048 : Shape := ⟨2, ![2, 2048]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1x1024, .f32⟩
  | 1 => ⟨S1x31x512, .f32⟩
  | 2 => ⟨S1x512, .f32⟩
  | 3 => ⟨S1x512, .f32⟩
  | 4 => ⟨S1x512, .f32⟩
  | 5 => ⟨S1x512, .f32⟩
  | 6 => ⟨S32x16, .f32⟩
  | 7 => ⟨S2x2048, .f32⟩
  | 8 => ⟨S2x2048, .f32⟩
  | 9 => ⟨S2x2048, .f32⟩
  | 10 => ⟨S2x2048, .f32⟩
  | 11 => ⟨S1x1024, .f32⟩
  | 12 => ⟨S1x31x512, .f32⟩
  | 13 => ⟨S1x512, .f32⟩
  | 14 => ⟨S1x512, .f32⟩
  | 15 => ⟨S1x512, .f32⟩
  | 16 => ⟨S1x512, .f32⟩
  | 17 => ⟨S32x16, .f32⟩
  | 18 => ⟨S2x2048, .f32⟩
  | 19 => ⟨S2x2048, .f32⟩
  | 20 => ⟨S2x2048, .f32⟩
  | 21 => ⟨S2x2048, .f32⟩
  | 22 => ⟨S1x1024, .f32⟩
  | 23 => ⟨S1x31x512, .f32⟩
  | 24 => ⟨S1x512, .f32⟩
  | 25 => ⟨S1x512, .f32⟩
  | 26 => ⟨S1x512, .f32⟩
  | 27 => ⟨S1x512, .f32⟩
  | 28 => ⟨S32x16, .f32⟩
  | 29 => ⟨S2x2048, .f32⟩
  | 30 => ⟨S2x2048, .f32⟩
  | 31 => ⟨S2x2048, .f32⟩
  | 32 => ⟨S2x2048, .f32⟩
  | 33 => ⟨S1x1024, .f32⟩
  | 34 => ⟨S1x31x512, .f32⟩
  | 35 => ⟨S1x512, .f32⟩
  | 36 => ⟨S1x512, .f32⟩
  | 37 => ⟨S1x512, .f32⟩
  | 38 => ⟨S1x512, .f32⟩
  | 39 => ⟨S32x16, .f32⟩
  | 40 => ⟨S2x2048, .f32⟩
  | 41 => ⟨S2x2048, .f32⟩
  | 42 => ⟨S2x2048, .f32⟩
  | 43 => ⟨S2x2048, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x31x512, .f32⟩
  | 79 => ⟨S1x31x512, .f32⟩
  | 80 => ⟨S_, .f32⟩
  | 81 => ⟨S1x31x512, .f32⟩
  | 82 => ⟨S1x31x512, .f32⟩
  | 83 => ⟨S1x31x512, .f32⟩
  | 84 => ⟨S_, .f32⟩
  | 85 => ⟨S1x31x512, .f32⟩
  | 86 => ⟨S1x31x512, .f32⟩
  | 87 => ⟨S1x31x512, .f32⟩
  | 88 => ⟨S_, .f32⟩
  | 89 => ⟨S1x31x512, .f32⟩
  | 90 => ⟨S1x31x512, .f32⟩
  | 91 => ⟨S1x31x512, .f32⟩
  | 92 => ⟨S_, .f32⟩
  | 93 => ⟨S1x31x512, .f32⟩
  | 94 => ⟨S1x31x512, .f32⟩
  | 95 => ⟨S_, .f32⟩
  | 96 => ⟨S1x31x512, .f32⟩
  | 97 => ⟨S1x31x512, .f32⟩
  | 98 => ⟨S1x31x512, .f32⟩
  | 99 => ⟨S_, .f32⟩
  | 100 => ⟨S1x31x512, .f32⟩
  | 101 => ⟨S1x31x512, .f32⟩
  | 102 => ⟨S1x31x512, .f32⟩
  | 103 => ⟨S_, .f32⟩
  | 104 => ⟨S1x31x512, .f32⟩
  | 105 => ⟨S1x31x512, .f32⟩
  | 106 => ⟨S1x31x512, .f32⟩
  | 107 => ⟨S_, .f32⟩
  | 108 => ⟨S1x31x512, .f32⟩
  | 109 => ⟨S1x31x512, .f32⟩
  | 110 => ⟨S_, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x1024, .f32⟩

abbrev hbmTy0_1 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S_, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S_, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S1x512, .f32⟩
  | 63 => ⟨S_, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S1x512, .f32⟩
  | 78 => ⟨S_, .f32⟩
  | 79 => ⟨S1x512, .f32⟩
  | 80 => ⟨S1x512, .f32⟩
  | 81 => ⟨S_, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S1x512, .f32⟩
  | 88 => ⟨S_, .f32⟩
  | 89 => ⟨S1x512, .f32⟩
  | 90 => ⟨S1x512, .f32⟩
  | 91 => ⟨S1x512, .f32⟩
  | 92 => ⟨S_, .f32⟩
  | 93 => ⟨S1x512, .f32⟩
  | 94 => ⟨S1x512, .f32⟩
  | 95 => ⟨S1x512, .f32⟩
  | 96 => ⟨S_, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S1x512, .f32⟩
  | 107 => ⟨S_, .f32⟩
  | 108 => ⟨S1x512, .f32⟩
  | 109 => ⟨S1x512, .f32⟩
  | 110 => ⟨S1x512, .f32⟩
  | 111 => ⟨S_, .f32⟩
  | 112 => ⟨S1x512, .f32⟩
  | 113 => ⟨S1x512, .f32⟩
  | 114 => ⟨S_, .f32⟩
  | 115 => ⟨S32x16, .f32⟩
  | 116 => ⟨S32x16, .f32⟩
  | 117 => ⟨S_, .f32⟩
  | 118 => ⟨S32x16, .f32⟩
  | 119 => ⟨S32x16, .f32⟩
  | 120 => ⟨S32x16, .f32⟩
  | 121 => ⟨S_, .f32⟩
  | 122 => ⟨S32x16, .f32⟩
  | 123 => ⟨S32x16, .f32⟩
  | 124 => ⟨S32x16, .f32⟩
  | 125 => ⟨S_, .f32⟩
  | 126 => ⟨S32x16, .f32⟩
  | 127 => ⟨S32x16, .f32⟩
  | _ => ⟨S1x1024, .f32⟩

abbrev hbmTy0_2 (i : Nat) : BufTy := match i % 128 with
  | 0 => ⟨S32x16, .f32⟩
  | 1 => ⟨S_, .f32⟩
  | 2 => ⟨S32x16, .f32⟩
  | 3 => ⟨S32x16, .f32⟩
  | 4 => ⟨S_, .f32⟩
  | 5 => ⟨S32x16, .f32⟩
  | 6 => ⟨S32x16, .f32⟩
  | 7 => ⟨S32x16, .f32⟩
  | 8 => ⟨S_, .f32⟩
  | 9 => ⟨S32x16, .f32⟩
  | 10 => ⟨S32x16, .f32⟩
  | 11 => ⟨S32x16, .f32⟩
  | 12 => ⟨S_, .f32⟩
  | 13 => ⟨S32x16, .f32⟩
  | 14 => ⟨S32x16, .f32⟩
  | 15 => ⟨S32x16, .f32⟩
  | 16 => ⟨S_, .f32⟩
  | 17 => ⟨S32x16, .f32⟩
  | 18 => ⟨S32x16, .f32⟩
  | 19 => ⟨S_, .f32⟩
  | 20 => ⟨S2x2048, .f32⟩
  | 21 => ⟨S2x2048, .f32⟩
  | 22 => ⟨S_, .f32⟩
  | 23 => ⟨S2x2048, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S2x2048, .f32⟩
  | 30 => ⟨S_, .f32⟩
  | 31 => ⟨S2x2048, .f32⟩
  | 32 => ⟨S2x2048, .f32⟩
  | 33 => ⟨S2x2048, .f32⟩
  | 34 => ⟨S_, .f32⟩
  | 35 => ⟨S2x2048, .f32⟩
  | 36 => ⟨S2x2048, .f32⟩
  | 37 => ⟨S_, .f32⟩
  | 38 => ⟨S2x2048, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S2x2048, .f32⟩
  | 45 => ⟨S_, .f32⟩
  | 46 => ⟨S2x2048, .f32⟩
  | 47 => ⟨S2x2048, .f32⟩
  | 48 => ⟨S2x2048, .f32⟩
  | 49 => ⟨S_, .f32⟩
  | 50 => ⟨S2x2048, .f32⟩
  | 51 => ⟨S2x2048, .f32⟩
  | 52 => ⟨S_, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S_, .f32⟩
  | 86 => ⟨S2x2048, .f32⟩
  | 87 => ⟨S2x2048, .f32⟩
  | 88 => ⟨S_, .f32⟩
  | 89 => ⟨S2x2048, .f32⟩
  | 90 => ⟨S2x2048, .f32⟩
  | 91 => ⟨S2x2048, .f32⟩
  | 92 => ⟨S_, .f32⟩
  | 93 => ⟨S2x2048, .f32⟩
  | 94 => ⟨S2x2048, .f32⟩
  | 95 => ⟨S2x2048, .f32⟩
  | 96 => ⟨S_, .f32⟩
  | 97 => ⟨S2x2048, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S_, .f32⟩
  | 104 => ⟨S2x2048, .f32⟩
  | 105 => ⟨S2x2048, .f32⟩
  | 106 => ⟨S2x2048, .f32⟩
  | 107 => ⟨S_, .f32⟩
  | 108 => ⟨S2x2048, .f32⟩
  | 109 => ⟨S2x2048, .f32⟩
  | 110 => ⟨S2x2048, .f32⟩
  | 111 => ⟨S_, .f32⟩
  | 112 => ⟨S2x2048, .f32⟩
  | 113 => ⟨S2x2048, .f32⟩
  | 114 => ⟨S2x2048, .f32⟩
  | 115 => ⟨S_, .f32⟩
  | 116 => ⟨S2x2048, .f32⟩
  | 117 => ⟨S2x2048, .f32⟩
  | 118 => ⟨S_, .f32⟩
  | 119 => ⟨S2x2048, .f32⟩
  | 120 => ⟨S2x2048, .f32⟩
  | 121 => ⟨S_, .f32⟩
  | 122 => ⟨S2x2048, .f32⟩
  | 123 => ⟨S2x2048, .f32⟩
  | 124 => ⟨S2x2048, .f32⟩
  | 125 => ⟨S_, .f32⟩
  | 126 => ⟨S2x2048, .f32⟩
  | 127 => ⟨S2x2048, .f32⟩
  | _ => ⟨S1x1024, .f32⟩

abbrev hbmTy0_3 (i : Nat) : BufTy := match i % 128 with
  | 0 => ⟨S2x2048, .f32⟩
  | 1 => ⟨S_, .f32⟩
  | 2 => ⟨S2x2048, .f32⟩
  | 3 => ⟨S2x2048, .f32⟩
  | 4 => ⟨S2x2048, .f32⟩
  | 5 => ⟨S_, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S2x2048, .f32⟩
  | 16 => ⟨S_, .f32⟩
  | 17 => ⟨S2x2048, .f32⟩
  | 18 => ⟨S2x2048, .f32⟩
  | 19 => ⟨S2x2048, .f32⟩
  | 20 => ⟨S_, .f32⟩
  | 21 => ⟨S2x2048, .f32⟩
  | 22 => ⟨S2x2048, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Kernel16.lean ====
abbrev S8x728x128 : Shape := ⟨3, ![8, 728, 128]⟩
abbrev S728x128 : Shape := ⟨2, ![728, 128]⟩
abbrev S1x728x128 : Shape := ⟨3, ![1, 728, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x728x128, .f32⟩
  | .hbm, ⟨1, _⟩ => ⟨S728x128, .f32⟩
  | .local _ .vmem, ⟨0, _⟩ => ⟨S8x728x128, .f32⟩
  | .local _ .vmem, ⟨1, _⟩ => ⟨S728x128, .f32⟩
  | _, _ => ⟨S8x728x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x728x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S728x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S8x728x128 : Shape := ⟨3, ![8, 728, 128]⟩
abbrev S_ : Shape := ⟨0, ![]⟩
abbrev S728x128 : Shape := ⟨2, ![728, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x728x128, .f32⟩
  | .hbm, ⟨1, _⟩ => ⟨S_, .f32⟩
  | .hbm, ⟨2, _⟩ => ⟨S728x128, .f32⟩
  | _, _ => ⟨S8x728x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ReadAt.lean ====
/- An array read at natural numbers, zero outside its extents, and a contraction split over two or four equal parts of
   its axis. A block of an array is then the array read at the block's first element plus the coordinate, and the
   bounds of the coordinates need no proofs inside the terms. -/
module

public import Idealize.ShloMosaic.Lib.Pipeline.ValueKit
public import Idealize.ShloMosaic.Lib.Pointwise

@[expose] public section

set_option maxRecDepth 16384

noncomputable section

namespace Cert.ReadAt

open Idealize.ShloMosaic
open scoped BigOperators

/-- A matrix read at natural numbers, zero outside. -/
def at2 {n p : ℕ} (X : (⟨2, ![n, p]⟩ : Shape).Idx → EReal) (r d : ℕ) : EReal :=
  if h : r < n ∧ d < p then X (ix2 ⟨r, h.1⟩ ⟨d, h.2⟩) else 0

theorem at2_ix {n p : ℕ} (X : (⟨2, ![n, p]⟩ : Shape).Idx → EReal) (r : Fin n) (d : Fin p) :
    X (ix2 r d) = at2 X r d := by
  unfold at2; rw [dif_pos ⟨r.isLt, d.isLt⟩]

theorem at2_out {n p : ℕ} (X : (⟨2, ![n, p]⟩ : Shape).Idx → EReal) (r d : ℕ) (h : n ≤ r) : at2 X r d = 0 := by
  unfold at2; rw [dif_neg (by omega)]

/-- An element at an index of known coordinates. -/
theorem eq_at2 {n p : ℕ} (X : (⟨2, ![n, p]⟩ : Shape).Idx → EReal) (i : (⟨2, ![n, p]⟩ : Shape).Idx) (r d : ℕ)
    (h0 : (i 0).val = r) (h1 : (i 1).val = d) : X i = at2 X r d := by
  subst h0 h1
  rw [← at2_ix X (i 0) (i 1)]
  exact congrArg X (funext fun a => by match a with | ⟨0, _⟩ => rfl | ⟨1, _⟩ => rfl)

/-- Two halves of a sum. -/
theorem sum_halves (n : ℕ) {L : ℕ} (f : ℕ → EReal) (hL : L = 2 * n) :
    (∑ k : Fin n, f (0 * n + k.val)) + (∑ k : Fin n, f (1 * n + k.val)) = ∑ l : Fin L, f l.val := by
  rw [← Fin.sum_mul_add_fin 2 n (fun l : Fin L => f l.val) hL, Fin.sum_univ_two]
  rfl

/-- Four quarters of a sum, added from the first. -/
theorem sum_quarters (n : ℕ) {L : ℕ} (f : ℕ → EReal) (hL : L = 4 * n) :
    (((∑ k : Fin n, f (0 * n + k.val)) + (∑ k : Fin n, f (1 * n + k.val))) + (∑ k : Fin n, f (2 * n + k.val)))
      + (∑ k : Fin n, f (3 * n + k.val)) = ∑ l : Fin L, f l.val := by
  rw [← Fin.sum_mul_add_fin 4 n (fun l : Fin L => f l.val) hL, Fin.sum_univ_four]
  rfl

/-- A stack of four matrices along a new leading axis, read at an index. -/
theorem stack_apply {n p : ℕ} (f : Fin 4 → (⟨3, ![1, n, p]⟩ : Shape).Idx → EReal)
    (h : Shape.Concatenates [(⟨3, ![1, n, p]⟩ : Shape), ⟨3, ![1, n, p]⟩, ⟨3, ![1, n, p]⟩, ⟨3, ![1, n, p]⟩] ⟨3, ![4, n, p]⟩ 0)
    (j : (⟨3, ![4, n, p]⟩ : Shape).Idx) :
    concatenate (⟨3, ![4, n, p]⟩ : Shape) 0 [⟨_, f 0⟩, ⟨_, f 1⟩, ⟨_, f 2⟩, ⟨_, f 3⟩] h j = f (j 0) (ix3 0 (j 1) (j 2)) :=
  concatenate_ofFn_unit_apply (0 : Fin (⟨3, ![4, n, p]⟩ : Shape).rank) f h rfl rfl j (j 0) rfl (ix3 0 (j 1) (j 2))
    (by intro b hb
        match b with
        | ⟨0, _⟩ => exact absurd rfl hb
        | ⟨1, _⟩ => rfl
        | ⟨2, _⟩ => rfl)

/-- An entry of a matrix at natural numbers within its extents. -/
theorem at2_eq {n p : ℕ} (X : (⟨2, ![n, p]⟩ : Shape).Idx → EReal) (r d : ℕ) (hr : r < n) (hd : d < p) :
    at2 X r d = X (ix2 ⟨r, hr⟩ ⟨d, hd⟩) := (at2_ix X ⟨r, hr⟩ ⟨d, hd⟩).symm

/-- One column shard with its leading axis. -/
theorem shard_at {n q p : ℕ} (o : ℕ) (W : (⟨2, ![n, q]⟩ : Shape).Idx → EReal)
    (hs : Shape.Slices ⟨2, ![n, q]⟩ ![0, o] ⟨2, ![n, p]⟩)
    (hb : Shape.BroadcastsInDim ⟨2, ![n, p]⟩ ⟨3, ![1, n, p]⟩ (![1, 2] : Fin 2 → Fin 3))
    (i : (⟨3, ![1, n, p]⟩ : Shape).Idx) :
    broadcastInDim ⟨3, ![1, n, p]⟩ ![1, 2] hb (extractStridedSlice ⟨2, ![n, p]⟩ ![0, o] W hs) i
      = at2 W (i 1).val (o + (i 2).val) := by
  have h1 : (i 1).val < n := (i 1).isLt
  have h2 : (i 2).val < p := (i 2).isLt
  have hq : o + p ≤ q := hs.2 1
  refine (broadcastInDim_apply _ hb _ i (ix2 ⟨(i 1).val, h1⟩ ⟨(i 2).val, h2⟩) fun a => ?_).trans
    ((extractStridedSlice_apply ![0, o] W hs _ (ix2 ⟨(i 1).val, h1⟩ ⟨o + (i 2).val, by omega⟩) fun a => ?_).trans
      (at2_ix W _ _))
  · match a with
    | ⟨0, _⟩ => show (i 1).val = if n = 1 then 0 else (i 1).val; split <;> omega
    | ⟨1, _⟩ => show (i 2).val = if p = 1 then 0 else (i 2).val; split <;> omega
  · match a with
    | ⟨0, _⟩ => show (i 1).val = 0 + (i 1).val; omega
    | ⟨1, _⟩ => rfl

/-- A matrix cut into four column shards, stacked. -/
theorem cols_at {n q p : ℕ} (o1 o2 o3 : ℕ) (W : (⟨2, ![n, q]⟩ : Shape).Idx → EReal)
    (s0 : Shape.Slices ⟨2, ![n, q]⟩ ![0, 0] ⟨2, ![n, p]⟩) (s1 : Shape.Slices ⟨2, ![n, q]⟩ ![0, o1] ⟨2, ![n, p]⟩)
    (s2 : Shape.Slices ⟨2, ![n, q]⟩ ![0, o2] ⟨2, ![n, p]⟩) (s3 : Shape.Slices ⟨2, ![n, q]⟩ ![0, o3] ⟨2, ![n, p]⟩)
    (hb : Shape.BroadcastsInDim ⟨2, ![n, p]⟩ ⟨3, ![1, n, p]⟩ (![1, 2] : Fin 2 → Fin 3))
    (h : Shape.Concatenates [(⟨3, ![1, n, p]⟩ : Shape), ⟨3, ![1, n, p]⟩, ⟨3, ![1, n, p]⟩, ⟨3, ![1, n, p]⟩] ⟨3, ![4, n, p]⟩ 0)
    (j : (⟨3, ![4, n, p]⟩ : Shape).Idx) (h1 : o1 = p) (h2 : o2 = 2 * p) (h3 : o3 = 3 * p) :
    concatenate (⟨3, ![4, n, p]⟩ : Shape) 0
        [⟨_, broadcastInDim ⟨3, ![1, n, p]⟩ ![1, 2] hb (extractStridedSlice ⟨2, ![n, p]⟩ ![0, 0] W s0)⟩,
         ⟨_, broadcastInDim ⟨3, ![1, n, p]⟩ ![1, 2] hb (extractStridedSlice ⟨2, ![n, p]⟩ ![0, o1] W s1)⟩,
         ⟨_, broadcastInDim ⟨3, ![1, n, p]⟩ ![1, 2] hb (extractStridedSlice ⟨2, ![n, p]⟩ ![0, o2] W s2)⟩,
         ⟨_, broadcastInDim ⟨3, ![1, n, p]⟩ ![1, 2] hb (extractStridedSlice ⟨2, ![n, p]⟩ ![0, o3] W s3)⟩] h j
      = at2 W (j 1).val ((j 0).val * p + (j 2).val) := by
  subst h1 h2 h3
  have hall : ∀ (s : Fin 4) (a : Fin n) (b : Fin o1),
      (![broadcastInDim ⟨3, ![1, n, o1]⟩ ![1, 2] hb (extractStridedSlice ⟨2, ![n, o1]⟩ ![0, 0] W s0),
         broadcastInDim ⟨3, ![1, n, o1]⟩ ![1, 2] hb (extractStridedSlice ⟨2, ![n, o1]⟩ ![0, o1] W s1),
         broadcastInDim ⟨3, ![1, n, o1]⟩ ![1, 2] hb (extractStridedSlice ⟨2, ![n, o1]⟩ ![0, 2 * o1] W s2),
         broadcastInDim ⟨3, ![1, n, o1]⟩ ![1, 2] hb (extractStridedSlice ⟨2, ![n, o1]⟩ ![0, 3 * o1] W s3)] : Fin 4 → _) s (ix3 0 a b)
        = at2 W a.val (s.val * o1 + b.val) := by
    intro s a b
    match s with
    | 0 => exact (shard_at 0 W s0 hb _).trans (congrArg (at2 W a.val) (by simp))
    | 1 => exact (shard_at o1 W s1 hb _).trans (congrArg (at2 W a.val) (by simp))
    | 2 => exact shard_at (2 * o1) W s2 hb _
    | 3 => exact shard_at (3 * o1) W s3 hb _
  exact (stack_apply ![_, _, _, _] h j).trans (hall (j 0) (j 1) (j 2))

/-- A matrix cut into row shards, stacked. -/
theorem rows_at {n p r : ℕ} (W : (⟨2, ![n, p]⟩ : Shape).Idx → EReal)
    (h : Shape.ShapeCasts ⟨2, ![n, p]⟩ ⟨3, ![4, r, p]⟩) (j : (⟨3, ![4, r, p]⟩ : Shape).Idx) (hn : n = 4 * r) :
    shapeCast ⟨3, ![4, r, p]⟩ W h j = at2 W ((j 0).val * r + (j 1).val) (j 2).val := by
  have h0 : (j 0).val < 4 := (j 0).isLt
  have h1 : (j 1).val < r := (j 1).isLt
  have hl : (j 0).val * r + (j 1).val < n := by
    have := Nat.mul_le_mul_right r (show (j 0).val ≤ 3 by omega)
    omega
  refine (shapeCast_apply W h j (ix2 ⟨(j 0).val * r + (j 1).val, hl⟩ (j 2)) ?_).trans (at2_ix W _ _)
  rw [Shape.rowMajor_val_two, Shape.rowMajor_val_three]
  rfl

end Cert.ReadAt

end
-- ==== Proof.Adam.lean ====
/- AdamW's step on one number, and the two calls of it on a matrix. -/
module

public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.ReadAt

@[expose] public section

set_option maxRecDepth 16384

noncomputable section

open Idealize.ShloMosaic Idealize.ShloMosaic.TcCoe Idealize.SL.Sem

namespace Cert.Adam

abbrev lit (b : BitVec 32) : Ideal .f32 := Scalar.ofBits .f32 b

/-- The first moment. -/
def mom (g m : Ideal .f32) : Ideal .f32 :=
  FloatOps.addf (FloatOps.mulf (lit 0x3F666666#32) m) (FloatOps.mulf (lit 0x3DCCCCCD#32) g)

/-- The second moment. -/
def sec (g v : Ideal .f32) : Ideal .f32 :=
  FloatOps.addf (FloatOps.mulf (lit 0x3F7FBE77#32) v) (FloatOps.mulf (lit 0x3A83126F#32) (FloatOps.mulf g g))

/-- The change of the weight. -/
def del (w g m v : Ideal .f32) : Ideal .f32 :=
  FloatOps.mulf (lit 0xBA83126F#32) (FloatOps.addf
    (FloatOps.divf (FloatOps.divf (mom g m) (lit 0x3F26BD02#32))
      (FloatOps.addf (FloatOps.sqrt (FloatOps.divf (sec g v) (lit 0x3C231ACC#32))) (lit 0x322BCC77#32)))
    (FloatOps.mulf (lit 0x3C23D70A#32) w))

section whole
open Cert.Kernel12Ideal Cert.Kernel12Ideal.Gen
variable (m : (ℓ : Loc nD τ sig) → Buf (Elt Ideal) ℓ) (c : Dev nD)

theorem whole_delta : (dats m 0 c).arrAt 4 cfg0.N = Reference12Ideal.Read.val_main_v23 (F := Ideal)
    (m ((c : Thread nD τ).loc main_arg0)) (m ((c : Thread nD τ).loc main_arg1)) (m ((c : Thread nD τ).loc main_arg2))
    (m ((c : Thread nD τ).loc main_arg3)) := (Value.final4 m c).trans rfl

theorem whole_mom : (dats m 0 c).arrAt 5 cfg0.N = Reference12Ideal.Read.val_main_v4 (F := Ideal)
    (m ((c : Thread nD τ).loc main_arg1)) (m ((c : Thread nD τ).loc main_arg2)) := (Value.final5 m c).trans rfl

theorem whole_sec : (dats m 0 c).arrAt 6 cfg0.N = Reference12Ideal.Read.val_main_v10 (F := Ideal)
    (m ((c : Thread nD τ).loc main_arg1)) (m ((c : Thread nD τ).loc main_arg3)) := (Value.final6 m c).trans rfl

end whole

section rows
open Cert.Kernel13Ideal Cert.Kernel13Ideal.Gen
theorem pay_mom (g m : Vec Ideal S512x1024 .f32) (y : S512x1024.Idx) : k0_pay1 g m y = mom (g y) (m y) := by
  unfold k0_pay1; rw [shapeCast_self]; rfl

theorem pay_sec (g v : Vec Ideal S512x1024 .f32) (y : S512x1024.Idx) : k0_pay2 g v y = sec (g y) (v y) := by
  unfold k0_pay2; rw [shapeCast_self]; rfl

theorem pay_del (g m v w : Vec Ideal S512x1024 .f32) (y : S512x1024.Idx) : k0_pay3 g m v w y = del (w y) (g y) (m y) (v y) := by
  unfold k0_pay3 k0_pay1 k0_pay2; simp only [shapeCast_self]; rfl

theorem ref_mom (g : (⟨S512x2048, .f32⟩ : BufTy).Contents (Elt Ideal)) (m : (⟨S1x512x2048, .f32⟩ : BufTy).Contents (Elt Ideal)) (i : S512x2048.Idx) :
    Reference13Ideal.Read.val_main_v7 g m i = mom (g i) (Reference13Ideal.Read.val_main_v1 m i) := rfl

theorem ref_sec (g : (⟨S512x2048, .f32⟩ : BufTy).Contents (Elt Ideal)) (v : (⟨S1x512x2048, .f32⟩ : BufTy).Contents (Elt Ideal)) (i : S512x2048.Idx) :
    Reference13Ideal.Read.val_main_v13 g v i = sec (g i) (Reference13Ideal.Read.val_main_v2 v i) := rfl

theorem ref_del (w : (⟨S1x512x2048, .f32⟩ : BufTy).Contents (Elt Ideal)) (g : (⟨S512x2048, .f32⟩ : BufTy).Contents (Elt Ideal)) (m v : (⟨S1x512x2048, .f32⟩ : BufTy).Contents (Elt Ideal)) (i : S512x2048.Idx) :
    Reference13Ideal.Read.val_main_v26 w g m v i
      = del (Reference13Ideal.Read.val_main_v0 w i) (g i) (Reference13Ideal.Read.val_main_v1 m i)
          (Reference13Ideal.Read.val_main_v2 v i) := rfl

variable (m : (ℓ : Loc nD τ sig) → Buf (Elt Ideal) ℓ) (c : Dev nD)

theorem rows_w : V m c main_v0 = Reference13Ideal.Read.val_main_v0 (F := Ideal) (m ((c : Thread nD τ).loc main_arg0)) := by
  show StableHlo.after hostOps0 (fun b => m (c, b)) _ = _; after_results; rfl

theorem rows_m : V m c main_v1 = Reference13Ideal.Read.val_main_v1 (F := Ideal) (m ((c : Thread nD τ).loc main_arg2)) := by
  show StableHlo.after hostOps0 (fun b => m (c, b)) _ = _; after_results; rfl

theorem rows_v : V m c main_v2 = Reference13Ideal.Read.val_main_v2 (F := Ideal) (m ((c : Thread nD τ).loc main_arg3)) := by
  show StableHlo.after hostOps0 (fun b => m (c, b)) _ = _; after_results; rfl

variable (t : Fin cfg0.grid.N) (y : S512x1024.Idx)

theorem read_w : iblk m c 0 t y = Reference13Ideal.Read.val_main_v0 (F := Ideal) (m ((c : Thread nD τ).loc main_arg0))
    ((win0_5.blk t).view.emb y) := congrFun (rows_w m c) _

theorem read_g : iblk m c 1 t y = m ((c : Thread nD τ).loc main_arg1) ((win0_5.blk t).view.emb y) :=
  congrFun (V_main_arg1 m c) _

theorem read_m : iblk m c 2 t y = Reference13Ideal.Read.val_main_v1 (F := Ideal) (m ((c : Thread nD τ).loc main_arg2))
    ((win0_5.blk t).view.emb y) := congrFun (rows_m m c) _

theorem read_v : iblk m c 3 t y = Reference13Ideal.Read.val_main_v2 (F := Ideal) (m ((c : Thread nD τ).loc main_arg3))
    ((win0_5.blk t).view.emb y) := congrFun (rows_v m c) _

omit t y

theorem rows_delta : (dats m 0 c).arrAt 4 cfg0.N = Reference13Ideal.Read.val_main_v26 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t _ y => ?_
  blk_simp
  rw [after0_4]
  frame_out
  exact (pay_del _ _ _ _ y).trans ((congr (congr (congr (congrArg del (read_w m c t y)) (read_g m c t y)) (read_m m c t y))
    (read_v m c t y)).trans (ref_del _ _ _ _ _).symm)

theorem rows_mom : (dats m 0 c).arrAt 5 cfg0.N = Reference13Ideal.Read.val_main_v7 (F := Ideal)
    (m ((c : Thread nD τ).loc main_arg1)) (m ((c : Thread nD τ).loc main_arg2)) := by
  refine (dats m 0 c).arrAt_eq_of_covers 5 _ (by decide +kernel) fun t _ y => ?_
  blk_simp
  rw [after0_5]
  frame_out
  exact (pay_mom _ _ y).trans ((congr (congrArg mom (read_g m c t y)) (read_m m c t y)).trans (ref_mom _ _ _).symm)

theorem rows_sec : (dats m 0 c).arrAt 6 cfg0.N = Reference13Ideal.Read.val_main_v13 (F := Ideal)
    (m ((c : Thread nD τ).loc main_arg1)) (m ((c : Thread nD τ).loc main_arg3)) := by
  refine (dats m 0 c).arrAt_eq_of_covers 6 _ (by decide +kernel) fun t _ y => ?_
  blk_simp
  rw [after0_6]
  frame_out
  exact (pay_sec _ _ y).trans ((congr (congrArg sec (read_g m c t y)) (read_v m c t y)).trans (ref_sec _ _ _).symm)

end rows

end Cert.Adam

end
-- ==== Proof.PackMap.lean ====
/- Packing arrays commutes with a function of their elements: a concatenation and a padding of mapped pieces is the
   mapped concatenation and padding. And cutting a piece out of a concatenation, or the front out of a padding, gives what
   was put there. -/
module

public import Idealize.ShloMosaic.Lib.Pipeline.ValueKit
public import Idealize.ShloMosaic.Lib.Pointwise
public import Idealize.ShloMosaic.Lib.KernelVsHost

@[expose] public section

namespace Cert.PackMap

open Idealize.ShloMosaic

variable {α β : Type}

/-- The pieces of a concatenation, mapped. -/
abbrev mapped (f : α → β) (xs : List ((s : Shape) × (s.Idx → α))) : List ((s : Shape) × (s.Idx → β)) :=
  xs.map fun p => ⟨p.1, fun i => f (p.2 i)⟩

theorem at_map (f : α → β) (t : Shape) (a : Fin t.rank) (j : t.Idx) :
    ∀ (xs : List ((s : Shape) × (s.Idx → α))) (hs hs') (c : ℕ) (hc hc'),
      concatenateAt t a j (mapped f xs) hs' c hc' = f (concatenateAt t a j xs hs c hc)
  | [], _, _, _, hc, _ => absurd hc (Nat.not_lt_zero _)
  | [⟨s, x⟩], hs, hs', c, hc, hc' => by
      rw [concatenateAt_singleton]
      exact concatenateAt_singleton a j (fun i => f (x i)) hs' c hc'
  | ⟨s, x⟩ :: q :: xs, hs, hs', c, hc, hc' => by
      rw [concatenateAt_cons]
      refine (concatenateAt_cons a j (fun i => f (x i)) ⟨q.1, fun i => f (q.2 i)⟩ (mapped f xs) hs' c hc').trans ?_
      split
      · rfl
      · exact at_map f t a j (q :: xs) _ _ _ _ _

theorem concatenate_map (f : α → β) (t : Shape) (a : Fin t.rank) (xs : List ((s : Shape) × (s.Idx → α)))
    (h : Shape.Concatenates (xs.map (·.1)) t a) (h' : Shape.Concatenates ((mapped f xs).map (·.1)) t a) :
    concatenate t a (mapped f xs) h' = fun j => f (concatenate t a xs h j) := by
  funext j
  rw [concatenate_apply, concatenate_apply]
  exact at_map f t a j xs _ _ _ _ _

theorem pad_map (f : α → β) {s : Shape} (t : Shape) (lo hi interior : Fin s.rank → ℕ) (x : s.Idx → α) {u : Shape}
    (v : u.Idx → α) (h : s.Pads lo hi interior t) (hu : 0 < u.numel) :
    pad t lo hi interior (fun i => f (x i)) (fun i => f (v i)) h hu = fun j => f (pad t lo hi interior x v h hu j) := by
  funext j
  unfold pad
  split <;> rfl

/-- The front of an array padded at its end. -/
theorem pad_front (n N k : ℕ) (x : (⟨1, ![n]⟩ : Shape).Idx → α) {u : Shape} (v : u.Idx → α)
    (hp : Shape.Pads ⟨1, ![n]⟩ ![0] ![k] ![0] ⟨1, ![N]⟩) (hu : 0 < u.numel) (hs : Shape.Slices ⟨1, ![N]⟩ ![0] ⟨1, ![n]⟩) :
    extractStridedSlice ⟨1, ![n]⟩ ![0] (pad ⟨1, ![N]⟩ ![0] ![k] ![0] x v hp hu) hs = x := by
  funext j
  unfold extractStridedSlice
  refine pad_apply_of_inside _ _ _ _ _ hp hu _ j fun a => ?_
  match a with
  | ⟨0, _⟩ => show 0 + (j 0).val = 0 + (j 0).val * (0 + 1); omega

/-- A padding by nothing. -/
theorem pad_none (n : ℕ) (x : (⟨1, ![n]⟩ : Shape).Idx → α) {u : Shape} (v : u.Idx → α)
    (hp : Shape.Pads ⟨1, ![n]⟩ ![0] ![0] ![0] ⟨1, ![n]⟩) (hu : 0 < u.numel) :
    pad ⟨1, ![n]⟩ ![0] ![0] ![0] x v hp hu = x := by
  funext j
  refine pad_apply_of_inside _ _ _ _ _ hp hu _ j fun a => ?_
  match a with
  | ⟨0, _⟩ => show (j 0).val = 0 + (j 0).val * (0 + 1); omega

/-- The rows of a concatenation that one piece fills. -/
theorem cut_piece (T R o : ℕ) (xs : List ((s : Shape) × (s.Idx → α)))
    (h : Shape.Concatenates (xs.map (·.1)) ⟨2, ![T, 128]⟩ 0) (hs : Shape.Slices ⟨2, ![T, 128]⟩ ![o, 0] ⟨2, ![R, 128]⟩)
    (k : ℕ) (hk : k < xs.length) (x : (⟨2, ![R, 128]⟩ : Shape).Idx → α) (hx : xs[k] = ⟨⟨2, ![R, 128]⟩, x⟩)
    (ho : (((xs.take k).map (·.1)).map fun s => if h : s.rank = (⟨2, ![T, 128]⟩ : Shape).rank
      then s.size ((0 : Fin (⟨2, ![T, 128]⟩ : Shape).rank).cast h.symm) else 0).sum = o) :
    extractStridedSlice ⟨2, ![R, 128]⟩ ![o, 0] (concatenate ⟨2, ![T, 128]⟩ 0 xs h) hs = x := by
  funext j
  unfold extractStridedSlice
  refine concatenate_apply_piece 0 xs h _ k hk _ x hx rfl o ho j (fun b hb => ?_) rfl
  match b with
  | ⟨0, _⟩ => exact absurd rfl hb
  | ⟨1, _⟩ => show (j 1).val = 0 + (j 1).val; omega

end Cert.PackMap
-- ==== Proof.AdamSmall.lean ====
/- AdamW's call on the eleven small weights, packed into rows of 128. The step of the packed arrays is the packed step, and
   the step of the zeros that fill up the rows is zero; what is then unpacked is the step of each array. -/
module

public import proofs.«01_k».proof.Proof.Gen.Kernel15Ideal.Frame
public import proofs.«01_k».proof.Proof.Gen.Reference15Ideal.Read
public import proofs.«01_k».proof.Proof.Adam
public import proofs.«01_k».proof.Proof.PackMap
public import Idealize.ShloMosaic.Lib.StableHlo.RunRead

@[expose] public section

set_option maxRecDepth 16384

noncomputable section

open Idealize.ShloMosaic Idealize.ShloMosaic.TcCoe Idealize.SL.Sem

namespace Cert.AdamSmall

open Cert.Adam Cert.PackMap Cert.Kernel15Ideal Cert.Kernel15Ideal.Gen

variable {α β : Type}

/-- Arrays of the shapes of the eleven small weights. -/
@[ext] structure Small (α : Type) where
  a0 : S1x1024.Idx → α
  a1 : S1x31x512.Idx → α
  a2 : S1x512.Idx → α
  a3 : S1x512.Idx → α
  a4 : S1x512.Idx → α
  a5 : S1x512.Idx → α
  a6 : S32x16.Idx → α
  a7 : S2x2048.Idx → α
  a8 : S2x2048.Idx → α
  a9 : S2x2048.Idx → α
  a10 : S2x2048.Idx → α

def Small.map (f : α → β) (A : Small α) : Small β :=
  ⟨fun i => f (A.a0 i), fun i => f (A.a1 i), fun i => f (A.a2 i), fun i => f (A.a3 i), fun i => f (A.a4 i),
    fun i => f (A.a5 i), fun i => f (A.a6 i), fun i => f (A.a7 i), fun i => f (A.a8 i), fun i => f (A.a9 i), fun i => f (A.a10 i)⟩

/-- The four arrays of each weight, element by element. -/
def zip (W G M V : Small α) : Small (α × α × α × α) :=
  ⟨fun i => (W.a0 i, G.a0 i, M.a0 i, V.a0 i),
    fun i => (W.a1 i, G.a1 i, M.a1 i, V.a1 i),
    fun i => (W.a2 i, G.a2 i, M.a2 i, V.a2 i),
    fun i => (W.a3 i, G.a3 i, M.a3 i, V.a3 i),
    fun i => (W.a4 i, G.a4 i, M.a4 i, V.a4 i),
    fun i => (W.a5 i, G.a5 i, M.a5 i, V.a5 i),
    fun i => (W.a6 i, G.a6 i, M.a6 i, V.a6 i),
    fun i => (W.a7 i, G.a7 i, M.a7 i, V.a7 i),
    fun i => (W.a8 i, G.a8 i, M.a8 i, V.a8 i),
    fun i => (W.a9 i, G.a9 i, M.a9 i, V.a9 i),
    fun i => (W.a10 i, G.a10 i, M.a10 i, V.a10 i)⟩

/-- One array as rows of 128, filled up with `z`. -/
def rows {s : Shape} (n N R k : ℕ) (z : S_.Idx → α) (x : s.Idx → α) (h : s.ShapeCasts ⟨1, ![n]⟩)
    (hp : Shape.Pads ⟨1, ![n]⟩ ![0] ![k] ![0] ⟨1, ![N]⟩) (h' : Shape.ShapeCasts ⟨1, ![N]⟩ ⟨2, ![R, 128]⟩) :
    (⟨2, ![R, 128]⟩ : Shape).Idx → α :=
  shapeCast ⟨2, ![R, 128]⟩ (pad ⟨1, ![N]⟩ ![0] ![k] ![0] (shapeCast ⟨1, ![n]⟩ x h) z hp h_S_) h'

theorem rows_map (f : α → β) {s : Shape} (n N R k : ℕ) (z : S_.Idx → α) (x : s.Idx → α) (h : s.ShapeCasts ⟨1, ![n]⟩)
    (hp : Shape.Pads ⟨1, ![n]⟩ ![0] ![k] ![0] ⟨1, ![N]⟩) (h' : Shape.ShapeCasts ⟨1, ![N]⟩ ⟨2, ![R, 128]⟩) :
    rows n N R k (fun i => f (z i)) (fun i => f (x i)) h hp h' = fun j => f (rows n N R k z x h hp h' j) := by
  unfold rows
  exact congrArg (fun y => shapeCast ⟨2, ![R, 128]⟩ y h') (pad_map f _ _ _ _ _ _ hp h_S_)

/-- Reading an array back from its rows. -/
theorem rows_front {s : Shape} (n N R k : ℕ) (z : S_.Idx → α) (x : s.Idx → α) (h : s.ShapeCasts ⟨1, ![n]⟩)
    (hp : Shape.Pads ⟨1, ![n]⟩ ![0] ![k] ![0] ⟨1, ![N]⟩) (h' : Shape.ShapeCasts ⟨1, ![N]⟩ ⟨2, ![R, 128]⟩)
    (b : Shape.ShapeCasts ⟨2, ![R, 128]⟩ ⟨1, ![N]⟩) (hs : Shape.Slices ⟨1, ![N]⟩ ![0] ⟨1, ![n]⟩)
    (d : Shape.ShapeCasts ⟨1, ![n]⟩ s) :
    shapeCast s (extractStridedSlice ⟨1, ![n]⟩ ![0] (shapeCast ⟨1, ![N]⟩ (rows n N R k z x h hp h') b) hs) d = x := by
  unfold rows
  rw [shapeCast_shapeCast, pad_front, shapeCast_shapeCast]

/-- The same for rows that need no filling up. -/
theorem rows_all {s : Shape} (n R : ℕ) (z : S_.Idx → α) (x : s.Idx → α) (h : s.ShapeCasts ⟨1, ![n]⟩)
    (hp : Shape.Pads ⟨1, ![n]⟩ ![0] ![0] ![0] ⟨1, ![n]⟩) (h' : Shape.ShapeCasts ⟨1, ![n]⟩ ⟨2, ![R, 128]⟩)
    (b : Shape.ShapeCasts ⟨2, ![R, 128]⟩ ⟨1, ![n]⟩) (d : Shape.ShapeCasts ⟨1, ![n]⟩ s) :
    shapeCast s (shapeCast ⟨1, ![n]⟩ (rows n n R 0 z x h hp h') b) d = x := by
  unfold rows
  rw [shapeCast_shapeCast, pad_none, shapeCast_shapeCast]

/-- The pieces of the packed array. -/
def pieces (z : S_.Idx → α) (A : Small α) : List ((s : Shape) × (s.Idx → α)) :=
  [⟨S8x128, rows 1024 1024 8 0 z A.a0 shapeCasts_S1x1024_S1024 pads_S1024_S1024_000 shapeCasts_S1024_S8x128⟩,
    ⟨S128x128, rows 15872 16384 128 512 z A.a1 shapeCasts_S1x31x512_S15872 pads_S15872_S16384_05120 shapeCasts_S16384_S128x128⟩,
    ⟨S8x128, rows 512 1024 8 512 z A.a2 shapeCasts_S1x512_S512 pads_S512_S1024_05120 shapeCasts_S1024_S8x128⟩,
    ⟨S8x128, rows 512 1024 8 512 z A.a3 shapeCasts_S1x512_S512 pads_S512_S1024_05120 shapeCasts_S1024_S8x128⟩,
    ⟨S8x128, rows 512 1024 8 512 z A.a4 shapeCasts_S1x512_S512 pads_S512_S1024_05120 shapeCasts_S1024_S8x128⟩,
    ⟨S8x128, rows 512 1024 8 512 z A.a5 shapeCasts_S1x512_S512 pads_S512_S1024_05120 shapeCasts_S1024_S8x128⟩,
    ⟨S8x128, rows 512 1024 8 512 z A.a6 shapeCasts_S32x16_S512 pads_S512_S1024_05120 shapeCasts_S1024_S8x128⟩,
    ⟨S32x128, rows 4096 4096 32 0 z A.a7 shapeCasts_S2x2048_S4096 pads_S4096_S4096_000 shapeCasts_S4096_S32x128⟩,
    ⟨S32x128, rows 4096 4096 32 0 z A.a8 shapeCasts_S2x2048_S4096 pads_S4096_S4096_000 shapeCasts_S4096_S32x128⟩,
    ⟨S32x128, rows 4096 4096 32 0 z A.a9 shapeCasts_S2x2048_S4096 pads_S4096_S4096_000 shapeCasts_S4096_S32x128⟩,
    ⟨S32x128, rows 4096 4096 32 0 z A.a10 shapeCasts_S2x2048_S4096 pads_S4096_S4096_000 shapeCasts_S4096_S32x128⟩]

/-- The packed array. -/
def pack (z : S_.Idx → α) (A : Small α) : S304x128.Idx → α :=
  concatenate S304x128 0 (pieces z A)
    concatenates_S8x128_S128x128_S8x128_S8x128_S8x128_S8x128_S8x128_S32x128_S32x128_S32x128_S32x128_S304x128_d0

theorem pack_map (f : α → β) (z : S_.Idx → α) (A : Small α) :
    pack (fun i => f (z i)) (A.map f) = fun j => f (pack z A j) := by
  have h : pieces (fun i => f (z i)) (A.map f) = mapped f (pieces z A) := by
    simp only [pieces, Small.map, rows_map, mapped, List.map_cons, List.map_nil]
  refine Eq.trans ?_ (concatenate_map f S304x128 0 (pieces z A)
    concatenates_S8x128_S128x128_S8x128_S8x128_S8x128_S8x128_S8x128_S32x128_S32x128_S32x128_S32x128_S304x128_d0
    concatenates_S8x128_S128x128_S8x128_S8x128_S8x128_S8x128_S8x128_S32x128_S32x128_S32x128_S32x128_S304x128_d0)
  exact StableHlo.concatenate_congr S304x128 0 h _ _

/-- The arrays read back from a packed array. -/
def unpack (y : S304x128.Idx → α) : Small α :=
  ⟨shapeCast S1x1024 (shapeCast S1024 (extractStridedSlice S8x128 ![0, 0] y slices_S304x128_S8x128_0_0) shapeCasts_S8x128_S1024) shapeCasts_S1024_S1x1024,
    shapeCast S1x31x512 (extractStridedSlice S15872 ![0] (shapeCast S16384 (extractStridedSlice S128x128 ![8, 0] y slices_S304x128_S128x128_8_0) shapeCasts_S128x128_S16384) slices_S16384_S15872_0) shapeCasts_S15872_S1x31x512,
    shapeCast S1x512 (extractStridedSlice S512 ![0] (shapeCast S1024 (extractStridedSlice S8x128 ![136, 0] y slices_S304x128_S8x128_136_0) shapeCasts_S8x128_S1024) slices_S1024_S512_0) shapeCasts_S512_S1x512,
    shapeCast S1x512 (extractStridedSlice S512 ![0] (shapeCast S1024 (extractStridedSlice S8x128 ![144, 0] y slices_S304x128_S8x128_144_0) shapeCasts_S8x128_S1024) slices_S1024_S512_0) shapeCasts_S512_S1x512,
    shapeCast S1x512 (extractStridedSlice S512 ![0] (shapeCast S1024 (extractStridedSlice S8x128 ![152, 0] y slices_S304x128_S8x128_152_0) shapeCasts_S8x128_S1024) slices_S1024_S512_0) shapeCasts_S512_S1x512,
    shapeCast S1x512 (extractStridedSlice S512 ![0] (shapeCast S1024 (extractStridedSlice S8x128 ![160, 0] y slices_S304x128_S8x128_160_0) shapeCasts_S8x128_S1024) slices_S1024_S512_0) shapeCasts_S512_S1x512,
    shapeCast S32x16 (extractStridedSlice S512 ![0] (shapeCast S1024 (extractStridedSlice S8x128 ![168, 0] y slices_S304x128_S8x128_168_0) shapeCasts_S8x128_S1024) slices_S1024_S512_0) shapeCasts_S512_S32x16,
    shapeCast S2x2048 (shapeCast S4096 (extractStridedSlice S32x128 ![176, 0] y slices_S304x128_S32x128_176_0) shapeCasts_S32x128_S4096) shapeCasts_S4096_S2x2048,
    shapeCast S2x2048 (shapeCast S4096 (extractStridedSlice S32x128 ![208, 0] y slices_S304x128_S32x128_208_0) shapeCasts_S32x128_S4096) shapeCasts_S4096_S2x2048,
    shapeCast S2x2048 (shapeCast S4096 (extractStridedSlice S32x128 ![240, 0] y slices_S304x128_S32x128_240_0) shapeCasts_S32x128_S4096) shapeCasts_S4096_S2x2048,
    shapeCast S2x2048 (shapeCast S4096 (extractStridedSlice S32x128 ![272, 0] y slices_S304x128_S32x128_272_0) shapeCasts_S32x128_S4096) shapeCasts_S4096_S2x2048⟩

theorem cut0 (z : S_.Idx → α) (A : Small α) : extractStridedSlice S8x128 ![0, 0] (pack z A) slices_S304x128_S8x128_0_0
    = rows 1024 1024 8 0 z A.a0 shapeCasts_S1x1024_S1024 pads_S1024_S1024_000 shapeCasts_S1024_S8x128 :=
  cut_piece 304 8 0 (pieces z A) _ _ 0 (by show 0 < 11; decide) _ rfl (by rfl)

theorem unpack0 (z : S_.Idx → α) (A : Small α) : (unpack (pack z A)).a0 = A.a0 := by
  show shapeCast S1x1024 (shapeCast S1024 (extractStridedSlice S8x128 ![0, 0] (pack z A) slices_S304x128_S8x128_0_0) shapeCasts_S8x128_S1024) shapeCasts_S1024_S1x1024 = A.a0
  rw [cut0]
  exact rows_all 1024 8 z A.a0 _ _ _ _ _

theorem cut1 (z : S_.Idx → α) (A : Small α) : extractStridedSlice S128x128 ![8, 0] (pack z A) slices_S304x128_S128x128_8_0
    = rows 15872 16384 128 512 z A.a1 shapeCasts_S1x31x512_S15872 pads_S15872_S16384_05120 shapeCasts_S16384_S128x128 :=
  cut_piece 304 128 8 (pieces z A) _ _ 1 (by show 1 < 11; decide) _ rfl (by rfl)

theorem unpack1 (z : S_.Idx → α) (A : Small α) : (unpack (pack z A)).a1 = A.a1 := by
  show shapeCast S1x31x512 (extractStridedSlice S15872 ![0] (shapeCast S16384 (extractStridedSlice S128x128 ![8, 0] (pack z A) slices_S304x128_S128x128_8_0) shapeCasts_S128x128_S16384) slices_S16384_S15872_0) shapeCasts_S15872_S1x31x512 = A.a1
  rw [cut1]
  exact rows_front 15872 16384 128 512 z A.a1 _ _ _ _ _ _

theorem cut2 (z : S_.Idx → α) (A : Small α) : extractStridedSlice S8x128 ![136, 0] (pack z A) slices_S304x128_S8x128_136_0
    = rows 512 1024 8 512 z A.a2 shapeCasts_S1x512_S512 pads_S512_S1024_05120 shapeCasts_S1024_S8x128 :=
  cut_piece 304 8 136 (pieces z A) _ _ 2 (by show 2 < 11; decide) _ rfl (by rfl)

theorem unpack2 (z : S_.Idx → α) (A : Small α) : (unpack (pack z A)).a2 = A.a2 := by
  show shapeCast S1x512 (extractStridedSlice S512 ![0] (shapeCast S1024 (extractStridedSlice S8x128 ![136, 0] (pack z A) slices_S304x128_S8x128_136_0) shapeCasts_S8x128_S1024) slices_S1024_S512_0) shapeCasts_S512_S1x512 = A.a2
  rw [cut2]
  exact rows_front 512 1024 8 512 z A.a2 _ _ _ _ _ _

theorem cut3 (z : S_.Idx → α) (A : Small α) : extractStridedSlice S8x128 ![144, 0] (pack z A) slices_S304x128_S8x128_144_0
    = rows 512 1024 8 512 z A.a3 shapeCasts_S1x512_S512 pads_S512_S1024_05120 shapeCasts_S1024_S8x128 :=
  cut_piece 304 8 144 (pieces z A) _ _ 3 (by show 3 < 11; decide) _ rfl (by rfl)

theorem unpack3 (z : S_.Idx → α) (A : Small α) : (unpack (pack z A)).a3 = A.a3 := by
  show shapeCast S1x512 (extractStridedSlice S512 ![0] (shapeCast S1024 (extractStridedSlice S8x128 ![144, 0] (pack z A) slices_S304x128_S8x128_144_0) shapeCasts_S8x128_S1024) slices_S1024_S512_0) shapeCasts_S512_S1x512 = A.a3
  rw [cut3]
  exact rows_front 512 1024 8 512 z A.a3 _ _ _ _ _ _

theorem cut4 (z : S_.Idx → α) (A : Small α) : extractStridedSlice S8x128 ![152, 0] (pack z A) slices_S304x128_S8x128_152_0
    = rows 512 1024 8 512 z A.a4 shapeCasts_S1x512_S512 pads_S512_S1024_05120 shapeCasts_S1024_S8x128 :=
  cut_piece 304 8 152 (pieces z A) _ _ 4 (by show 4 < 11; decide) _ rfl (by rfl)

theorem unpack4 (z : S_.Idx → α) (A : Small α) : (unpack (pack z A)).a4 = A.a4 := by
  show shapeCast S1x512 (extractStridedSlice S512 ![0] (shapeCast S1024 (extractStridedSlice S8x128 ![152, 0] (pack z A) slices_S304x128_S8x128_152_0) shapeCasts_S8x128_S1024) slices_S1024_S512_0) shapeCasts_S512_S1x512 = A.a4
  rw [cut4]
  exact rows_front 512 1024 8 512 z A.a4 _ _ _ _ _ _

theorem cut5 (z : S_.Idx → α) (A : Small α) : extractStridedSlice S8x128 ![160, 0] (pack z A) slices_S304x128_S8x128_160_0
    = rows 512 1024 8 512 z A.a5 shapeCasts_S1x512_S512 pads_S512_S1024_05120 shapeCasts_S1024_S8x128 :=
  cut_piece 304 8 160 (pieces z A) _ _ 5 (by show 5 < 11; decide) _ rfl (by rfl)

theorem unpack5 (z : S_.Idx → α) (A : Small α) : (unpack (pack z A)).a5 = A.a5 := by
  show shapeCast S1x512 (extractStridedSlice S512 ![0] (shapeCast S1024 (extractStridedSlice S8x128 ![160, 0] (pack z A) slices_S304x128_S8x128_160_0) shapeCasts_S8x128_S1024) slices_S1024_S512_0) shapeCasts_S512_S1x512 = A.a5
  rw [cut5]
  exact rows_front 512 1024 8 512 z A.a5 _ _ _ _ _ _

theorem cut6 (z : S_.Idx → α) (A : Small α) : extractStridedSlice S8x128 ![168, 0] (pack z A) slices_S304x128_S8x128_168_0
    = rows 512 1024 8 512 z A.a6 shapeCasts_S32x16_S512 pads_S512_S1024_05120 shapeCasts_S1024_S8x128 :=
  cut_piece 304 8 168 (pieces z A) _ _ 6 (by show 6 < 11; decide) _ rfl (by rfl)

theorem unpack6 (z : S_.Idx → α) (A : Small α) : (unpack (pack z A)).a6 = A.a6 := by
  show shapeCast S32x16 (extractStridedSlice S512 ![0] (shapeCast S1024 (extractStridedSlice S8x128 ![168, 0] (pack z A) slices_S304x128_S8x128_168_0) shapeCasts_S8x128_S1024) slices_S1024_S512_0) shapeCasts_S512_S32x16 = A.a6
  rw [cut6]
  exact rows_front 512 1024 8 512 z A.a6 _ _ _ _ _ _

theorem cut7 (z : S_.Idx → α) (A : Small α) : extractStridedSlice S32x128 ![176, 0] (pack z A) slices_S304x128_S32x128_176_0
    = rows 4096 4096 32 0 z A.a7 shapeCasts_S2x2048_S4096 pads_S4096_S4096_000 shapeCasts_S4096_S32x128 :=
  cut_piece 304 32 176 (pieces z A) _ _ 7 (by show 7 < 11; decide) _ rfl (by rfl)

theorem unpack7 (z : S_.Idx → α) (A : Small α) : (unpack (pack z A)).a7 = A.a7 := by
  show shapeCast S2x2048 (shapeCast S4096 (extractStridedSlice S32x128 ![176, 0] (pack z A) slices_S304x128_S32x128_176_0) shapeCasts_S32x128_S4096) shapeCasts_S4096_S2x2048 = A.a7
  rw [cut7]
  exact rows_all 4096 32 z A.a7 _ _ _ _ _

theorem cut8 (z : S_.Idx → α) (A : Small α) : extractStridedSlice S32x128 ![208, 0] (pack z A) slices_S304x128_S32x128_208_0
    = rows 4096 4096 32 0 z A.a8 shapeCasts_S2x2048_S4096 pads_S4096_S4096_000 shapeCasts_S4096_S32x128 :=
  cut_piece 304 32 208 (pieces z A) _ _ 8 (by show 8 < 11; decide) _ rfl (by rfl)

theorem unpack8 (z : S_.Idx → α) (A : Small α) : (unpack (pack z A)).a8 = A.a8 := by
  show shapeCast S2x2048 (shapeCast S4096 (extractStridedSlice S32x128 ![208, 0] (pack z A) slices_S304x128_S32x128_208_0) shapeCasts_S32x128_S4096) shapeCasts_S4096_S2x2048 = A.a8
  rw [cut8]
  exact rows_all 4096 32 z A.a8 _ _ _ _ _

theorem cut9 (z : S_.Idx → α) (A : Small α) : extractStridedSlice S32x128 ![240, 0] (pack z A) slices_S304x128_S32x128_240_0
    = rows 4096 4096 32 0 z A.a9 shapeCasts_S2x2048_S4096 pads_S4096_S4096_000 shapeCasts_S4096_S32x128 :=
  cut_piece 304 32 240 (pieces z A) _ _ 9 (by show 9 < 11; decide) _ rfl (by rfl)

theorem unpack9 (z : S_.Idx → α) (A : Small α) : (unpack (pack z A)).a9 = A.a9 := by
  show shapeCast S2x2048 (shapeCast S4096 (extractStridedSlice S32x128 ![240, 0] (pack z A) slices_S304x128_S32x128_240_0) shapeCasts_S32x128_S4096) shapeCasts_S4096_S2x2048 = A.a9
  rw [cut9]
  exact rows_all 4096 32 z A.a9 _ _ _ _ _

theorem cut10 (z : S_.Idx → α) (A : Small α) : extractStridedSlice S32x128 ![272, 0] (pack z A) slices_S304x128_S32x128_272_0
    = rows 4096 4096 32 0 z A.a10 shapeCasts_S2x2048_S4096 pads_S4096_S4096_000 shapeCasts_S4096_S32x128 :=
  cut_piece 304 32 272 (pieces z A) _ _ 10 (by show 10 < 11; decide) _ rfl (by rfl)

theorem unpack10 (z : S_.Idx → α) (A : Small α) : (unpack (pack z A)).a10 = A.a10 := by
  show shapeCast S2x2048 (shapeCast S4096 (extractStridedSlice S32x128 ![272, 0] (pack z A) slices_S304x128_S32x128_272_0) shapeCasts_S32x128_S4096) shapeCasts_S4096_S2x2048 = A.a10
  rw [cut10]
  exact rows_all 4096 32 z A.a10 _ _ _ _ _

theorem unpack_pack (z : S_.Idx → α) (A : Small α) : unpack (pack z A) = A :=
  Small.ext (unpack0 z A) (unpack1 z A) (unpack2 z A) (unpack3 z A) (unpack4 z A) (unpack5 z A) (unpack6 z A) (unpack7 z A) (unpack8 z A) (unpack9 z A) (unpack10 z A)

/-- What the rows are filled up with. -/
def zero : S_.Idx → Ideal .f32 := sitofp .f32 (constantI S_ 32 0#32)

theorem zero_eq : zero = fun _ => (0 : EReal) := by
  funext i; show (((0#32 : BitVec 32).toInt : ℝ) : EReal) = 0; simp

/-- A function of four numbers that takes zeros to zero, on packed arrays. -/
theorem pack_lift (D : Ideal .f32 × Ideal .f32 × Ideal .f32 × Ideal .f32 → Ideal .f32)
    (h : D ((0 : EReal), (0 : EReal), (0 : EReal), (0 : EReal)) = (0 : EReal)) (W G M V : Small (Ideal .f32)) :
    pack zero ((zip W G M V).map D) = fun j => D (pack zero W j, pack zero G j, pack zero M j, pack zero V j) := by
  have e (f : Ideal .f32 × Ideal .f32 × Ideal .f32 × Ideal .f32 → Ideal .f32)
      (hf : f ((0 : EReal), (0 : EReal), (0 : EReal), (0 : EReal)) = (0 : EReal)) :
      pack zero ((zip W G M V).map f) = fun j => f (pack (fun _ => ((0 : EReal), (0 : EReal), (0 : EReal), (0 : EReal)))
        (zip W G M V) j) := by
    refine Eq.trans (congrArg (fun z => pack z _) (zero_eq.trans ?_)) (pack_map f _ _)
    exact funext fun _ => hf.symm
  have e1 : pack zero W = _ := e (fun q => q.1) rfl
  have e2 : pack zero G = _ := e (fun q => q.2.1) rfl
  have e3 : pack zero M = _ := e (fun q => q.2.2.1) rfl
  have e4 : pack zero V = _ := e (fun q => q.2.2.2) rfl
  rw [e D h, e1, e2, e3, e4]

abbrev momOf (q : Ideal .f32 × Ideal .f32 × Ideal .f32 × Ideal .f32) : Ideal .f32 := mom q.2.1 q.2.2.1
abbrev secOf (q : Ideal .f32 × Ideal .f32 × Ideal .f32 × Ideal .f32) : Ideal .f32 := sec q.2.1 q.2.2.2
abbrev delOf (q : Ideal .f32 × Ideal .f32 × Ideal .f32 × Ideal .f32) : Ideal .f32 := del q.1 q.2.1 q.2.2.1 q.2.2.2

theorem mom_zero : mom (0 : EReal) (0 : EReal) = (0 : EReal) := by
  show Ideal.ofBits .f32 _ * (0 : EReal) + Ideal.ofBits .f32 _ * (0 : EReal) = 0
  simp

theorem sec_zero : sec (0 : EReal) (0 : EReal) = (0 : EReal) := by
  show Ideal.ofBits .f32 _ * (0 : EReal) + Ideal.ofBits .f32 _ * ((0 : EReal) * (0 : EReal)) = 0
  simp

theorem div_zero_left {y : EReal} (h : y ≠ 0) : Ideal.div 0 y = 0 := by
  simp [Ideal.div, h]

theorem correction_ne : Ideal.ofBits .f32 0x3F26BD02#32 ≠ 0 := by
  simp [Ideal.ofBits, Ideal.ieee, -EReal.coe_mul]

theorem correction2_ne : Ideal.ofBits .f32 0x3C231ACC#32 ≠ 0 := by
  simp [Ideal.ofBits, Ideal.ieee, -EReal.coe_mul]

theorem eps_ne : Ideal.ofBits .f32 0x322BCC77#32 ≠ 0 := by
  simp [Ideal.ofBits, Ideal.ieee, -EReal.coe_mul]

theorem sqrt_zero : Ideal.sqrt 0 = 0 := by
  show (if (0 : ℝ) < 0 then (⊥ : EReal) else (Real.sqrt 0 : EReal)) = 0
  simp

theorem del_zero : del (0 : EReal) (0 : EReal) (0 : EReal) (0 : EReal) = (0 : EReal) := by
  show Ideal.ofBits .f32 _ * (Ideal.div (Ideal.div (mom (0 : EReal) (0 : EReal)) (Ideal.ofBits .f32 0x3F26BD02#32))
    (Ideal.sqrt (Ideal.div (sec (0 : EReal) (0 : EReal)) (Ideal.ofBits .f32 0x3C231ACC#32)) + Ideal.ofBits .f32 0x322BCC77#32)
    + Ideal.ofBits .f32 _ * (0 : EReal)) = 0
  rw [mom_zero, sec_zero, div_zero_left correction_ne, div_zero_left correction2_ne, sqrt_zero, zero_add, div_zero_left eps_ne]
  simp

section Reference

open Cert.Reference15Ideal.Read

variable (W G M V : Small (Ideal .f32))

theorem ref_del : (⟨val_main_v23 (F := Ideal) W.a0 G.a0 M.a0 V.a0,
    val_main_v47 (F := Ideal) W.a1 G.a1 M.a1 V.a1,
    val_main_v71 (F := Ideal) W.a2 G.a2 M.a2 V.a2,
    val_main_v95 (F := Ideal) W.a3 G.a3 M.a3 V.a3,
    val_main_v119 (F := Ideal) W.a4 G.a4 M.a4 V.a4,
    val_main_v143 (F := Ideal) W.a5 G.a5 M.a5 V.a5,
    val_main_v167 (F := Ideal) W.a6 G.a6 M.a6 V.a6,
    val_main_v191 (F := Ideal) W.a7 G.a7 M.a7 V.a7,
    val_main_v215 (F := Ideal) W.a8 G.a8 M.a8 V.a8,
    val_main_v239 (F := Ideal) W.a9 G.a9 M.a9 V.a9,
    val_main_v263 (F := Ideal) W.a10 G.a10 M.a10 V.a10⟩ : Small (Ideal .f32))
    = (zip W G M V).map delOf := rfl

theorem ref_mom : (⟨val_main_v4 (F := Ideal) G.a0 M.a0,
    val_main_v28 (F := Ideal) G.a1 M.a1,
    val_main_v52 (F := Ideal) G.a2 M.a2,
    val_main_v76 (F := Ideal) G.a3 M.a3,
    val_main_v100 (F := Ideal) G.a4 M.a4,
    val_main_v124 (F := Ideal) G.a5 M.a5,
    val_main_v148 (F := Ideal) G.a6 M.a6,
    val_main_v172 (F := Ideal) G.a7 M.a7,
    val_main_v196 (F := Ideal) G.a8 M.a8,
    val_main_v220 (F := Ideal) G.a9 M.a9,
    val_main_v244 (F := Ideal) G.a10 M.a10⟩ : Small (Ideal .f32))
    = (zip W G M V).map momOf := rfl

theorem ref_sec : (⟨val_main_v10 (F := Ideal) G.a0 V.a0,
    val_main_v34 (F := Ideal) G.a1 V.a1,
    val_main_v58 (F := Ideal) G.a2 V.a2,
    val_main_v82 (F := Ideal) G.a3 V.a3,
    val_main_v106 (F := Ideal) G.a4 V.a4,
    val_main_v130 (F := Ideal) G.a5 V.a5,
    val_main_v154 (F := Ideal) G.a6 V.a6,
    val_main_v178 (F := Ideal) G.a7 V.a7,
    val_main_v202 (F := Ideal) G.a8 V.a8,
    val_main_v226 (F := Ideal) G.a9 V.a9,
    val_main_v250 (F := Ideal) G.a10 V.a10⟩ : Small (Ideal .f32))
    = (zip W G M V).map secOf := rfl

end Reference

variable (m : (ℓ : Loc nD τ sig) → Buf (Elt Ideal) ℓ) (c : Dev nD)

/-- The weights. -/
abbrev argW : Small (Ideal .f32) :=
  ⟨m ((c : Thread nD τ).loc main_arg0),
    m ((c : Thread nD τ).loc main_arg1),
    m ((c : Thread nD τ).loc main_arg2),
    m ((c : Thread nD τ).loc main_arg3),
    m ((c : Thread nD τ).loc main_arg4),
    m ((c : Thread nD τ).loc main_arg5),
    m ((c : Thread nD τ).loc main_arg6),
    m ((c : Thread nD τ).loc main_arg7),
    m ((c : Thread nD τ).loc main_arg8),
    m ((c : Thread nD τ).loc main_arg9),
    m ((c : Thread nD τ).loc main_arg10)⟩

/-- The gradients. -/
abbrev argG : Small (Ideal .f32) :=
  ⟨m ((c : Thread nD τ).loc main_arg11),
    m ((c : Thread nD τ).loc main_arg12),
    m ((c : Thread nD τ).loc main_arg13),
    m ((c : Thread nD τ).loc main_arg14),
    m ((c : Thread nD τ).loc main_arg15),
    m ((c : Thread nD τ).loc main_arg16),
    m ((c : Thread nD τ).loc main_arg17),
    m ((c : Thread nD τ).loc main_arg18),
    m ((c : Thread nD τ).loc main_arg19),
    m ((c : Thread nD τ).loc main_arg20),
    m ((c : Thread nD τ).loc main_arg21)⟩

/-- The first moments. -/
abbrev argM : Small (Ideal .f32) :=
  ⟨m ((c : Thread nD τ).loc main_arg22),
    m ((c : Thread nD τ).loc main_arg23),
    m ((c : Thread nD τ).loc main_arg24),
    m ((c : Thread nD τ).loc main_arg25),
    m ((c : Thread nD τ).loc main_arg26),
    m ((c : Thread nD τ).loc main_arg27),
    m ((c : Thread nD τ).loc main_arg28),
    m ((c : Thread nD τ).loc main_arg29),
    m ((c : Thread nD τ).loc main_arg30),
    m ((c : Thread nD τ).loc main_arg31),
    m ((c : Thread nD τ).loc main_arg32)⟩

/-- The second moments. -/
abbrev argV : Small (Ideal .f32) :=
  ⟨m ((c : Thread nD τ).loc main_arg33),
    m ((c : Thread nD τ).loc main_arg34),
    m ((c : Thread nD τ).loc main_arg35),
    m ((c : Thread nD τ).loc main_arg36),
    m ((c : Thread nD τ).loc main_arg37),
    m ((c : Thread nD τ).loc main_arg38),
    m ((c : Thread nD τ).loc main_arg39),
    m ((c : Thread nD τ).loc main_arg40),
    m ((c : Thread nD τ).loc main_arg41),
    m ((c : Thread nD τ).loc main_arg42),
    m ((c : Thread nD τ).loc main_arg43)⟩

section ReferenceArguments

variable (m' : (ℓ : Loc Reference15Ideal.nD Reference15Ideal.τ Reference15Ideal.sig) → Buf (Elt Ideal) ℓ) (c : Dev Reference15Ideal.nD)

/-- The reference's weights. -/
abbrev refW : Small (Ideal .f32) :=
  ⟨m' ((c : Thread Reference15Ideal.nD Reference15Ideal.τ).loc Reference15Ideal.main_arg0),
    m' ((c : Thread Reference15Ideal.nD Reference15Ideal.τ).loc Reference15Ideal.main_arg1),
    m' ((c : Thread Reference15Ideal.nD Reference15Ideal.τ).loc Reference15Ideal.main_arg2),
    m' ((c : Thread Reference15Ideal.nD Reference15Ideal.τ).loc Reference15Ideal.main_arg3),
    m' ((c : Thread Reference15Ideal.nD Reference15Ideal.τ).loc Reference15Ideal.main_arg4),
    m' ((c : Thread Reference15Ideal.nD Reference15Ideal.τ).loc Reference15Ideal.main_arg5),
    m' ((c : Thread Reference15Ideal.nD Reference15Ideal.τ).loc Reference15Ideal.main_arg6),
    m' ((c : Thread Reference15Ideal.nD Reference15Ideal.τ).loc Reference15Ideal.main_arg7),
    m' ((c : Thread Reference15Ideal.nD Reference15Ideal.τ).loc Reference15Ideal.main_arg8),
    m' ((c : Thread Reference15Ideal.nD Reference15Ideal.τ).loc Reference15Ideal.main_arg9),
    m' ((c : Thread Reference15Ideal.nD Reference15Ideal.τ).loc Reference15Ideal.main_arg10)⟩

/-- The reference's gradients. -/
abbrev refG : Small (Ideal .f32) :=
  ⟨m' ((c : Thread Reference15Ideal.nD Reference15Ideal.τ).loc Reference15Ideal.main_arg11),
    m' ((c : Thread Reference15Ideal.nD Reference15Ideal.τ).loc Reference15Ideal.main_arg12),
    m' ((c : Thread Reference15Ideal.nD Reference15Ideal.τ).loc Reference15Ideal.main_arg13),
    m' ((c : Thread Reference15Ideal.nD Reference15Ideal.τ).loc Reference15Ideal.main_arg14),
    m' ((c : Thread Reference15Ideal.nD Reference15Ideal.τ).loc Reference15Ideal.main_arg15),
    m' ((c : Thread Reference15Ideal.nD Reference15Ideal.τ).loc Reference15Ideal.main_arg16),
    m' ((c : Thread Reference15Ideal.nD Reference15Ideal.τ).loc Reference15Ideal.main_arg17),
    m' ((c : Thread Reference15Ideal.nD Reference15Ideal.τ).loc Reference15Ideal.main_arg18),
    m' ((c : Thread Reference15Ideal.nD Reference15Ideal.τ).loc Reference15Ideal.main_arg19),
    m' ((c : Thread Reference15Ideal.nD Reference15Ideal.τ).loc Reference15Ideal.main_arg20),
    m' ((c : Thread Reference15Ideal.nD Reference15Ideal.τ).loc Reference15Ideal.main_arg21)⟩

/-- The reference's first moments. -/
abbrev refM : Small (Ideal .f32) :=
  ⟨m' ((c : Thread Reference15Ideal.nD Reference15Ideal.τ).loc Reference15Ideal.main_arg22),
    m' ((c : Thread Reference15Ideal.nD Reference15Ideal.τ).loc Reference15Ideal.main_arg23),
    m' ((c : Thread Reference15Ideal.nD Reference15Ideal.τ).loc Reference15Ideal.main_arg24),
    m' ((c : Thread Reference15Ideal.nD Reference15Ideal.τ).loc Reference15Ideal.main_arg25),
    m' ((c : Thread Reference15Ideal.nD Reference15Ideal.τ).loc Reference15Ideal.main_arg26),
    m' ((c : Thread Reference15Ideal.nD Reference15Ideal.τ).loc Reference15Ideal.main_arg27),
    m' ((c : Thread Reference15Ideal.nD Reference15Ideal.τ).loc Reference15Ideal.main_arg28),
    m' ((c : Thread Reference15Ideal.nD Reference15Ideal.τ).loc Reference15Ideal.main_arg29),
    m' ((c : Thread Reference15Ideal.nD Reference15Ideal.τ).loc Reference15Ideal.main_arg30),
    m' ((c : Thread Reference15Ideal.nD Reference15Ideal.τ).loc Reference15Ideal.main_arg31),
    m' ((c : Thread Reference15Ideal.nD Reference15Ideal.τ).loc Reference15Ideal.main_arg32)⟩

/-- The reference's second moments. -/
abbrev refV : Small (Ideal .f32) :=
  ⟨m' ((c : Thread Reference15Ideal.nD Reference15Ideal.τ).loc Reference15Ideal.main_arg33),
    m' ((c : Thread Reference15Ideal.nD Reference15Ideal.τ).loc Reference15Ideal.main_arg34),
    m' ((c : Thread Reference15Ideal.nD Reference15Ideal.τ).loc Reference15Ideal.main_arg35),
    m' ((c : Thread Reference15Ideal.nD Reference15Ideal.τ).loc Reference15Ideal.main_arg36),
    m' ((c : Thread Reference15Ideal.nD Reference15Ideal.τ).loc Reference15Ideal.main_arg37),
    m' ((c : Thread Reference15Ideal.nD Reference15Ideal.τ).loc Reference15Ideal.main_arg38),
    m' ((c : Thread Reference15Ideal.nD Reference15Ideal.τ).loc Reference15Ideal.main_arg39),
    m' ((c : Thread Reference15Ideal.nD Reference15Ideal.τ).loc Reference15Ideal.main_arg40),
    m' ((c : Thread Reference15Ideal.nD Reference15Ideal.τ).loc Reference15Ideal.main_arg41),
    m' ((c : Thread Reference15Ideal.nD Reference15Ideal.τ).loc Reference15Ideal.main_arg42),
    m' ((c : Thread Reference15Ideal.nD Reference15Ideal.τ).loc Reference15Ideal.main_arg43)⟩

end ReferenceArguments

theorem packedW : V m c main_v33 = pack zero (argW m c) := by
  after_reads_simp; rfl

theorem packedG : V m c main_v67 = pack zero (argG m c) := by
  after_reads_simp; rfl

theorem packedM : V m c main_v101 = pack zero (argM m c) := by
  after_reads_simp; rfl

theorem packedV : V m c main_v135 = pack zero (argV m c) := by
  after_reads_simp; rfl

theorem pay_mom (g m : Vec Ideal S304x128 .f32) (y : S304x128.Idx) : k0_pay2 g m y = mom (g y) (m y) := by
  unfold k0_pay2 k0_pay1; simp only [shapeCast_self]; rfl

theorem pay_sec (g v : Vec Ideal S304x128 .f32) (y : S304x128.Idx) : k0_pay3 g v y = sec (g y) (v y) := by
  unfold k0_pay3 k0_pay1; simp only [shapeCast_self]; rfl

theorem pay_del (g m v w : Vec Ideal S304x128 .f32) (y : S304x128.Idx) :
    k0_pay4 g m v w y = del (w y) (g y) (m y) (v y) := by
  unfold k0_pay4 k0_pay2 k0_pay3 k0_pay1; simp only [shapeCast_self]; rfl

section Blocks

variable (t : Fin cfg0.grid.N) (y : S304x128.Idx)

theorem read_w : iblk m c 0 t y = pack zero (argW m c) ((win0_5.blk t).view.emb y) := congrFun (packedW m c) _

theorem read_g : iblk m c 1 t y = pack zero (argG m c) ((win0_5.blk t).view.emb y) := congrFun (packedG m c) _

theorem read_m : iblk m c 2 t y = pack zero (argM m c) ((win0_5.blk t).view.emb y) := congrFun (packedM m c) _

theorem read_v : iblk m c 3 t y = pack zero (argV m c) ((win0_5.blk t).view.emb y) := congrFun (packedV m c) _

end Blocks

/-- The four packed arrays at one place. -/
abbrev packed (j : S304x128.Idx) : Ideal .f32 × Ideal .f32 × Ideal .f32 × Ideal .f32 :=
  (pack zero (argW m c) j, pack zero (argG m c) j, pack zero (argM m c) j, pack zero (argV m c) j)

theorem array_delta : (dats m 0 c).arrAt 4 cfg0.N = fun j => delOf (packed m c j) := by
  refine (dats m 0 c).arrAt_eq_of_covers 4 _ (by decide +kernel) fun t _ y => ?_
  blk_simp
  rw [after0_4]
  frame_out
  exact (pay_del _ _ _ _ y).trans (congr (congr (congr (congrArg del (read_w m c t y)) (read_g m c t y)) (read_m m c t y))
    (read_v m c t y))

theorem array_mom : (dats m 0 c).arrAt 5 cfg0.N = fun j => momOf (packed m c j) := by
  refine (dats m 0 c).arrAt_eq_of_covers 5 _ (by decide +kernel) fun t _ y => ?_
  blk_simp
  rw [after0_5]
  frame_out
  exact (pay_mom _ _ y).trans (congr (congrArg mom (read_g m c t y)) (read_m m c t y))

theorem array_sec : (dats m 0 c).arrAt 6 cfg0.N = fun j => secOf (packed m c j) := by
  refine (dats m 0 c).arrAt_eq_of_covers 6 _ (by decide +kernel) fun t _ y => ?_
  blk_simp
  rw [after0_6]
  frame_out
  exact (pay_sec _ _ y).trans (congr (congrArg sec (read_g m c t y)) (read_v m c t y))

/-- The three arrays of the call are the packed steps of the eleven weights. -/
theorem small_delta : (dats m 0 c).arrAt 4 cfg0.N = pack zero ((zip (argW m c) (argG m c) (argM m c) (argV m c)).map delOf) :=
  (array_delta m c).trans (pack_lift delOf del_zero _ _ _ _).symm

theorem small_mom : (dats m 0 c).arrAt 5 cfg0.N = pack zero ((zip (argW m c) (argG m c) (argM m c) (argV m c)).map momOf) :=
  (array_mom m c).trans (pack_lift momOf mom_zero _ _ _ _).symm

theorem small_sec : (dats m 0 c).arrAt 6 cfg0.N = pack zero ((zip (argW m c) (argG m c) (argM m c) (argV m c)).map secOf) :=
  (array_sec m c).trans (pack_lift secOf sec_zero _ _ _ _).symm

section Tail

variable (X : Valuation τ sig (Elt Ideal))

theorem tail_del0 : StableHlo.after hostOps1 X (Proc.devRef .tc main_v139) = (unpack (X (Proc.devRef .tc main_v136_0))).a0 := by
  after_reads_simp; rfl

theorem tail_del1 : StableHlo.after hostOps1 X (Proc.devRef .tc main_v143) = (unpack (X (Proc.devRef .tc main_v136_0))).a1 := by
  after_reads_simp; rfl

theorem tail_del2 : StableHlo.after hostOps1 X (Proc.devRef .tc main_v147) = (unpack (X (Proc.devRef .tc main_v136_0))).a2 := by
  after_reads_simp; rfl

theorem tail_del3 : StableHlo.after hostOps1 X (Proc.devRef .tc main_v151) = (unpack (X (Proc.devRef .tc main_v136_0))).a3 := by
  after_reads_simp; rfl

theorem tail_del4 : StableHlo.after hostOps1 X (Proc.devRef .tc main_v155) = (unpack (X (Proc.devRef .tc main_v136_0))).a4 := by
  after_reads_simp; rfl

theorem tail_del5 : StableHlo.after hostOps1 X (Proc.devRef .tc main_v159) = (unpack (X (Proc.devRef .tc main_v136_0))).a5 := by
  after_reads_simp; rfl

theorem tail_del6 : StableHlo.after hostOps1 X (Proc.devRef .tc main_v163) = (unpack (X (Proc.devRef .tc main_v136_0))).a6 := by
  after_reads_simp; rfl

theorem tail_del7 : StableHlo.after hostOps1 X (Proc.devRef .tc main_v166) = (unpack (X (Proc.devRef .tc main_v136_0))).a7 := by
  after_reads_simp; rfl

theorem tail_del8 : StableHlo.after hostOps1 X (Proc.devRef .tc main_v169) = (unpack (X (Proc.devRef .tc main_v136_0))).a8 := by
  after_reads_simp; rfl

theorem tail_del9 : StableHlo.after hostOps1 X (Proc.devRef .tc main_v172) = (unpack (X (Proc.devRef .tc main_v136_0))).a9 := by
  after_reads_simp; rfl

theorem tail_del10 : StableHlo.after hostOps1 X (Proc.devRef .tc main_v175) = (unpack (X (Proc.devRef .tc main_v136_0))).a10 := by
  after_reads_simp; rfl

theorem tail_mom0 : StableHlo.after hostOps1 X (Proc.devRef .tc main_v178) = (unpack (X (Proc.devRef .tc main_v136_1))).a0 := by
  after_reads_simp; rfl

theorem tail_mom1 : StableHlo.after hostOps1 X (Proc.devRef .tc main_v182) = (unpack (X (Proc.devRef .tc main_v136_1))).a1 := by
  after_reads_simp; rfl

theorem tail_mom2 : StableHlo.after hostOps1 X (Proc.devRef .tc main_v186) = (unpack (X (Proc.devRef .tc main_v136_1))).a2 := by
  after_reads_simp; rfl

theorem tail_mom3 : StableHlo.after hostOps1 X (Proc.devRef .tc main_v190) = (unpack (X (Proc.devRef .tc main_v136_1))).a3 := by
  after_reads_simp; rfl

theorem tail_mom4 : StableHlo.after hostOps1 X (Proc.devRef .tc main_v194) = (unpack (X (Proc.devRef .tc main_v136_1))).a4 := by
  after_reads_simp; rfl

theorem tail_mom5 : StableHlo.after hostOps1 X (Proc.devRef .tc main_v198) = (unpack (X (Proc.devRef .tc main_v136_1))).a5 := by
  after_reads_simp; rfl

theorem tail_mom6 : StableHlo.after hostOps1 X (Proc.devRef .tc main_v202) = (unpack (X (Proc.devRef .tc main_v136_1))).a6 := by
  after_reads_simp; rfl

theorem tail_mom7 : StableHlo.after hostOps1 X (Proc.devRef .tc main_v205) = (unpack (X (Proc.devRef .tc main_v136_1))).a7 := by
  after_reads_simp; rfl

theorem tail_mom8 : StableHlo.after hostOps1 X (Proc.devRef .tc main_v208) = (unpack (X (Proc.devRef .tc main_v136_1))).a8 := by
  after_reads_simp; rfl

theorem tail_mom9 : StableHlo.after hostOps1 X (Proc.devRef .tc main_v211) = (unpack (X (Proc.devRef .tc main_v136_1))).a9 := by
  after_reads_simp; rfl

theorem tail_mom10 : StableHlo.after hostOps1 X (Proc.devRef .tc main_v214) = (unpack (X (Proc.devRef .tc main_v136_1))).a10 := by
  after_reads_simp; rfl

theorem tail_sec0 : StableHlo.after hostOps1 X (Proc.devRef .tc main_v217) = (unpack (X (Proc.devRef .tc main_v136_2))).a0 := by
  after_reads_simp; rfl

theorem tail_sec1 : StableHlo.after hostOps1 X (Proc.devRef .tc main_v221) = (unpack (X (Proc.devRef .tc main_v136_2))).a1 := by
  after_reads_simp; rfl

theorem tail_sec2 : StableHlo.after hostOps1 X (Proc.devRef .tc main_v225) = (unpack (X (Proc.devRef .tc main_v136_2))).a2 := by
  after_reads_simp; rfl

theorem tail_sec3 : StableHlo.after hostOps1 X (Proc.devRef .tc main_v229) = (unpack (X (Proc.devRef .tc main_v136_2))).a3 := by
  after_reads_simp; rfl

theorem tail_sec4 : StableHlo.after hostOps1 X (Proc.devRef .tc main_v233) = (unpack (X (Proc.devRef .tc main_v136_2))).a4 := by
  after_reads_simp; rfl

theorem tail_sec5 : StableHlo.after hostOps1 X (Proc.devRef .tc main_v237) = (unpack (X (Proc.devRef .tc main_v136_2))).a5 := by
  after_reads_simp; rfl

theorem tail_sec6 : StableHlo.after hostOps1 X (Proc.devRef .tc main_v241) = (unpack (X (Proc.devRef .tc main_v136_2))).a6 := by
  after_reads_simp; rfl

theorem tail_sec7 : StableHlo.after hostOps1 X (Proc.devRef .tc main_v244) = (unpack (X (Proc.devRef .tc main_v136_2))).a7 := by
  after_reads_simp; rfl

theorem tail_sec8 : StableHlo.after hostOps1 X (Proc.devRef .tc main_v247) = (unpack (X (Proc.devRef .tc main_v136_2))).a8 := by
  after_reads_simp; rfl

theorem tail_sec9 : StableHlo.after hostOps1 X (Proc.devRef .tc main_v250) = (unpack (X (Proc.devRef .tc main_v136_2))).a9 := by
  after_reads_simp; rfl

theorem tail_sec10 : StableHlo.after hostOps1 X (Proc.devRef .tc main_v253) = (unpack (X (Proc.devRef .tc main_v136_2))).a10 := by
  after_reads_simp; rfl

end Tail

theorem exit_del : Pipeline.withArrays (cfgs 0).spec c (V0 m c) (fun w => (dats m 0 c).arrAt w (cfgs 0).N) (Proc.devRef .tc main_v136_0)
    = pack zero ((zip (argW m c) (argG m c) (argM m c) (argV m c)).map delOf) :=
  (Pipeline.withArrays_arr spec0 launch0.win.arr_inj c (V0 m c) (fun w => (dats m 0 c).arrAt w (cfgs 0).N) 4).trans (small_delta m c)

theorem unpacked_del : unpack (Pipeline.withArrays (cfgs 0).spec c (V0 m c) (fun w => (dats m 0 c).arrAt w (cfgs 0).N)
      (Proc.devRef .tc main_v136_0))
    = (zip (argW m c) (argG m c) (argM m c) (argV m c)).map delOf :=
  (congrArg unpack (exit_del m c)).trans (unpack_pack _ _)

theorem exit_mom : Pipeline.withArrays (cfgs 0).spec c (V0 m c) (fun w => (dats m 0 c).arrAt w (cfgs 0).N) (Proc.devRef .tc main_v136_1)
    = pack zero ((zip (argW m c) (argG m c) (argM m c) (argV m c)).map momOf) :=
  (Pipeline.withArrays_arr spec0 launch0.win.arr_inj c (V0 m c) (fun w => (dats m 0 c).arrAt w (cfgs 0).N) 5).trans (small_mom m c)

theorem unpacked_mom : unpack (Pipeline.withArrays (cfgs 0).spec c (V0 m c) (fun w => (dats m 0 c).arrAt w (cfgs 0).N)
      (Proc.devRef .tc main_v136_1))
    = (zip (argW m c) (argG m c) (argM m c) (argV m c)).map momOf :=
  (congrArg unpack (exit_mom m c)).trans (unpack_pack _ _)

theorem exit_sec : Pipeline.withArrays (cfgs 0).spec c (V0 m c) (fun w => (dats m 0 c).arrAt w (cfgs 0).N) (Proc.devRef .tc main_v136_2)
    = pack zero ((zip (argW m c) (argG m c) (argM m c) (argV m c)).map secOf) :=
  (Pipeline.withArrays_arr spec0 launch0.win.arr_inj c (V0 m c) (fun w => (dats m 0 c).arrAt w (cfgs 0).N) 6).trans (small_sec m c)

theorem unpacked_sec : unpack (Pipeline.withArrays (cfgs 0).spec c (V0 m c) (fun w => (dats m 0 c).arrAt w (cfgs 0).N)
      (Proc.devRef .tc main_v136_2))
    = (zip (argW m c) (argG m c) (argM m c) (argV m c)).map secOf :=
  (congrArg unpack (exit_sec m c)).trans (unpack_pack _ _)

/-- The steps of the eleven weights, as the launched arrays give them. -/
abbrev steps (f : Ideal .f32 × Ideal .f32 × Ideal .f32 × Ideal .f32 → Ideal .f32) : Small (Ideal .f32) :=
  (zip (argW m c) (argG m c) (argM m c) (argV m c)).map f

/-- The kernel's run: each result is the step of its weight, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v139) = (steps m c delOf).a0
      ∧ r.2.mem ((c : Thread nD τ).loc main_v143) = (steps m c delOf).a1
      ∧ r.2.mem ((c : Thread nD τ).loc main_v147) = (steps m c delOf).a2
      ∧ r.2.mem ((c : Thread nD τ).loc main_v151) = (steps m c delOf).a3
      ∧ r.2.mem ((c : Thread nD τ).loc main_v155) = (steps m c delOf).a4
      ∧ r.2.mem ((c : Thread nD τ).loc main_v159) = (steps m c delOf).a5
      ∧ r.2.mem ((c : Thread nD τ).loc main_v163) = (steps m c delOf).a6
      ∧ r.2.mem ((c : Thread nD τ).loc main_v166) = (steps m c delOf).a7
      ∧ r.2.mem ((c : Thread nD τ).loc main_v169) = (steps m c delOf).a8
      ∧ r.2.mem ((c : Thread nD τ).loc main_v172) = (steps m c delOf).a9
      ∧ r.2.mem ((c : Thread nD τ).loc main_v175) = (steps m c delOf).a10
      ∧ r.2.mem ((c : Thread nD τ).loc main_v178) = (steps m c momOf).a0
      ∧ r.2.mem ((c : Thread nD τ).loc main_v182) = (steps m c momOf).a1
      ∧ r.2.mem ((c : Thread nD τ).loc main_v186) = (steps m c momOf).a2
      ∧ r.2.mem ((c : Thread nD τ).loc main_v190) = (steps m c momOf).a3
      ∧ r.2.mem ((c : Thread nD τ).loc main_v194) = (steps m c momOf).a4
      ∧ r.2.mem ((c : Thread nD τ).loc main_v198) = (steps m c momOf).a5
      ∧ r.2.mem ((c : Thread nD τ).loc main_v202) = (steps m c momOf).a6
      ∧ r.2.mem ((c : Thread nD τ).loc main_v205) = (steps m c momOf).a7
      ∧ r.2.mem ((c : Thread nD τ).loc main_v208) = (steps m c momOf).a8
      ∧ r.2.mem ((c : Thread nD τ).loc main_v211) = (steps m c momOf).a9
      ∧ r.2.mem ((c : Thread nD τ).loc main_v214) = (steps m c momOf).a10
      ∧ r.2.mem ((c : Thread nD τ).loc main_v217) = (steps m c secOf).a0
      ∧ r.2.mem ((c : Thread nD τ).loc main_v221) = (steps m c secOf).a1
      ∧ r.2.mem ((c : Thread nD τ).loc main_v225) = (steps m c secOf).a2
      ∧ r.2.mem ((c : Thread nD τ).loc main_v229) = (steps m c secOf).a3
      ∧ r.2.mem ((c : Thread nD τ).loc main_v233) = (steps m c secOf).a4
      ∧ r.2.mem ((c : Thread nD τ).loc main_v237) = (steps m c secOf).a5
      ∧ r.2.mem ((c : Thread nD τ).loc main_v241) = (steps m c secOf).a6
      ∧ r.2.mem ((c : Thread nD τ).loc main_v244) = (steps m c secOf).a7
      ∧ r.2.mem ((c : Thread nD τ).loc main_v247) = (steps m c secOf).a8
      ∧ r.2.mem ((c : Thread nD τ).loc main_v250) = (steps m c secOf).a9
      ∧ r.2.mem ((c : Thread nD τ).loc main_v253) = (steps m c secOf).a10
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36)
      ∧ r.2.mem ((c : Thread nD τ).loc main_arg37) = m ((c : Thread nD τ).loc main_arg37)
      ∧ r.2.mem ((c : Thread nD τ).loc main_arg38) = m ((c : Thread nD τ).loc main_arg38)
      ∧ r.2.mem ((c : Thread nD τ).loc main_arg39) = m ((c : Thread nD τ).loc main_arg39)
      ∧ r.2.mem ((c : Thread nD τ).loc main_arg40) = m ((c : Thread nD τ).loc main_arg40)
      ∧ r.2.mem ((c : Thread nD τ).loc main_arg41) = m ((c : Thread nD τ).loc main_arg41)
      ∧ r.2.mem ((c : Thread nD τ).loc main_arg42) = m ((c : Thread nD τ).loc main_arg42)
      ∧ r.2.mem ((c : Thread nD τ).loc main_arg43) = m ((c : Thread nD τ).loc main_arg43) :=
  (θ_run defs _ _).mono (fun r h c => ⟨((h c).2 main_v139 (Pipeline.mem_restRefs_of main_v139 (by decide) (by decide))).trans ((tail_del0 _).trans (congrArg Small.a0 (unpacked_del m c))),
      ((h c).2 main_v143 (Pipeline.mem_restRefs_of main_v143 (by decide) (by decide))).trans ((tail_del1 _).trans (congrArg Small.a1 (unpacked_del m c))),
      ((h c).2 main_v147 (Pipeline.mem_restRefs_of main_v147 (by decide) (by decide))).trans ((tail_del2 _).trans (congrArg Small.a2 (unpacked_del m c))),
      ((h c).2 main_v151 (Pipeline.mem_restRefs_of main_v151 (by decide) (by decide))).trans ((tail_del3 _).trans (congrArg Small.a3 (unpacked_del m c))),
      ((h c).2 main_v155 (Pipeline.mem_restRefs_of main_v155 (by decide) (by decide))).trans ((tail_del4 _).trans (congrArg Small.a4 (unpacked_del m c))),
      ((h c).2 main_v159 (Pipeline.mem_restRefs_of main_v159 (by decide) (by decide))).trans ((tail_del5 _).trans (congrArg Small.a5 (unpacked_del m c))),
      ((h c).2 main_v163 (Pipeline.mem_restRefs_of main_v163 (by decide) (by decide))).trans ((tail_del6 _).trans (congrArg Small.a6 (unpacked_del m c))),
      ((h c).2 main_v166 (Pipeline.mem_restRefs_of main_v166 (by decide) (by decide))).trans ((tail_del7 _).trans (congrArg Small.a7 (unpacked_del m c))),
      ((h c).2 main_v169 (Pipeline.mem_restRefs_of main_v169 (by decide) (by decide))).trans ((tail_del8 _).trans (congrArg Small.a8 (unpacked_del m c))),
      ((h c).2 main_v172 (Pipeline.mem_restRefs_of main_v172 (by decide) (by decide))).trans ((tail_del9 _).trans (congrArg Small.a9 (unpacked_del m c))),
      ((h c).2 main_v175 (Pipeline.mem_restRefs_of main_v175 (by decide) (by decide))).trans ((tail_del10 _).trans (congrArg Small.a10 (unpacked_del m c))),
      ((h c).2 main_v178 (Pipeline.mem_restRefs_of main_v178 (by decide) (by decide))).trans ((tail_mom0 _).trans (congrArg Small.a0 (unpacked_mom m c))),
      ((h c).2 main_v182 (Pipeline.mem_restRefs_of main_v182 (by decide) (by decide))).trans ((tail_mom1 _).trans (congrArg Small.a1 (unpacked_mom m c))),
      ((h c).2 main_v186 (Pipeline.mem_restRefs_of main_v186 (by decide) (by decide))).trans ((tail_mom2 _).trans (congrArg Small.a2 (unpacked_mom m c))),
      ((h c).2 main_v190 (Pipeline.mem_restRefs_of main_v190 (by decide) (by decide))).trans ((tail_mom3 _).trans (congrArg Small.a3 (unpacked_mom m c))),
      ((h c).2 main_v194 (Pipeline.mem_restRefs_of main_v194 (by decide) (by decide))).trans ((tail_mom4 _).trans (congrArg Small.a4 (unpacked_mom m c))),
      ((h c).2 main_v198 (Pipeline.mem_restRefs_of main_v198 (by decide) (by decide))).trans ((tail_mom5 _).trans (congrArg Small.a5 (unpacked_mom m c))),
      ((h c).2 main_v202 (Pipeline.mem_restRefs_of main_v202 (by decide) (by decide))).trans ((tail_mom6 _).trans (congrArg Small.a6 (unpacked_mom m c))),
      ((h c).2 main_v205 (Pipeline.mem_restRefs_of main_v205 (by decide) (by decide))).trans ((tail_mom7 _).trans (congrArg Small.a7 (unpacked_mom m c))),
      ((h c).2 main_v208 (Pipeline.mem_restRefs_of main_v208 (by decide) (by decide))).trans ((tail_mom8 _).trans (congrArg Small.a8 (unpacked_mom m c))),
      ((h c).2 main_v211 (Pipeline.mem_restRefs_of main_v211 (by decide) (by decide))).trans ((tail_mom9 _).trans (congrArg Small.a9 (unpacked_mom m c))),
      ((h c).2 main_v214 (Pipeline.mem_restRefs_of main_v214 (by decide) (by decide))).trans ((tail_mom10 _).trans (congrArg Small.a10 (unpacked_mom m c))),
      ((h c).2 main_v217 (Pipeline.mem_restRefs_of main_v217 (by decide) (by decide))).trans ((tail_sec0 _).trans (congrArg Small.a0 (unpacked_sec m c))),
      ((h c).2 main_v221 (Pipeline.mem_restRefs_of main_v221 (by decide) (by decide))).trans ((tail_sec1 _).trans (congrArg Small.a1 (unpacked_sec m c))),
      ((h c).2 main_v225 (Pipeline.mem_restRefs_of main_v225 (by decide) (by decide))).trans ((tail_sec2 _).trans (congrArg Small.a2 (unpacked_sec m c))),
      ((h c).2 main_v229 (Pipeline.mem_restRefs_of main_v229 (by decide) (by decide))).trans ((tail_sec3 _).trans (congrArg Small.a3 (unpacked_sec m c))),
      ((h c).2 main_v233 (Pipeline.mem_restRefs_of main_v233 (by decide) (by decide))).trans ((tail_sec4 _).trans (congrArg Small.a4 (unpacked_sec m c))),
      ((h c).2 main_v237 (Pipeline.mem_restRefs_of main_v237 (by decide) (by decide))).trans ((tail_sec5 _).trans (congrArg Small.a5 (unpacked_sec m c))),
      ((h c).2 main_v241 (Pipeline.mem_restRefs_of main_v241 (by decide) (by decide))).trans ((tail_sec6 _).trans (congrArg Small.a6 (unpacked_sec m c))),
      ((h c).2 main_v244 (Pipeline.mem_restRefs_of main_v244 (by decide) (by decide))).trans ((tail_sec7 _).trans (congrArg Small.a7 (unpacked_sec m c))),
      ((h c).2 main_v247 (Pipeline.mem_restRefs_of main_v247 (by decide) (by decide))).trans ((tail_sec8 _).trans (congrArg Small.a8 (unpacked_sec m c))),
      ((h c).2 main_v250 (Pipeline.mem_restRefs_of main_v250 (by decide) (by decide))).trans ((tail_sec9 _).trans (congrArg Small.a9 (unpacked_sec m c))),
      ((h c).2 main_v253 (Pipeline.mem_restRefs_of main_v253 (by decide) (by decide))).trans ((tail_sec10 _).trans (congrArg Small.a10 (unpacked_sec m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c),
      ((h c).2 main_arg29 (Pipeline.mem_restRefs_of main_arg29 (by decide) (by decide))).trans (W_main_arg29 m (dats m) c),
      ((h c).2 main_arg30 (Pipeline.mem_restRefs_of main_arg30 (by decide) (by decide))).trans (W_main_arg30 m (dats m) c),
      ((h c).2 main_arg31 (Pipeline.mem_restRefs_of main_arg31 (by decide) (by decide))).trans (W_main_arg31 m (dats m) c),
      ((h c).2 main_arg32 (Pipeline.mem_restRefs_of main_arg32 (by decide) (by decide))).trans (W_main_arg32 m (dats m) c),
      ((h c).2 main_arg33 (Pipeline.mem_restRefs_of main_arg33 (by decide) (by decide))).trans (W_main_arg33 m (dats m) c),
      ((h c).2 main_arg34 (Pipeline.mem_restRefs_of main_arg34 (by decide) (by decide))).trans (W_main_arg34 m (dats m) c),
      ((h c).2 main_arg35 (Pipeline.mem_restRefs_of main_arg35 (by decide) (by decide))).trans (W_main_arg35 m (dats m) c),
      ((h c).2 main_arg36 (Pipeline.mem_restRefs_of main_arg36 (by decide) (by decide))).trans (W_main_arg36 m (dats m) c),
      ((h c).2 main_arg37 (Pipeline.mem_restRefs_of main_arg37 (by decide) (by decide))).trans (W_main_arg37 m (dats m) c),
      ((h c).2 main_arg38 (Pipeline.mem_restRefs_of main_arg38 (by decide) (by decide))).trans (W_main_arg38 m (dats m) c),
      ((h c).2 main_arg39 (Pipeline.mem_restRefs_of main_arg39 (by decide) (by decide))).trans (W_main_arg39 m (dats m) c),
      ((h c).2 main_arg40 (Pipeline.mem_restRefs_of main_arg40 (by decide) (by decide))).trans (W_main_arg40 m (dats m) c),
      ((h c).2 main_arg41 (Pipeline.mem_restRefs_of main_arg41 (by decide) (by decide))).trans (W_main_arg41 m (dats m) c),
      ((h c).2 main_arg42 (Pipeline.mem_restRefs_of main_arg42 (by decide) (by decide))).trans (W_main_arg42 m (dats m) c),
      ((h c).2 main_arg43 (Pipeline.mem_restRefs_of main_arg43 (by decide) (by decide))).trans (W_main_arg43 m (dats m) c)⟩)
    (run_main m ρ)

end Cert.AdamSmall

end
-- ==== Proof.GradSum.lean ====
/- The sum of the devices' gradients of the small weights: the kernel adds the eight arrays one after another, the reference
   in one sum. -/
module

public import proofs.«01_k».proof.Proof.Gen.Kernel16Ideal.Value
public import proofs.«01_k».proof.Proof.Gen.Reference16Ideal.Read
public import Idealize.ShloMosaic.Lib.ValueLayout

@[expose] public section

noncomputable section

open Idealize.ShloMosaic Idealize.ShloMosaic.TcCoe Idealize.SL.Sem

namespace Cert.GradSum

open Cert.Kernel16Ideal Cert.Kernel16Ideal.Gen

/-- One device's array. -/
theorem slab (a : Vec Ideal S8x728x128 .f32) (d : Fin 8) (h : S1x728x128.ShapeCasts S728x128)
    (inb : ∀ k, (![d.val, 0, 0] : Fin 3 → ℕ) k + S1x728x128.size k ≤ S8x728x128.size k) (i : S728x128.Idx) :
    shapeCast S728x128 (View.ld a (Rect.unit (s := S8x728x128) ![d.val, 0, 0] S1x728x128.size inb)) h i
      = a (Reference16Ideal.Read.idx_main_v0 i d) := by
  refine (shapeCast_dropUnit_apply ![728, 128] _ h i).trans (congrArg a (funext fun b => Fin.ext ?_))
  match b with
  | ⟨0, _⟩ => exact Nat.add_zero _
  | ⟨1, _⟩ => exact (Nat.zero_add _).trans (Nat.one_mul _)
  | ⟨2, _⟩ => exact (Nat.zero_add _).trans (Nat.one_mul _)

theorem final (a : Vec Ideal S8x728x128 .f32) : Value.G1 a = Reference16Ideal.Read.val_main_v0 (F := Ideal) a := by
  funext i
  rw [Reference16Ideal.Read.val_main_v0_apply, Fin.sum_univ_eight]
  have z : Reference16Ideal.Read.val_main_cst (F := Ideal) (Shape.Idx.first Reference16Ideal.Gen.facts.h_S_) = (0 : EReal) := by
    show Ideal.ofBits .f32 0x00000000#32 = 0
    simp [Ideal.ofBits, Ideal.ieee]
  rw [z, zero_add, ← slab a 0, ← slab a 1, ← slab a 2, ← slab a 3, ← slab a 4, ← slab a 5, ← slab a 6, ← slab a 7]
  rfl

end Cert.GradSum

end
-- ==== Proof.NormSpec.lean ====
/- The gradient of silu(layer_norm(c)) on one row of real numbers: the terms of the forward pass, the kernel's closed form of
   the gradient, and the reference's chain through the mean and the variance, which is the same number. -/
module

public import Idealize.ShloMosaic.PureOps.Ideal
public import Idealize.ShloMosaic.Lib.ValueIdx

@[expose] public section

noncomputable section

open Idealize.ShloMosaic
open scoped BigOperators

namespace Cert.Norm

theorem coe_sum {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

theorem div_coe (x y : ℝ) (h : y ≠ 0) : Ideal.div (x : EReal) (y : EReal) = ((x / y : ℝ) : EReal) := by
  have h' : (y : EReal) ≠ 0 := by exact_mod_cast h
  rw [Ideal.div, if_neg h', div_eq_mul_inv, EReal.coe_mul, EReal.coe_inv]

theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The norm's ε, the number that its float is. -/
def eps : ℝ := 10995116 / 2 ^ 40

theorem eps_pos : 0 < eps := by unfold eps; positivity

theorem eps_coe : Ideal.ofBits .f32 0x3727C5AC#32 = (eps : EReal) := by
  simp [Ideal.ofBits, Ideal.ieee, eps, -EReal.coe_mul]
  norm_num

theorem two_coe : Ideal.ofBits .f32 0x40000000#32 = ((2 : ℝ) : EReal) := by
  simp [Ideal.ofBits, Ideal.ieee, -EReal.coe_mul]
  norm_num

theorem half_coe : Ideal.ofBits .f32 0xBF000000#32 = ((-(1 / 2) : ℝ) : EReal) := by
  simp [Ideal.ofBits, Ideal.ieee, -EReal.coe_mul]
  norm_num

theorem dim_coe : Ideal.ofBits .f32 0x45000000#32 = ((2048 : ℝ) : EReal) := by
  simp [Ideal.ofBits, Ideal.ieee, -EReal.coe_mul]
  norm_num

variable (a c g b : Fin 2048 → ℝ)

def mu : ℝ := (∑ k, c k) / 2048
def cen (k : Fin 2048) : ℝ := c k - mu c
def vari : ℝ := (∑ k, cen c k * cen c k) / 2048 + eps
def rstd : ℝ := (Real.sqrt (vari c))⁻¹
def chat (k : Fin 2048) : ℝ := cen c k * rstd c
def lin (k : Fin 2048) : ℝ := chat c k * g k + b k
def sig (k : Fin 2048) : ℝ := 1 / (1 + Real.exp (-lin c g b k))
def dn (k : Fin 2048) : ℝ := a k * (sig c g b k * (1 + lin c g b k * (1 - sig c g b k)))
def dxh (k : Fin 2048) : ℝ := dn a c g b k * g k
def dc (k : Fin 2048) : ℝ :=
  rstd c * (dxh a c g b k - (∑ j, dxh a c g b j) / 2048 - chat c k * ((∑ j, dxh a c g b j * chat c j) / 2048))

theorem vari_pos : 0 < vari c :=
  add_pos_of_nonneg_of_pos (div_nonneg (Finset.sum_nonneg fun k _ => mul_self_nonneg _) (by norm_num)) eps_pos

theorem sig_den_pos (x : ℝ) : 0 < 1 + Real.exp x := add_pos one_pos (Real.exp_pos x)

theorem sum_cen : ∑ k, cen c k = 0 := by
  simp only [cen, mu, Finset.sum_sub_distrib, Finset.sum_const, Finset.card_univ, Fintype.card_fin, nsmul_eq_mul]
  push_cast
  ring

theorem rstd_sq : rstd c / vari c = rstd c * (rstd c * rstd c) := by
  have h := vari_pos c
  have hs : rstd c * rstd c = (vari c)⁻¹ := by
    rw [rstd, ← mul_inv, Real.mul_self_sqrt h.le]
  rw [hs, div_eq_mul_inv]

/-- The reference's gradient to the variance, times 1/2048. -/
def dvar : ℝ := (∑ j, cen c j * dxh a c g b j) * (-(1 / 2) * (rstd c / vari c)) / 2048

theorem dn_chain (k : Fin 2048) :
    a k * sig c g b k + lin c g b k * a k * (sig c g b k * (1 - sig c g b k)) = dn a c g b k := by
  rw [dn]; ring

theorem dc_chain (k : Fin 2048) :
    dxh a c g b k * rstd c + dvar a c g b * (2 * cen c k)
      + ((∑ j, -(dxh a c g b j * rstd c)) + ∑ j, -(dvar a c g b * (2 * cen c j))) / 2048 = dc a c g b k := by
  have h1 : (∑ j, -(dxh a c g b j * rstd c)) = -((∑ j, dxh a c g b j) * rstd c) := by
    rw [Finset.sum_neg_distrib, Finset.sum_mul]
  have h2 : (∑ j, -(dvar a c g b * (2 * cen c j))) = 0 := by
    rw [Finset.sum_neg_distrib, ← Finset.mul_sum, ← Finset.mul_sum, sum_cen]; ring
  have h3 : (∑ j, dxh a c g b j * chat c j) = (∑ j, cen c j * dxh a c g b j) * rstd c := by
    rw [Finset.sum_mul]; exact Finset.sum_congr rfl fun j _ => by rw [chat]; ring
  rw [h1, h2, dc, h3, dvar, rstd_sq, chat]
  ring

end Cert.Norm

end
-- ==== Proof.NormKernel.lean ====
/- The row values of the norm's backward kernel: what its body computes of one row of finite numbers is the real
   specification's. -/
module

public import proofs.«01_k».proof.Proof.Gen.Kernel2Ideal.Value
public import proofs.«01_k».proof.Proof.NormSpec
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.NormKernel

open Cert.Norm Cert.ReadAt Cert.Kernel2Ideal Cert.Kernel2Ideal.Gen

variable (v0 v32 : Vec Ideal S256x2048 .f32) (v17 v21 v40 : Vec Ideal S1x2048 .f32) (i : Fin 256) (a c g b : Fin 2048 → ℝ)

theorem cen_at (hc : ∀ k, (v0 (ix2 i k) : EReal) = (c k : ℝ)) (k : Fin 2048) :
    (k0_pay6 (F := Ideal) v0 (ix2 i k) : EReal) = (cen c k : ℝ) := by
  pointwise [k0_pay6]
  simp only [hc, coe_sum, dim_coe, div_coe _ _ (by norm_num : (2048 : ℝ) ≠ 0), ← EReal.coe_sub]
  rfl

theorem rstd_at (hc : ∀ k, (v0 (ix2 i k) : EReal) = (c k : ℝ)) :
    (k0_pay7 (F := Ideal) v0 (ix2 i 0) : EReal) = (rstd c : ℝ) := by
  have h := cen_at v0 i c hc
  pointwise [k0_pay7]
  simp only [h, ← EReal.coe_mul, coe_sum, dim_coe, eps_coe, div_coe _ _ (by norm_num : (2048 : ℝ) ≠ 0), ← EReal.coe_add]
  exact rsqrt_pos _ (vari_pos c)

theorem chat_at (hc : ∀ k, (v0 (ix2 i k) : EReal) = (c k : ℝ)) (k : Fin 2048) :
    (k0_pay8 (F := Ideal) v0 (ix2 i k) : EReal) = (chat c k : ℝ) := by
  have h := cen_at v0 i c hc k
  have h' := rstd_at v0 i c hc
  pointwise [k0_pay8]
  rw [h, h', ← EReal.coe_mul]
  rfl

theorem dn_at (hc : ∀ k, (v0 (ix2 i k) : EReal) = (c k : ℝ)) (hg : ∀ k, (v17 (ix2 0 k) : EReal) = (g k : ℝ))
    (hb : ∀ k, (v21 (ix2 0 k) : EReal) = (b k : ℝ)) (ha : ∀ k, (v32 (ix2 i k) : EReal) = (a k : ℝ)) (k : Fin 2048) :
    (k0_pay9 (F := Ideal) v0 v17 v21 v32 (ix2 i k) : EReal) = (dn a c g b k : ℝ) := by
  have h := chat_at v0 i c hc k
  have one : (1 : EReal) = ((1 : ℝ) : EReal) := rfl
  have hn : (0 : EReal) - ((lin c g b k : ℝ) : EReal) = ((-lin c g b k : ℝ) : EReal) := by rw [zero_sub, ← EReal.coe_neg]
  have hl : ((chat c k : ℝ) : EReal) * (g k : ℝ) + (b k : ℝ) = (lin c g b k : ℝ) := by rw [← EReal.coe_mul, ← EReal.coe_add]; rfl
  pointwise [k0_pay9]
  simp only [h, hg, hb, ha, hl, hn, Ideal.exp_coe]
  simp only [one, ← EReal.coe_add, div_coe _ _ (sig_den_pos _).ne', ← EReal.coe_sub, ← EReal.coe_mul]
  rfl

theorem dc_at (v14 : FVec Ideal S256x1 .f32) (v16 v39 : FVec Ideal S256x2048 .f32)
    (h14 : (v14 (ix2 i 0) : EReal) = (rstd c : ℝ)) (h16 : ∀ k, (v16 (ix2 i k) : EReal) = (chat c k : ℝ))
    (h39 : ∀ k, (v39 (ix2 i k) : EReal) = (dn a c g b k : ℝ)) (hg : ∀ k, (v40 (ix2 0 k) : EReal) = (g k : ℝ)) (k : Fin 2048) :
    (k0_pay10 (F := Ideal) v14 v16 v39 v40 (ix2 i k) : EReal) = (dc a c g b k : ℝ) := by
  pointwise [k0_pay10]
  simp only [h14, h16, h39, hg, ← EReal.coe_mul, coe_sum, dim_coe, div_coe _ _ (by norm_num : (2048 : ℝ) ≠ 0), ← EReal.coe_sub]
  rfl

end Cert.NormKernel

end
-- ==== Proof.NormAcc.lean ====
/- The scratch of the norm's backward kernel: three planes of eight rows in which every point adds the rows of its
   block in groups of eight, and the three sums the last point takes of them. -/
module

public import proofs.«01_k».proof.Proof.NormKernel

@[expose] public section

set_option maxRecDepth 16384

noncomputable section

open Idealize.ShloMosaic Idealize.ShloMosaic.TcCoe Idealize.SL.Sem
open scoped BigOperators

namespace Cert.NormKernel

open Cert.Norm Cert.ReadAt Cert.Kernel2Ideal Cert.Kernel2Ideal.Gen

/-- Row `8 j + s` of a block of 256 rows. -/
def foldRow (s : Fin 8) (j : Fin 32) : Fin 256 := ⟨j.val * 8 + s.val, by omega⟩

/-- The sum over the groups of eight rows of a block. -/
def fold8 (x : FVec Ideal S256x2048 .f32) (s : Fin 8) (d : Fin 2048) : EReal :=
  ∑ j : Fin 32, (x (ix2 (foldRow s j) d) : EReal)

theorem pay2_at (x : FVec Ideal S256x2048 .f32) (o : Vec Ideal S1x8x2048 .f32) (s : Fin 8) (d : Fin 2048) :
    (k0_pay2 (F := Ideal) x o (ix3 0 s d) : EReal) = (o (ix3 0 s d) : EReal) + fold8 x s d := by
  pointwise [k0_pay2]
  rfl

theorem pay14_at (x : FVec Ideal S256x2048 .f32) (s : Fin 8) (d : Fin 2048) :
    (k0_pay14 (F := Ideal) x (ix2 s d) : EReal) = fold8 x s d := by
  pointwise [k0_pay14]
  rfl

theorem pay12_at (x y : FVec Ideal S256x2048 .f32) (o : Vec Ideal S1x8x2048 .f32) (s : Fin 8) (d : Fin 2048) :
    (k0_pay12 (F := Ideal) x y o (ix3 0 s d) : EReal) = (o (ix3 0 s d) : EReal) + fold8 (mulf (φ := .f32) y x) s d := by
  pointwise [k0_pay12]
  rfl

theorem pay1_at (x y : FVec Ideal S8x2048 .f32) (s : Fin 8) (d : Fin 2048) :
    (k0_pay1 (F := Ideal) x y (ix3 0 s d) : EReal) = (x (ix2 s d) : EReal) + (y (ix2 s d) : EReal) := by
  pointwise [k0_pay1]

theorem pay13_at (o : Vec Ideal S1x8x2048 .f32) (s : Fin 8) (d : Fin 2048) :
    (k0_pay13 (F := Ideal) o (ix2 s d) : EReal) = (o (ix3 0 s d) : EReal) := by
  pointwise [k0_pay13]

theorem pay11_at (q : Fin 3) (s : Fin 8) (d : Fin 2048) : (k0_pay11 (F := Ideal) (ix3 q s d) : EReal) = 0 := by
  pointwise [k0_pay11]

theorem pay4_at (o : Vec Ideal S1x8x2048 .f32) (d : Fin 2048) :
    (k0_pay4 (F := Ideal) o (ix2 0 d) : EReal) = ∑ s : Fin 8, (o (ix3 0 s d) : EReal) := by
  pointwise [k0_pay4]

theorem pay5_at (o : Vec Ideal S1x8x2048 .f32) (d : Fin 2048) :
    (k0_pay5 (F := Ideal) o (ix2 0 d) : EReal) = ∑ s : Fin 8, (o (ix3 0 s d) : EReal) := by
  pointwise [k0_pay5]

theorem pay3_at (o : Vec Ideal S1x8x2048 .f32) (d : Fin 2048) :
    (k0_pay3 (F := Ideal) o (ix2 0 d) : EReal) = ∑ s : Fin 8, (o (ix3 0 s d) : EReal) := by
  pointwise [k0_pay3]

section planes
variable {Val : EltTy → Type} {e : EltTy} [∀ e, Nonempty (Val e)] {K A n : ℕ}

/-- The position of an index of plane `q`. -/
theorem plane_emb (q : Fin K) (s : Fin A) (d : Fin n)
    (inb : ∀ x, (![q.val, 0, 0] : Fin 3 → Nat) x + (⟨3, ![1, A, n]⟩ : Shape).size x ≤ (⟨3, ![K, A, n]⟩ : Shape).size x) :
    (Rect.unit (s := (⟨3, ![K, A, n]⟩ : Shape)) ![q.val, 0, 0] (⟨3, ![1, A, n]⟩ : Shape).size inb).emb (ix3 (0 : Fin 1) s d)
      = ix3 q s d := by
  funext x; apply Fin.ext
  fin_cases x
  · show q.val + 1 * 0 = q.val; omega
  · show 0 + 1 * s.val = s.val; omega
  · show 0 + 1 * d.val = d.val; omega

/-- The last write of plane `q` is what an index of the plane reads. -/
theorem plane_hit (q : Fin K) (s : Fin A) (d : Fin n)
    (inb : ∀ x, (![q.val, 0, 0] : Fin 3 → Nat) x + (⟨3, ![1, A, n]⟩ : Shape).size x ≤ (⟨3, ![K, A, n]⟩ : Shape).size x)
    (w : (⟨3, ![1, A, n]⟩ : Shape).Idx → Val e) (L : List (View.Piece Val (⟨3, ![K, A, n]⟩ : Shape) e)) :
    View.canon ((⟨Rect.unit ![q.val, 0, 0] (⟨3, ![1, A, n]⟩ : Shape).size inb, w⟩ : View.Piece Val (⟨3, ![K, A, n]⟩ : Shape) e) :: L)
      (ix3 q s d) = w (ix3 0 s d) :=
  (congrArg (View.canon _) (plane_emb q s d inb).symm).trans (View.canon_cons_emb (Rect.unit (s := (⟨3, ![K, A, n]⟩ : Shape)) ![q.val, 0, 0] (⟨3, ![1, A, n]⟩ : Shape).size inb) w L (ix3 (0 : Fin 1) s d))

/-- A write of another plane is not seen. -/
theorem plane_miss (q q' : Fin K) (h : q.val ≠ q'.val) (s : Fin A) (d : Fin n)
    (inb : ∀ x, (![q'.val, 0, 0] : Fin 3 → Nat) x + (⟨3, ![1, A, n]⟩ : Shape).size x ≤ (⟨3, ![K, A, n]⟩ : Shape).size x)
    (w : (⟨3, ![1, A, n]⟩ : Shape).Idx → Val e) (L : List (View.Piece Val (⟨3, ![K, A, n]⟩ : Shape) e)) :
    View.canon ((⟨Rect.unit ![q'.val, 0, 0] (⟨3, ![1, A, n]⟩ : Shape).size inb, w⟩ : View.Piece Val (⟨3, ![K, A, n]⟩ : Shape) e) :: L)
      (ix3 q s d) = View.canon L (ix3 q s d) := by
  refine View.canon_cons_of_not_mem _ L ?_
  intro hm
  obtain ⟨i, hi, he⟩ := (LoadRect.mem_set _).mp hm (0 : Fin 3)
  have hi1 : i < 1 := hi
  have he' : q.val = q'.val + 1 * i := he
  omega

/-- A write of the whole is what every index reads. -/
theorem whole_hit (q : Fin K) (s : Fin A) (d : Fin n)
    (inb : ∀ x, (![0, 0, 0] : Fin 3 → Nat) x + (⟨3, ![K, A, n]⟩ : Shape).size x ≤ (⟨3, ![K, A, n]⟩ : Shape).size x)
    (w : (⟨3, ![K, A, n]⟩ : Shape).Idx → Val e) (L : List (View.Piece Val (⟨3, ![K, A, n]⟩ : Shape) e)) :
    View.canon ((⟨Rect.unit ![0, 0, 0] (⟨3, ![K, A, n]⟩ : Shape).size inb, w⟩ : View.Piece Val (⟨3, ![K, A, n]⟩ : Shape) e) :: L)
      (ix3 q s d) = w (ix3 q s d) := by
  have he : (Rect.unit (s := (⟨3, ![K, A, n]⟩ : Shape)) ![0, 0, 0] (⟨3, ![K, A, n]⟩ : Shape).size inb).emb (ix3 q s d) = ix3 q s d := by
    funext x; apply Fin.ext
    fin_cases x
    · show 0 + 1 * q.val = q.val; omega
    · show 0 + 1 * s.val = s.val; omega
    · show 0 + 1 * d.val = d.val; omega
  exact (congrArg (View.canon _) he.symm).trans (View.canon_cons_emb (Rect.unit (s := (⟨3, ![K, A, n]⟩ : Shape)) ![0, 0, 0] (⟨3, ![K, A, n]⟩ : Shape).size inb) w L (ix3 q s d))

/-- A covered read of plane `q`. -/
theorem cov_at {sig' : RefSig} {κ : Kind} {sp : Space} (v : View sig' κ sp (⟨3, ![K, A, n]⟩ : Shape) e)
    (L : List (View.Piece Val (⟨3, ![K, A, n]⟩ : Shape) e)) (q : Fin K) (s : Fin A) (d : Fin n)
    (inb : ∀ x, (![q.val, 0, 0] : Fin 3 → Nat) x + (⟨3, ![1, A, n]⟩ : Shape).size x ≤ (⟨3, ![K, A, n]⟩ : Shape).size x) :
    (v.readCov L (Rect.unit (s := (⟨3, ![K, A, n]⟩ : Shape)) ![q.val, 0, 0] (⟨3, ![1, A, n]⟩ : Shape).size inb).toLoadRect
      : (⟨3, ![1, A, n]⟩ : Shape).Idx → Val e) (ix3 (0 : Fin 1) s d) = View.canon L (ix3 q s d) :=
  (congrFun (View.readCov_eq_canon' v L
    (Rect.unit (s := (⟨3, ![K, A, n]⟩ : Shape)) ![q.val, 0, 0] (⟨3, ![1, A, n]⟩ : Shape).size inb).toLoadRect) (ix3 (0 : Fin 1) s d)).trans
    (congrArg (View.canon L) (plane_emb q s d inb))

end planes

section step
variable (v0 v32 : Vec Ideal S256x2048 .f32) (v17 v21 : Vec Ideal S1x2048 .f32)

/-- What a point adds to each plane: the terms of the scale's gradient, of the offset's, and the input gradient. -/
def part (q : Fin 3) : FVec Ideal S256x2048 .f32 :=
  ![mulf (F := Ideal) (k0_pay9 v0 v17 v21 v32) (k0_pay8 v0), k0_pay9 v0 v17 v21 v32,
    k0_pay10 (k0_pay7 v0) (k0_pay8 v0) (k0_pay9 v0 v17 v21 v32) v17] q

variable (o0 o1 o2 : Vec Ideal S1x8x2048 .f32) (L : List (View.Piece (Elt Ideal) S3x8x2048 .f32))

/-- The writes of one point, last first. -/
def writes : List (View.Piece (Elt Ideal) S3x8x2048 .f32) :=
  ⟨Rect.unit ![2, 0, 0] ![1, 8, 2048] inb_S3x8x2048_S1x8x2048_2_0_0,
    k0_pay2 (F := Ideal) (k0_pay10 (k0_pay7 v0) (k0_pay8 v0) (k0_pay9 v0 v17 v21 v32) v17) o2⟩ ::
  ⟨Rect.unit ![1, 0, 0] ![1, 8, 2048] inb_S3x8x2048_S1x8x2048_1_0_0,
    k0_pay1 (F := Ideal) (k0_pay13 o1) (k0_pay14 (k0_pay9 v0 v17 v21 v32))⟩ ::
  ⟨Rect.unit ![0, 0, 0] ![1, 8, 2048] inb_S3x8x2048_S1x8x2048_0_0_0,
    k0_pay12 (F := Ideal) (k0_pay8 v0) (k0_pay9 v0 v17 v21 v32) o0⟩ :: L

theorem writes_at (q : Fin 3) (s : Fin 8) (d : Fin 2048) :
    (View.canon (writes v0 v32 v17 v21 o0 o1 o2 L) (ix3 q s d) : EReal)
      = ((![o0, o1, o2] q : Vec Ideal S1x8x2048 .f32) (ix3 0 s d) : EReal) + fold8 (part v0 v32 v17 v21 q) s d := by
  unfold writes
  fin_cases q
  · refine (plane_miss (0 : Fin 3) 2 (by decide) s d _ _ _).trans ((plane_miss (0 : Fin 3) 1 (by decide) s d _ _ _).trans
      ((plane_hit (0 : Fin 3) s d _ _ _).trans ?_))
    exact pay12_at _ _ _ _ _
  · refine (plane_miss (1 : Fin 3) 2 (by decide) s d _ _ _).trans ((plane_hit (1 : Fin 3) s d _ _ _).trans ?_)
    rw [pay1_at, pay13_at, pay14_at]; rfl
  · refine (plane_hit (2 : Fin 3) s d _ _ _).trans ?_
    exact pay2_at _ _ _ _

theorem writes_zero (q : Fin 3) (s : Fin 8) (d : Fin 2048) (h0 : (o0 (ix3 0 s d) : EReal) = 0)
    (h1 : (o1 (ix3 0 s d) : EReal) = 0) (h2 : (o2 (ix3 0 s d) : EReal) = 0) :
    (View.canon (writes v0 v32 v17 v21 o0 o1 o2 L) (ix3 q s d) : EReal) = fold8 (part v0 v32 v17 v21 q) s d := by
  have hz : ((![o0, o1, o2] q : Vec Ideal S1x8x2048 .f32) (ix3 0 s d) : EReal) = 0 := by
    fin_cases q
    · exact h0
    · exact h1
    · exact h2
  rw [writes_at, hz, zero_add]

end step

variable (m : (ℓ : Loc nD τ sig) → Buf (Elt Ideal) ℓ)

/-- What point `t` adds. -/
def partAt (c : Dev nD) (t : Fin cfg0.N) (q : Fin 3) : FVec Ideal S256x2048 .f32 :=
  part (iblk m c 1 t) (iblk m c 0 t) (iblk m c 2 t) (iblk m c 3 t) q

/-- A point that is not the first adds to what the point before it left. -/
theorem scr_step (c : Dev nD) (t : Fin cfg0.N) (h0 : ¬t.val % 32 = 0) (ht : t.val - 1 < cfg0.N) (q : Fin 3) (s : Fin 8) (d : Fin 2048) :
    ((outsAt0 m c t.val t.isLt).2.2.2.2 (ix3 q s d) : EReal)
      = ((outsAt0 m c (t.val - 1) ht).2.2.2.2 (ix3 q s d) : EReal) + fold8 (partAt m c t q) s d := by
  have hw : ∀ xs : Vec Ideal S3x8x2048 .f32, ((![View.ld xs (Rect.unit ![0, 0, 0] ![1, 8, 2048] inb_S3x8x2048_S1x8x2048_0_0_0),
      View.ld xs (Rect.unit ![1, 0, 0] ![1, 8, 2048] inb_S3x8x2048_S1x8x2048_1_0_0),
      View.ld xs (Rect.unit ![2, 0, 0] ![1, 8, 2048] inb_S3x8x2048_S1x8x2048_2_0_0)] q : Vec Ideal S1x8x2048 .f32) (ix3 0 s d) : EReal)
        = xs (ix3 q s d) := by
    intro xs
    fin_cases q
    · exact congrArg xs (plane_emb (0 : Fin 3) s d _)
    · exact congrArg xs (plane_emb (1 : Fin 3) s d _)
    · exact congrArg xs (plane_emb (2 : Fin 3) s d _)
  by_cases h1 : t.val % 32 = 31
  · rw [outsAt0_C m c t h0 h1]
    dsimp only
    show _ = ((outsAt0 m c (t.val - 1) _).2.2.2.2 (ix3 q s d) : EReal) + _
    generalize (outsAt0 m c (t.val - 1) _).2.2.2.2 = xs
    frame_out
    rw [read_unread_whole]
    exact (writes_at _ _ _ _ _ _ _ _ q s d).trans (congrArg (· + _) (hw xs))
  · rw [outsAt0_B m c t h0 h1]
    dsimp only
    show _ = ((outsAt0 m c (t.val - 1) _).2.2.2.2 (ix3 q s d) : EReal) + _
    generalize (outsAt0 m c (t.val - 1) _).2.2.2.2 = xs
    frame_out
    rw [read_unread_whole]
    exact (writes_at _ _ _ _ _ _ _ _ q s d).trans (congrArg (· + _) (hw xs))

/-- The first point starts from zero. -/
theorem scr_first (c : Dev nD) (t : Fin cfg0.N) (h0 : t.val % 32 = 0) (q : Fin 3) (s : Fin 8) (d : Fin 2048) :
    ((outsAt0 m c t.val t.isLt).2.2.2.2 (ix3 q s d) : EReal) = fold8 (partAt m c t q) s d := by
  rw [outsAt0_A m c t h0 (by omega)]
  dsimp only
  frame_out
  refine writes_zero _ _ _ _ _ _ _ _ q s d ?_ ?_ ?_
  · exact (cov_at (Val := Elt Ideal) (e := .f32) (View.whole cc0_scratch0) _ (0 : Fin 3) s d _).trans
      ((whole_hit (0 : Fin 3) s d _ _ _).trans (pay11_at _ _ _))
  · exact (cov_at (Val := Elt Ideal) (e := .f32) (View.whole cc0_scratch0) _ (1 : Fin 3) s d _).trans
      ((plane_miss (1 : Fin 3) 0 (by decide) s d _ _ _).trans ((whole_hit (1 : Fin 3) s d _ _ _).trans (pay11_at _ _ _)))
  · exact (cov_at (Val := Elt Ideal) (e := .f32) (View.whole cc0_scratch0) _ (2 : Fin 3) s d _).trans
      ((plane_miss (2 : Fin 3) 1 (by decide) s d _ _ _).trans ((plane_miss (2 : Fin 3) 0 (by decide) s d _ _ _).trans
      ((whole_hit (2 : Fin 3) s d _ _ _).trans (pay11_at _ _ _))))

end Cert.NormKernel

end
-- ==== Proof.NormFinal.lean ====
/- The arrays the norm's backward kernel leaves, for arguments that are real numbers: the input gradient row by row and
   the three sums over the rows. -/
module

public import proofs.«01_k».proof.Proof.NormAcc

@[expose] public section

set_option maxRecDepth 16384

noncomputable section

open Idealize.ShloMosaic Idealize.ShloMosaic.TcCoe Idealize.SL.Sem
open scoped BigOperators

namespace Cert.Norm

/-- Row `r`'s term of each sum: of the scale's gradient, of the offset's, and the input gradient. -/
def term (A C : Fin 8192 → Fin 2048 → ℝ) (G B : Fin 2048 → ℝ) (q : Fin 3) (r : Fin 8192) (k : Fin 2048) : ℝ :=
  ![dn (A r) (C r) G B k * chat (C r) k, dn (A r) (C r) G B k, dc (A r) (C r) G B k] q

/-- A sum over the rows in points of 256, groups of eight and rows of a group. -/
theorem sum_rows (T : ℕ → ℝ) : (∑ s : Fin 8, ∑ t ∈ Finset.range 32, ∑ j : Fin 32, T (t * 256 + (j.val * 8 + s.val)))
    = ∑ r : Fin 8192, T r.val := by
  rw [← Fin.sum_mul_add_fin 32 256 (fun l : Fin 8192 => T l.val) (by norm_num), Finset.sum_comm, Finset.sum_range]
  refine Finset.sum_congr rfl fun t _ => ?_
  rw [← Fin.sum_mul_add_fin 32 8 (fun l : Fin 256 => T (t.val * 256 + l.val)) (by norm_num), Finset.sum_comm]

end Cert.Norm

namespace Cert.NormKernel

open Cert.Norm Cert.ReadAt Cert.Kernel2Ideal Cert.Kernel2Ideal.Gen

variable (m : (ℓ : Loc nD τ sig) → Buf (Elt Ideal) ℓ)

theorem cN : cfg0.N = 32 := by decide +kernel

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] :=
  (by decide +kernel : ∀ t : Fin grid0.N, _)

/-- The row of the arrays that row `i` of point `t`'s block is. -/
def row (t : Fin cfg0.N) (i : Fin 256) : Fin 8192 := ⟨t.val * 256 + i.val, by
  have := t.isLt; have := cN; omega⟩

theorem ds_at (c : Dev nD) (t : Fin cfg0.N) (i : Fin 256) (k : Fin 2048) :
    (iblk m c 0 t (ix2 i k) : EReal) = m ((c : Thread nD τ).loc main_arg0) (ix2 (row t i) k) := by
  refine Eq.trans ?_ ((eq_at2 _ (((cfg0.win 0).blk t).view.emb (ix2 i k)) (row t i).val k.val ?_ ?_).trans (at2_ix _ _ _).symm)
  · simp only [iblk, V]; rfl
  · blk_simp [(idx t).1]; rfl
  · blk_simp [(idx t).1]

theorem c_at (c : Dev nD) (t : Fin cfg0.N) (i : Fin 256) (k : Fin 2048) :
    (iblk m c 1 t (ix2 i k) : EReal) = m ((c : Thread nD τ).loc main_arg1) (ix2 (row t i) k) := by
  refine Eq.trans ?_ ((eq_at2 _ (((cfg0.win 1).blk t).view.emb (ix2 i k)) (row t i).val k.val ?_ ?_).trans (at2_ix _ _ _).symm)
  · simp only [iblk, V]; rfl
  · blk_simp [(idx t).2.1]; rfl
  · blk_simp [(idx t).2.1]

theorem g_row (c : Dev nD) (k : Fin 2048) :
    (V m c main_v0 (ix2 0 k) : EReal) = m ((c : Thread nD τ).loc main_arg2) (ix1 k) := by
  have h : V m c main_v0 = shapeCast S1x2048 (m ((c : Thread nD τ).loc main_arg2)) shapeCasts_S2048_S1x2048 := by
    show StableHlo.after hostOps0 (fun b => m (c, b)) _ = _
    after_results
    rfl
  rw [h]
  pointwise []

theorem g_at (c : Dev nD) (t : Fin cfg0.N) (k : Fin 2048) :
    (iblk m c 2 t (ix2 0 k) : EReal) = m ((c : Thread nD τ).loc main_arg2) (ix1 k) := by
  refine Eq.trans ((eq_at2 _ (((cfg0.win 2).blk t).view.emb (ix2 0 k)) 0 k.val ?_ ?_).trans (at2_ix (V m c main_v0) 0 k).symm) (g_row m c k)
  · blk_simp [(idx t).2.2.1]; simp
  · blk_simp [(idx t).2.2.1]

theorem b_row (c : Dev nD) (k : Fin 2048) :
    (V m c main_v1 (ix2 0 k) : EReal) = m ((c : Thread nD τ).loc main_arg3) (ix1 k) := by
  have h : V m c main_v1 = shapeCast S1x2048 (m ((c : Thread nD τ).loc main_arg3)) shapeCasts_S2048_S1x2048 := by
    show StableHlo.after hostOps0 (fun b => m (c, b)) _ = _
    after_results
    rfl
  rw [h]
  pointwise []

theorem b_at (c : Dev nD) (t : Fin cfg0.N) (k : Fin 2048) :
    (iblk m c 3 t (ix2 0 k) : EReal) = m ((c : Thread nD τ).loc main_arg3) (ix1 k) := by
  refine Eq.trans ((eq_at2 _ (((cfg0.win 3).blk t).view.emb (ix2 0 k)) 0 k.val ?_ ?_).trans (at2_ix (V m c main_v1) 0 k).symm) (b_row m c k)
  · blk_simp [(idx t).2.2.2.1]; simp
  · blk_simp [(idx t).2.2.2.1]

theorem out5 (c : Dev nD) (t : Fin cfg0.N) (h1 : t.val % 32 = 31) (k : Fin 2048) :
    ((outsAt0 m c t.val t.isLt).2.1 (ix2 0 k) : EReal) = ∑ s : Fin 8, ((outsAt0 m c t.val t.isLt).2.2.2.2 (ix3 0 s k) : EReal) := by
  rw [outsAt0_C m c t (by omega) h1]
  dsimp only
  generalize (outsAt0 m c (t.val - 1) _).2.2.2.2 = xs
  frame_out
  refine (pay3_at _ _).trans ?_
  refine Finset.sum_congr rfl fun s _ => ?_
  exact (cov_at (Val := Elt Ideal) (e := .f32) (View.whole cc0_scratch0) _ (0 : Fin 3) s k _)

theorem out6 (c : Dev nD) (t : Fin cfg0.N) (h1 : t.val % 32 = 31) (k : Fin 2048) :
    ((outsAt0 m c t.val t.isLt).2.2.1 (ix2 0 k) : EReal) = ∑ s : Fin 8, ((outsAt0 m c t.val t.isLt).2.2.2.2 (ix3 1 s k) : EReal) := by
  rw [outsAt0_C m c t (by omega) h1]
  dsimp only
  generalize (outsAt0 m c (t.val - 1) _).2.2.2.2 = xs
  frame_out
  refine (pay4_at _ _).trans ?_
  refine Finset.sum_congr rfl fun s _ => ?_
  exact (cov_at (Val := Elt Ideal) (e := .f32) (View.whole cc0_scratch0) _ (1 : Fin 3) s k _)

theorem out7 (c : Dev nD) (t : Fin cfg0.N) (h1 : t.val % 32 = 31) (k : Fin 2048) :
    ((outsAt0 m c t.val t.isLt).2.2.2.1 (ix2 0 k) : EReal) = ∑ s : Fin 8, ((outsAt0 m c t.val t.isLt).2.2.2.2 (ix3 2 s k) : EReal) := by
  rw [outsAt0_C m c t (by omega) h1]
  dsimp only
  generalize (outsAt0 m c (t.val - 1) _).2.2.2.2 = xs
  frame_out
  refine (pay5_at _ _).trans ?_
  refine Finset.sum_congr rfl fun s _ => ?_
  exact (cov_at (Val := Elt Ideal) (e := .f32) (View.whole cc0_scratch0) _ (2 : Fin 3) s k _)

theorem out4 (c : Dev nD) (t : Fin cfg0.N) (y : (⟨2, ![256, 2048]⟩ : Shape).Idx) :
    ((outsAt0 m c t.val t.isLt).1 y : EReal) = partAt m c t 2 y := by
  by_cases h0 : t.val % 32 = 0
  · rw [outsAt0_A m c t h0 (by omega)]
    dsimp only
    frame_out
    rfl
  · by_cases h1 : t.val % 32 = 31
    · rw [outsAt0_C m c t h0 h1]
      dsimp only
      frame_out
      rfl
    · rw [outsAt0_B m c t h0 h1]
      dsimp only
      frame_out
      rfl

/-- An index of a block of one row. -/
theorem top_row (y : (⟨2, ![1, 2048]⟩ : Shape).Idx) : y = ix2 (0 : Fin 1) (y 1 : Fin 2048) := by
  refine (ix2_eta y).symm.trans (congrArg (fun a => ix2 a (y 1 : Fin 2048)) (Fin.ext ?_))
  have h : (y 0).val < 1 := (y 0).isLt
  show (y 0).val = 0
  omega

section finite
variable (A C : Fin 8192 → Fin 2048 → ℝ) (G B : Fin 2048 → ℝ) (c : Dev nD)
  (hA : ∀ r k, (m ((c : Thread nD τ).loc main_arg0) (ix2 r k) : EReal) = ((A r k : ℝ) : EReal))
  (hC : ∀ r k, (m ((c : Thread nD τ).loc main_arg1) (ix2 r k) : EReal) = ((C r k : ℝ) : EReal))
  (hG : ∀ k, (m ((c : Thread nD τ).loc main_arg2) (ix1 k) : EReal) = ((G k : ℝ) : EReal))
  (hB : ∀ k, (m ((c : Thread nD τ).loc main_arg3) (ix1 k) : EReal) = ((B k : ℝ) : EReal))
include hA hC hG hB

/-- What point `t` adds is the terms of its rows. -/
theorem partAt_at (t : Fin cfg0.N) (q : Fin 3) (i : Fin 256) (k : Fin 2048) :
    (partAt m c t q (ix2 i k) : EReal) = (term A C G B q (row t i) k : ℝ) := by
  have hc : ∀ k, (iblk m c 1 t (ix2 i k) : EReal) = ((C (row t i) k : ℝ) : EReal) := fun k => (c_at m c t i k).trans (hC _ _)
  have ha : ∀ k, (iblk m c 0 t (ix2 i k) : EReal) = ((A (row t i) k : ℝ) : EReal) := fun k => (ds_at m c t i k).trans (hA _ _)
  have hg : ∀ k, (iblk m c 2 t (ix2 0 k) : EReal) = ((G k : ℝ) : EReal) := fun k => (g_at m c t k).trans (hG _)
  have hb : ∀ k, (iblk m c 3 t (ix2 0 k) : EReal) = ((B k : ℝ) : EReal) := fun k => (b_at m c t k).trans (hB _)
  have hn := dn_at (iblk m c 1 t) (iblk m c 0 t) (iblk m c 2 t) (iblk m c 3 t) i _ _ _ _ hc hg hb ha
  have hx := chat_at (iblk m c 1 t) i _ hc
  fin_cases q
  · exact (congrArg₂ (fun a b : EReal => a * b) (hn k) (hx k)).trans (EReal.coe_mul _ _).symm
  · exact hn k
  · exact dc_at (iblk m c 2 t) i _ _ _ _ _ _ _ (rstd_at (iblk m c 1 t) i _ hc) hx hn hg k

/-- The term at a natural number, zero from the last row on. -/
def termN (A C : Fin 8192 → Fin 2048 → ℝ) (G B : Fin 2048 → ℝ) (q : Fin 3) (k : Fin 2048) (r : ℕ) : ℝ :=
  if h : r < 8192 then term A C G B q ⟨r, h⟩ k else 0

theorem fold_at (t : Fin cfg0.N) (q : Fin 3) (s : Fin 8) (k : Fin 2048) :
    fold8 (partAt m c t q) s k = ((∑ j : Fin 32, termN A C G B q k (t.val * 256 + (j.val * 8 + s.val)) : ℝ) : EReal) := by
  unfold fold8
  rw [← coe_sum]
  refine Finset.sum_congr rfl fun j _ => (partAt_at m A C G B c hA hC hG hB t q _ k).trans ?_
  unfold termN
  rw [dif_pos (by have := t.isLt; have := cN; omega)]
  rfl

/-- The scratch after point `n`: the terms of all rows up to it. -/
theorem scr_at (q : Fin 3) (s : Fin 8) (k : Fin 2048) : ∀ (n : ℕ) (h : n < cfg0.N),
    ((outsAt0 m c n h).2.2.2.2 (ix3 q s k) : EReal)
      = ((∑ t ∈ Finset.range (n + 1), ∑ j : Fin 32, termN A C G B q k (t * 256 + (j.val * 8 + s.val)) : ℝ) : EReal)
  | 0, h => by
    refine (scr_first m c ⟨0, h⟩ rfl q s k).trans ?_
    rw [fold_at m A C G B c hA hC hG hB, Finset.sum_range_one]
  | n + 1, h => by
    have h0 : n < cfg0.N := by omega
    refine (scr_step m c ⟨n + 1, h⟩ (by have := cN; show ¬(n + 1) % 32 = 0; omega) h0 q s k).trans ?_
    rw [fold_at m A C G B c hA hC hG hB, Finset.sum_range_succ, EReal.coe_add]
    exact congrArg (· + _) (scr_at q s k n h0)

/-- A window of sums, once its block is known to hold the scratch's eight rows of plane `q` added up. -/
theorem sums_at (q : Fin 3) (n : ℕ) (h : n < cfg0.N) (h1 : n % 32 = 31) (k : Fin 2048) :
    (∑ s : Fin 8, ((outsAt0 m c n h).2.2.2.2 (ix3 q s k) : EReal)) = ((∑ r, term A C G B q r k : ℝ) : EReal) := by
  have hn : n = 31 := by have := cN; omega
  subst hn
  simp only [scr_at m A C G B c hA hC hG hB q _ k 31 h]
  rw [coe_sum, sum_rows]
  refine congrArg Real.toEReal (Finset.sum_congr rfl fun r _ => ?_)
  exact dif_pos r.isLt

theorem final_4 : ((dats m 0 c).arrAt 4 cfg0.N : FVec Ideal S8192x2048 .f32)
    = fun y => ((term A C G B 2 (y 0) (y 1) : ℝ) : EReal) := by
  refine (dats m 0 c).arrAt_eq_of_covers 4 _ (by decide +kernel) fun t _ y => ?_
  have e0 : (win0_4.blk t).view.emb y 0 = row t (y 0) := Fin.ext (by blk_simp [(idx t).2.2.2.2.1]; rfl)
  have e1 : (win0_4.blk t).view.emb y 1 = (y 1 : Fin 2048) := Fin.ext (by blk_simp [(idx t).2.2.2.2.1])
  have H := (out4 m c t (ix2 (y 0 : Fin 256) (y 1 : Fin 2048))).trans (partAt_at m A C G B c hA hC hG hB t 2 (y 0) (y 1))
  blk_simp
  rw [after0_4]
  refine (congrArg (outsAt0 m c t.val t.isLt).1 (ix2_eta y).symm).trans (H.trans ?_)
  rw [← e0, ← e1]

theorem final_5 : ((dats m 0 c).arrAt 5 cfg0.N : FVec Ideal S1x2048 .f32)
    = fun y => ((∑ r, term A C G B 0 r (y 1) : ℝ) : EReal) := by
  refine (dats m 0 c).arrAt_eq_of_covers 5 _ (by decide +kernel) fun t hf y => ?_
  have e1 : (win0_5.blk t).view.emb y 1 = (y 1 : Fin 2048) := Fin.ext (by blk_simp [(idx t).2.2.2.2.2.1])
  have H := (out5 m c t ((flush0_5 t).mp hf) (y 1)).trans
    (sums_at m A C G B c hA hC hG hB 0 t.val t.isLt ((flush0_5 t).mp hf) (y 1))
  blk_simp
  rw [after0_5]
  refine (congrArg (outsAt0 m c t.val t.isLt).2.1 (top_row y)).trans (H.trans ?_)
  rw [← e1]

theorem final_6 : ((dats m 0 c).arrAt 6 cfg0.N : FVec Ideal S1x2048 .f32)
    = fun y => ((∑ r, term A C G B 1 r (y 1) : ℝ) : EReal) := by
  refine (dats m 0 c).arrAt_eq_of_covers 6 _ (by decide +kernel) fun t hf y => ?_
  have e1 : (win0_6.blk t).view.emb y 1 = (y 1 : Fin 2048) := Fin.ext (by blk_simp [(idx t).2.2.2.2.2.2.1])
  have H := (out6 m c t ((flush0_6 t).mp hf) (y 1)).trans
    (sums_at m A C G B c hA hC hG hB 1 t.val t.isLt ((flush0_6 t).mp hf) (y 1))
  blk_simp
  rw [after0_6]
  refine (congrArg (outsAt0 m c t.val t.isLt).2.2.1 (top_row y)).trans (H.trans ?_)
  rw [← e1]

theorem final_7 : ((dats m 0 c).arrAt 7 cfg0.N : FVec Ideal S1x2048 .f32)
    = fun y => ((∑ r, term A C G B 2 r (y 1) : ℝ) : EReal) := by
  refine (dats m 0 c).arrAt_eq_of_covers 7 _ (by decide +kernel) fun t hf y => ?_
  have e1 : (win0_7.blk t).view.emb y 1 = (y 1 : Fin 2048) := Fin.ext (by blk_simp [(idx t).2.2.2.2.2.2.2])
  have H := (out7 m c t ((flush0_7 t).mp hf) (y 1)).trans
    (sums_at m A C G B c hA hC hG hB 2 t.val t.isLt ((flush0_7 t).mp hf) (y 1))
  blk_simp
  rw [after0_7]
  refine (congrArg (outsAt0 m c t.val t.isLt).2.2.2.1 (top_row y)).trans (H.trans ?_)
  rw [← e1]

end finite

end Cert.NormKernel

end
-- ==== Proof.NormRef.lean ====
/- The reference of the norm's backward kernel, stage by stage, for arguments that are real numbers. -/
module

public import proofs.«01_k».proof.Proof.Gen.Reference2Ideal.Read
public import proofs.«01_k».proof.Proof.NormFinal

@[expose] public section

set_option maxRecDepth 16384

noncomputable section

open Idealize.ShloMosaic Idealize.ShloMosaic.TcCoe Idealize.SL.Sem
open scoped BigOperators

namespace Cert.NormRef

open Cert.Norm Cert.Reference2Ideal Cert.Reference2Ideal.Gen Cert.Reference2Ideal.Read

theorem zero_coe : Ideal.ofBits .f32 0x00000000#32 = ((0 : ℝ) : EReal) := by simp [Ideal.ofBits, Ideal.ieee]

theorem one_coe : Ideal.ofBits .f32 0x3F800000#32 = ((1 : ℝ) : EReal) := by
  simp [Ideal.ofBits, Ideal.ieee, -EReal.coe_mul]; norm_num

theorem zero_plus (x : ℝ) : Ideal.ofBits .f32 0x00000000#32 + (x : EReal) = (x : EReal) := by
  rw [zero_coe, ← EReal.coe_add, zero_add]

def rowOf (i : S8192x1.Idx) : S8192.Idx := ix1 (n0 := 8192) (i 0)

def laneOf (i : S1x2048.Idx) : S2048.Idx := ix1 (n0 := 2048) (i 1)

/-- A column read as a vector: the row's number. -/
theorem row_idx (i : S8192x1.Idx) : idx_main_v42 i = rowOf i := by
  refine (eq_ix1 _).trans (congrArg (ix1 (n0 := 8192)) (Fin.ext ?_))
  have h : (i 1).val < 1 := (i 1).isLt
  show (i 0).val * 1 + (i 1).val = (i 0).val
  omega

/-- A row of one plane read as a vector: the lane's number. -/
theorem lane_idx (i : S1x2048.Idx) : idx_main_v36 i = laneOf i := by
  refine (eq_ix1 _).trans (congrArg (ix1 (n0 := 2048)) (Fin.ext ?_))
  have h : (i 0).val < 1 := (i 0).isLt
  show (i 0).val * 2048 + (i 1).val = (i 1).val
  omega

variable (x0 x1 : FVec Ideal S8192x2048 .f32) (x2 x3 : FVec Ideal S2048 .f32)
  (A C : Fin 8192 → Fin 2048 → ℝ) (G B : Fin 2048 → ℝ)

section row
variable (hC : ∀ i, (x1 i : EReal) = ((C (i 0) (i 1) : ℝ) : EReal))
include hC

theorem mean_at (i : S8192x1.Idx) : (val_main_v3 (F := Ideal) x1 i : EReal) = ((mu (C (i 0)) : ℝ) : EReal) := by
  rw [val_main_v3_apply, val_main_v1_apply, val_main_v0_apply, val_main_v2_apply, val_main_cst_0_apply, val_main_cst_apply]
  show Ideal.div (Ideal.ofBits .f32 0x00000000#32 + ∑ k : Fin 2048, (x1 (idx_main_v0 (idx_main_v1 i) k) : EReal))
    (Ideal.ofBits .f32 0x45000000#32) = _
  simp only [hC]
  rw [coe_sum, zero_plus, dim_coe, div_coe _ _ (by norm_num)]
  rfl

theorem cen_at (i : S8192x2048.Idx) : (val_main_v5 (F := Ideal) x1 i : EReal) = ((cen (C (i 0)) (i 1) : ℝ) : EReal) := by
  rw [val_main_v5_apply, val_main_v4_apply]
  show (x1 i : EReal) - (val_main_v3 (F := Ideal) x1 _ : EReal) = _
  rw [hC, mean_at x1 C hC, ← EReal.coe_sub]
  rfl

theorem cen_at' (i : S8192x2048.Idx) : (val_main_v14 (F := Ideal) x1 i : EReal) = ((cen (C (i 0)) (i 1) : ℝ) : EReal) := by
  rw [val_main_v14_apply, val_main_v13_apply]
  show (x1 i : EReal) - (val_main_v3 (F := Ideal) x1 _ : EReal) = _
  rw [hC, mean_at x1 C hC, ← EReal.coe_sub]
  rfl

theorem vari_at (i : S8192x1.Idx) : (val_main_v16 (F := Ideal) x1 i : EReal) = ((vari (C (i 0)) : ℝ) : EReal) := by
  rw [val_main_v16_apply, val_main_v15_apply, val_main_cst_4_apply, val_main_v12_apply, val_main_v10_apply, val_main_v9_apply,
    val_main_v11_apply, val_main_cst_3_apply, val_main_cst_2_apply]
  show Ideal.div (Ideal.ofBits .f32 0x00000000#32 + ∑ k : Fin 2048, (val_main_v6 (F := Ideal) x1 (idx_main_v9 (idx_main_v10 i) k) : EReal))
    (Ideal.ofBits .f32 0x45000000#32) + Ideal.ofBits .f32 0x3727C5AC#32 = _
  have h : ∀ j, (val_main_v6 (F := Ideal) x1 j : EReal) = ((cen (C (j 0)) (j 1) * cen (C (j 0)) (j 1) : ℝ) : EReal) := fun j => by
    rw [EReal.coe_mul, ← cen_at x1 C hC]; rfl
  simp only [h]
  rw [coe_sum, zero_plus, dim_coe, div_coe _ _ (by norm_num), eps_coe, ← EReal.coe_add]
  rfl

theorem rstd_at (i : S8192x1.Idx) : (val_main_v17 (F := Ideal) x1 i : EReal) = ((rstd (C (i 0)) : ℝ) : EReal) := by
  rw [val_main_v17_apply, vari_at x1 C hC]
  exact rsqrt_pos _ (vari_pos _)

theorem slope_at (i : S8192x1.Idx) :
    (val_main_v20 (F := Ideal) x1 i : EReal) = ((-(1 / 2) * (rstd (C (i 0)) / vari (C (i 0))) : ℝ) : EReal) := by
  rw [val_main_v20_apply, val_main_v19_apply, val_main_cst_5_apply, val_main_v18_apply, rstd_at x1 C hC, vari_at x1 C hC]
  show Ideal.ofBits .f32 0xBF000000#32 * Ideal.div _ _ = _
  rw [half_coe, div_coe _ _ (vari_pos _).ne', ← EReal.coe_mul]

theorem chat_at (i : S8192x2048.Idx) : (val_main_v22 (F := Ideal) x1 i : EReal) = ((chat (C (i 0)) (i 1) : ℝ) : EReal) := by
  rw [val_main_v22_apply, val_main_v21_apply, cen_at' x1 C hC, rstd_at x1 C hC]
  exact (EReal.coe_mul _ _).symm

variable (hG : ∀ i, (x2 i : EReal) = ((G (i 0) : ℝ) : EReal)) (hB : ∀ i, (x3 i : EReal) = ((B (i 0) : ℝ) : EReal))
include hG hB

theorem lin_at (i : S8192x2048.Idx) :
    (val_main_v28 (F := Ideal) x1 x2 x3 i : EReal) = ((lin (C (i 0)) G B (i 1) : ℝ) : EReal) := by
  rw [val_main_v28_apply, val_main_v25_apply, val_main_v24_apply, val_main_v23_apply, val_main_v27_apply, val_main_v26_apply,
    chat_at x1 C hC, hG, hB]
  show ((_ : ℝ) : EReal) * ((_ : ℝ) : EReal) + ((_ : ℝ) : EReal) = _
  rw [← EReal.coe_mul, ← EReal.coe_add]
  rfl

theorem sig_at (i : S8192x2048.Idx) :
    (val_main_v29_2 (F := Ideal) x1 x2 x3 i : EReal) = ((sig (C (i 0)) G B (i 1) : ℝ) : EReal) := by
  rw [val_main_v29_2_apply, val_main_call0_v4_apply, val_main_call0_cst_0_apply, val_main_call0_v3_apply, val_main_call0_v2_apply,
    val_main_call0_cst_apply, val_main_call0_v1_apply, val_main_call0_v0_apply, lin_at x1 x2 x3 C G B hC hG hB]
  show Ideal.div (Ideal.ofBits .f32 0x3F800000#32) (Ideal.ofBits .f32 0x3F800000#32 + Ideal.exp (-((_ : ℝ) : EReal))) = _
  rw [← EReal.coe_neg, Ideal.exp_coe, one_coe, ← EReal.coe_add, div_coe _ _ (sig_den_pos _).ne']
  rfl

theorem dsig_at (i : S8192x2048.Idx) :
    (val_main_v29_1 (F := Ideal) x1 x2 x3 i : EReal)
      = ((sig (C (i 0)) G B (i 1) * (1 - sig (C (i 0)) G B (i 1)) : ℝ) : EReal) := by
  rw [val_main_v29_1_apply, val_main_call0_v7_apply, val_main_call0_v6_apply, val_main_call0_cst_1_apply,
    sig_at x1 x2 x3 C G B hC hG hB]
  show ((_ : ℝ) : EReal) * (Ideal.ofBits .f32 0x3F800000#32 - ((_ : ℝ) : EReal)) = _
  rw [one_coe, ← EReal.coe_sub, ← EReal.coe_mul]

variable (hA : ∀ i, (x0 i : EReal) = ((A (i 0) (i 1) : ℝ) : EReal))
include hA

theorem dn_at (i : S8192x2048.Idx) :
    (val_main_v30 (F := Ideal) x0 x1 x2 x3 i : EReal) = ((dn (A (i 0)) (C (i 0)) G B (i 1) : ℝ) : EReal) := by
  rw [val_main_v30_apply, val_main_call1_v1_apply, val_main_call1_v2_apply, val_main_call1_v0_apply, hA,
    sig_at x1 x2 x3 C G B hC hG hB, dsig_at x1 x2 x3 C G B hC hG hB, lin_at x1 x2 x3 C G B hC hG hB]
  show ((_ : ℝ) : EReal) * ((_ : ℝ) : EReal) + ((_ : ℝ) : EReal) * ((_ : ℝ) : EReal) * ((_ : ℝ) : EReal) = _
  rw [← EReal.coe_mul, ← EReal.coe_mul, ← EReal.coe_mul, ← EReal.coe_add]
  exact congrArg Real.toEReal (dn_chain (A (i 0)) (C (i 0)) G B (i 1))

theorem dxh_at (i : S8192x2048.Idx) :
    (val_main_v38 (F := Ideal) x0 x1 x2 x3 i : EReal) = ((dxh (A (i 0)) (C (i 0)) G B (i 1) : ℝ) : EReal) := by
  rw [val_main_v38_apply, val_main_v37_apply, val_main_v23_apply, hG, dn_at x0 x1 x2 x3 A C G B hC hG hB hA]
  exact (EReal.coe_mul _ _).symm

theorem dxr_at (i : S8192x2048.Idx) :
    (val_main_v44 (F := Ideal) x0 x1 x2 x3 i : EReal) = ((dxh (A (i 0)) (C (i 0)) G B (i 1) * rstd (C (i 0)) : ℝ) : EReal) := by
  rw [val_main_v44_apply, val_main_v43_apply, dxh_at x0 x1 x2 x3 A C G B hC hG hB hA, rstd_at x1 C hC]
  exact (EReal.coe_mul _ _).symm

theorem dvar_at (i : S8192x2048.Idx) :
    (val_main_v53 (F := Ideal) x0 x1 x2 x3 i : EReal)
      = ((dvar (A (i 0)) (C (i 0)) G B * (2 * cen (C (i 0)) (i 1)) : ℝ) : EReal) := by
  rw [val_main_v53_apply, val_main_v52_apply, val_main_v51_apply, val_main_cst_13_apply, val_main_v8_apply, val_main_v7_apply,
    val_main_cst_1_apply, cen_at x1 C hC]
  have h1 : ∀ j, (val_main_v50 (F := Ideal) x0 x1 x2 x3 j : EReal) = ((dvar (A (j 0)) (C (j 0)) G B : ℝ) : EReal) := fun j => by
    rw [val_main_v50_apply, val_main_v49_apply, val_main_cst_12_apply, val_main_v45_apply, slope_at x1 C hC, val_main_v42_apply, row_idx,
      val_main_v41_apply, val_main_cst_10_apply]
    have h : ∀ l, (val_main_v40 (F := Ideal) x0 x1 x2 x3 l : EReal)
        = ((cen (C (l 0)) (l 1) * dxh (A (l 0)) (C (l 0)) G B (l 1) : ℝ) : EReal) := fun l => by
      rw [val_main_v40_apply, cen_at' x1 C hC, dxh_at x0 x1 x2 x3 A C G B hC hG hB hA]
      exact (EReal.coe_mul _ _).symm
    show Ideal.div ((Ideal.ofBits .f32 0x00000000#32 + ∑ k : Fin 2048, (val_main_v40 (F := Ideal) x0 x1 x2 x3 (idx_main_v41 (rowOf j) k) : EReal))
      * ((_ : ℝ) : EReal)) (Ideal.ofBits .f32 0x45000000#32) = _
    simp only [h]
    rw [coe_sum, zero_plus, dim_coe, ← EReal.coe_mul, div_coe _ _ (by norm_num)]
    rfl
  show (Ideal.ofBits .f32 0x00000000#32 + ∑ k : Fin 1, (val_main_v50 (F := Ideal) x0 x1 x2 x3 (idx_main_v51 (idx_main_v52 i) k) : EReal))
    * (Ideal.ofBits .f32 0x40000000#32 * ((_ : ℝ) : EReal)) = _
  simp only [h1]
  rw [coe_sum, zero_plus, two_coe, ← EReal.coe_mul, ← EReal.coe_mul, Fin.sum_univ_one]
  rfl

theorem dc_at (i : S8192x2048.Idx) :
    (val_main_v63 (F := Ideal) x0 x1 x2 x3 i : EReal) = ((dc (A (i 0)) (C (i 0)) G B (i 1) : ℝ) : EReal) := by
  have h46 : ∀ j, (val_main_v46 (F := Ideal) x0 x1 x2 x3 j : EReal)
      = ((-(dxh (A (j 0)) (C (j 0)) G B (j 1) * rstd (C (j 0))) : ℝ) : EReal) := fun j => by
    rw [val_main_v46_apply, dxr_at x0 x1 x2 x3 A C G B hC hG hB hA]; exact (EReal.coe_neg _).symm
  have h54 : ∀ j, (val_main_v54 (F := Ideal) x0 x1 x2 x3 j : EReal)
      = ((-(dvar (A (j 0)) (C (j 0)) G B * (2 * cen (C (j 0)) (j 1))) : ℝ) : EReal) := fun j => by
    rw [val_main_v54_apply, dvar_at x0 x1 x2 x3 A C G B hC hG hB hA]; exact (EReal.coe_neg _).symm
  have h60 : ∀ j, (val_main_v60 (F := Ideal) x0 x1 x2 x3 j : EReal)
      = ((((∑ k, -(dxh (A (j 0)) (C (j 0)) G B k * rstd (C (j 0)))) + ∑ k, -(dvar (A (j 0)) (C (j 0)) G B * (2 * cen (C (j 0)) k))) / 2048 : ℝ) : EReal) :=
    fun j => by
      rw [val_main_v60_apply, val_main_v59_apply, val_main_cst_15_apply, val_main_v58_apply, val_main_v48_apply, val_main_v47_apply,
        val_main_v56_apply, val_main_v55_apply, val_main_cst_11_apply, val_main_cst_14_apply]
      rw [show idx_main_v48 j = rowOf j from row_idx j, show idx_main_v56 j = rowOf j from row_idx j]
      show Ideal.div ((Ideal.ofBits .f32 0x00000000#32 + ∑ k : Fin 2048, (val_main_v46 (F := Ideal) x0 x1 x2 x3 (idx_main_v47 (rowOf j) k) : EReal))
        + (Ideal.ofBits .f32 0x00000000#32 + ∑ k : Fin 2048, (val_main_v54 (F := Ideal) x0 x1 x2 x3 (idx_main_v55 (rowOf j) k) : EReal)))
        (Ideal.ofBits .f32 0x45000000#32) = _
      simp only [h46, h54]
      rw [coe_sum, coe_sum, zero_plus, zero_plus, dim_coe, ← EReal.coe_add, div_coe _ _ (by norm_num)]
      rfl
  rw [val_main_v63_apply, val_main_v57_apply, val_main_v62_apply, val_main_v61_apply, val_main_cst_16_apply,
    dxr_at x0 x1 x2 x3 A C G B hC hG hB hA, dvar_at x0 x1 x2 x3 A C G B hC hG hB hA]
  show ((_ : ℝ) : EReal) + ((_ : ℝ) : EReal)
    + (Ideal.ofBits .f32 0x00000000#32 + ∑ k : Fin 1, (val_main_v60 (F := Ideal) x0 x1 x2 x3 (idx_main_v61 (idx_main_v62 i) k) : EReal)) = _
  simp only [h60]
  rw [coe_sum, zero_plus, Fin.sum_univ_one, ← EReal.coe_add, ← EReal.coe_add]
  exact congrArg Real.toEReal (dc_chain (A (i 0)) (C (i 0)) G B (i 1))

theorem dscale_at (i : S1x2048.Idx) :
    (val_main_v65 (F := Ideal) x0 x1 x2 x3 i : EReal) = ((∑ r, term A C G B 0 r (i 1) : ℝ) : EReal) := by
  have h34 : ∀ j, (val_main_v34 (F := Ideal) x0 x1 x2 x3 j : EReal) = ((term A C G B 0 (j 0) (j 1) : ℝ) : EReal) := fun j => by
    rw [val_main_v34_apply, chat_at x1 C hC, dn_at x0 x1 x2 x3 A C G B hC hG hB hA]
    refine (EReal.coe_mul _ _).symm.trans (congrArg Real.toEReal ?_)
    exact mul_comm _ _
  have h36 : ∀ j, (val_main_v36 (F := Ideal) x0 x1 x2 x3 j : EReal) = ((∑ r, term A C G B 0 r (j 1) : ℝ) : EReal) := fun j => by
    rw [val_main_v36_apply, lane_idx, val_main_v35_apply, val_main_cst_8_apply]
    simp only [h34]
    exact (congrArg (Ideal.ofBits .f32 0x00000000#32 + ·) (coe_sum _ _)).trans (zero_plus _)
  rw [val_main_v65_apply, show idx_main_v65 i = laneOf i from lane_idx i, val_main_v39_apply, val_main_cst_9_apply]
  simp only [h36]
  refine ((congrArg (Ideal.ofBits .f32 0x00000000#32 + ·) (coe_sum _ _)).trans (zero_plus _)).trans ?_
  rw [Fin.sum_univ_one]
  rfl

theorem doffset_at (i : S1x2048.Idx) :
    (val_main_v66 (F := Ideal) x0 x1 x2 x3 i : EReal) = ((∑ r, term A C G B 1 r (i 1) : ℝ) : EReal) := by
  have h32 : ∀ j, (val_main_v32 (F := Ideal) x0 x1 x2 x3 j : EReal) = ((∑ r, term A C G B 1 r (j 1) : ℝ) : EReal) := fun j => by
    rw [val_main_v32_apply, show idx_main_v32 j = laneOf j from lane_idx j, val_main_v31_apply, val_main_cst_6_apply]
    simp only [dn_at x0 x1 x2 x3 A C G B hC hG hB hA]
    exact (congrArg (Ideal.ofBits .f32 0x00000000#32 + ·) (coe_sum _ _)).trans (zero_plus _)
  rw [val_main_v66_apply, show idx_main_v66 i = laneOf i from lane_idx i, val_main_v33_apply, val_main_cst_7_apply]
  simp only [h32]
  refine ((congrArg (Ideal.ofBits .f32 0x00000000#32 + ·) (coe_sum _ _)).trans (zero_plus _)).trans ?_
  rw [Fin.sum_univ_one]
  rfl

theorem dbias_at (i : S1x2048.Idx) :
    (val_main_v67 (F := Ideal) x0 x1 x2 x3 i : EReal) = ((∑ r, term A C G B 2 r (i 1) : ℝ) : EReal) := by
  rw [val_main_v67_apply, show idx_main_v67 i = laneOf i from lane_idx i, val_main_v64_apply, val_main_cst_17_apply]
  simp only [dc_at x0 x1 x2 x3 A C G B hC hG hB hA]
  exact (congrArg (Ideal.ofBits .f32 0x00000000#32 + ·) (coe_sum _ _)).trans (zero_plus _)

end row

end Cert.NormRef

end
-- ==== Proof.NormValue.lean ====
/- The precondition read as numbers, and the norm's backward kernel against its reference. -/
module

public import proofs.«01_k».proof.Defs
public import proofs.«01_k».proof.Proof.NormRef
public import Idealize.ShloMosaic.Lib.KernelVsHost

@[expose] public section

set_option maxRecDepth 16384

noncomputable section

open Idealize.ShloMosaic Idealize.ShloMosaic.TcCoe Idealize.SL.Sem
open scoped BigOperators

namespace Cert.NormValue

theorem preFacts : Cert.Pre_finite.Facts := ⟨by decide, by decide⟩

/-- A value whose absolute value is below the infinity is a real number. -/
theorem real_of (x : Ideal .f32)
    (h : FloatOps.cmpf .olt (FloatOps.hostAbsf x) (FloatOps.ofBits (F := Ideal) .f32 0x7F800000#32) = 1#1) :
    (x : EReal) = ((x.toReal : ℝ) : EReal) := by
  rw [← Ideal.xori_weird_eq_hostAbsf_olt_inf] at h
  have hx : ¬((x : EReal) = ⊤ ∨ (x : EReal) = ⊥) := by
    intro hw
    rw [show FloatOps.weird x = BitVec.ofBool (decide ((x : EReal) = ⊤ ∨ (x : EReal) = ⊥)) from rfl, decide_eq_true hw] at h
    exact absurd h (by decide)
  push Not at hx
  exact (EReal.coe_toReal hx.1 hx.2).symm

variable [Cert.Pre_finite.Facts]
  (m : (ℓ : Loc Cert.Kernel2Ideal.nD Cert.Kernel2Ideal.τ Cert.Kernel2Ideal.sig) → Buf (Elt Ideal) ℓ)
  (hp : Cert.Pre_Kernel2Ideal_finite m) (c : Dev Cert.Kernel2Ideal.nD)

open Cert.Kernel2Ideal in
abbrev arg0 : FVec Ideal Reference2Ideal.S8192x2048 .f32 := m ((c : Thread nD τ).loc main_arg0)
open Cert.Kernel2Ideal in
abbrev arg1 : FVec Ideal Reference2Ideal.S8192x2048 .f32 := m ((c : Thread nD τ).loc main_arg1)
open Cert.Kernel2Ideal in
abbrev arg2 : FVec Ideal Reference2Ideal.S2048 .f32 := m ((c : Thread nD τ).loc main_arg2)
open Cert.Kernel2Ideal in
abbrev arg3 : FVec Ideal Reference2Ideal.S2048 .f32 := m ((c : Thread nD τ).loc main_arg3)

/-- The arguments' real numbers. -/
def rA (r : Fin 8192) (k : Fin 2048) : ℝ := (arg0 m c (ix2 r k)).toReal
def rC (r : Fin 8192) (k : Fin 2048) : ℝ := (arg1 m c (ix2 r k)).toReal
def rG (k : Fin 2048) : ℝ := (arg2 m c (ix1 k)).toReal
def rB (k : Fin 2048) : ℝ := (arg3 m c (ix1 k)).toReal

include hp

theorem hA (r : Fin 8192) (k : Fin 2048) : (arg0 m c (ix2 r k) : EReal) = ((rA m c r k : ℝ) : EReal) :=
  real_of _ (congrFun (hp c).1 (ix2 r k))
theorem hC (r : Fin 8192) (k : Fin 2048) : (arg1 m c (ix2 r k) : EReal) = ((rC m c r k : ℝ) : EReal) :=
  real_of _ (congrFun (hp c).2.1 (ix2 r k))
theorem hG (k : Fin 2048) : (arg2 m c (ix1 k) : EReal) = ((rG m c k : ℝ) : EReal) :=
  real_of _ (congrFun (hp c).2.2.1 (ix1 k))
theorem hB (k : Fin 2048) : (arg3 m c (ix1 k) : EReal) = ((rB m c k : ℝ) : EReal) :=
  real_of _ (congrFun (hp c).2.2.2 (ix1 k))

theorem hA' (i : Reference2Ideal.S8192x2048.Idx) : (arg0 m c i : EReal) = ((rA m c (i 0) (i 1) : ℝ) : EReal) :=
  (congrArg (arg0 m c) (ix2_eta i).symm).trans (hA m hp c (i 0) (i 1))
theorem hC' (i : Reference2Ideal.S8192x2048.Idx) : (arg1 m c i : EReal) = ((rC m c (i 0) (i 1) : ℝ) : EReal) :=
  (congrArg (arg1 m c) (ix2_eta i).symm).trans (hC m hp c (i 0) (i 1))
theorem hG' (i : Reference2Ideal.S2048.Idx) : (arg2 m c i : EReal) = ((rG m c (i 0) : ℝ) : EReal) :=
  (congrArg (arg2 m c) (ix1_eta i).symm).trans (hG m hp c (i 0))
theorem hB' (i : Reference2Ideal.S2048.Idx) : (arg3 m c i : EReal) = ((rB m c (i 0) : ℝ) : EReal) :=
  (congrArg (arg3 m c) (ix1_eta i).symm).trans (hB m hp c (i 0))

open Cert.Kernel2Ideal Cert.Kernel2Ideal.Gen

theorem out_dc : (dats m 0 c).arrAt 4 cfg0.N
    = Reference2Ideal.Read.val_main_v63 (F := Ideal) (arg0 m c) (arg1 m c) (arg2 m c) (arg3 m c) :=
  (NormKernel.final_4 m _ _ _ _ c (hA m hp c) (hC m hp c) (hG m hp c) (hB m hp c)).trans (funext fun i =>
    (NormRef.dc_at _ _ _ _ _ _ _ _ (hC' m hp c) (hG' m hp c) (hB' m hp c) (hA' m hp c) i).symm)

theorem out_scale : (dats m 0 c).arrAt 5 cfg0.N
    = Reference2Ideal.Read.val_main_v65 (F := Ideal) (arg0 m c) (arg1 m c) (arg2 m c) (arg3 m c) :=
  (NormKernel.final_5 m _ _ _ _ c (hA m hp c) (hC m hp c) (hG m hp c) (hB m hp c)).trans (funext fun i =>
    (NormRef.dscale_at _ _ _ _ _ _ _ _ (hC' m hp c) (hG' m hp c) (hB' m hp c) (hA' m hp c) i).symm)

theorem out_offset : (dats m 0 c).arrAt 6 cfg0.N
    = Reference2Ideal.Read.val_main_v66 (F := Ideal) (arg0 m c) (arg1 m c) (arg2 m c) (arg3 m c) :=
  (NormKernel.final_6 m _ _ _ _ c (hA m hp c) (hC m hp c) (hG m hp c) (hB m hp c)).trans (funext fun i =>
    (NormRef.doffset_at _ _ _ _ _ _ _ _ (hC' m hp c) (hG' m hp c) (hB' m hp c) (hA' m hp c) i).symm)

theorem out_bias : (dats m 0 c).arrAt 7 cfg0.N
    = Reference2Ideal.Read.val_main_v67 (F := Ideal) (arg0 m c) (arg1 m c) (arg2 m c) (arg3 m c) :=
  (NormKernel.final_7 m _ _ _ _ c (hA m hp c) (hC m hp c) (hG m hp c) (hB m hp c)).trans (funext fun i =>
    (NormRef.dbias_at _ _ _ _ _ _ _ _ (hC' m hp c) (hG' m hp c) (hB' m hp c) (hA' m hp c) i).symm)

end Cert.NormValue

end
-- ==== Proof.AdamLayers.lean ====
/- AdamW's call on a weight of two layers, whose gradient comes as one matrix a layer: the body takes the block of the
   grid point's layer. -/
module

public import proofs.«01_k».proof.Proof.Gen.Kernel14Ideal.Value
public import proofs.«01_k».proof.Proof.Gen.Reference14Ideal.Read
public import proofs.«01_k».proof.Proof.Adam

@[expose] public section

set_option maxRecDepth 16384

noncomputable section

open Idealize.ShloMosaic Idealize.ShloMosaic.TcCoe Idealize.SL.Sem

namespace Cert.AdamLayers

open Cert.ReadAt Cert.Adam

section Reference

open Cert.Reference14Ideal Cert.Reference14Ideal.Read

abbrev M := (⟨S2048x2048, .f32⟩ : BufTy).Contents (Elt Ideal)
abbrev W := (⟨S2x2048x2048, .f32⟩ : BufTy).Contents (Elt Ideal)

theorem ref_mom (g0 g1 : M) (a : W) (i : S2x2048x2048.Idx) :
    val_main_v7 g0 g1 a i = mom (val_main_v2 g0 g1 i) (a i) := rfl

theorem ref_sec (g0 g1 : M) (a : W) (i : S2x2048x2048.Idx) :
    val_main_v13 g0 g1 a i = sec (val_main_v2 g0 g1 i) (a i) := rfl

theorem ref_del (w : W) (g0 g1 : M) (a b : W) (i : S2x2048x2048.Idx) :
    val_main_v26 w g0 g1 a b i = del (w i) (val_main_v2 g0 g1 i) (a i) (b i) := rfl

/-- The stacked gradients at an element. -/
theorem stack_at (g0 g1 : M) (i : S2x2048x2048.Idx) :
    (val_main_v2 g0 g1 i : EReal) = at2 (if (i 0).val = 1 then g1 else g0) (i 1).val (i 2).val := by
  have h0 : (i 0).val < 2 := (i 0).isLt
  unfold val_main_v2
  by_cases h : (i 0).val = 1
  · rw [if_pos h]
    refine (concatenate_pair_apply_right (0 : Fin S2x2048x2048.rank) (val_main_v0 (F := Ideal) g0) (val_main_v1 (F := Ideal) g1) _ i
      rfl rfl (ix3 0 (i 1) (i 2)) (fun b hb => ?_) (by show 0 + 1 = (i 0).val; omega)).trans ?_
    · match b with
      | ⟨0, _⟩ => exact absurd rfl hb
      | ⟨1, _⟩ => rfl
      | ⟨2, _⟩ => rfl
    · rw [val_main_v1_apply]
      exact eq_at2 g1 _ _ _ rfl rfl
  · rw [if_neg h]
    refine (concatenate_pair_apply_left (0 : Fin S2x2048x2048.rank) (val_main_v0 (F := Ideal) g0) (val_main_v1 (F := Ideal) g1) _ i rfl
      (ix3 0 (i 1) (i 2))
      (fun b => ?_)).trans ?_
    · match b with
      | ⟨0, _⟩ => show 0 = (i 0).val; omega
      | ⟨1, _⟩ => rfl
      | ⟨2, _⟩ => rfl
    · rw [val_main_v0_apply]
      exact eq_at2 g0 _ _ _ rfl rfl

end Reference

open Cert.Kernel14Ideal Cert.Kernel14Ideal.Gen

abbrev B2 := Vec Ideal S512x1024 .f32
abbrev B3 := Vec Ideal S1x512x1024 .f32

theorem pick (i : grid0.Coords) (a b : B2) : k0_pay2 i a b = if (i 0).val = 1 then b else a := by
  have h : (i 0).val < 2 := (i 0).isLt
  unfold k0_pay2
  have h' : (i 0).val = 0 ∨ (i 0).val = 1 := by omega
  rcases h' with h' | h' <;> simp only [h'] <;> rfl

theorem pay_g (i : grid0.Coords) (a b : B2) (r : Fin 512) (q : Fin 1024) :
    k0_pay5 i a b (ix3 0 r q) = k0_pay2 i a b (ix2 r q) := by
  unfold k0_pay5; generalize k0_pay2 i a b = g; pointwise []

theorem pay_mom (i : grid0.Coords) (a b : B2) (x : B3) (r : Fin 512) (q : Fin 1024) :
    k0_pay6 i a b x (ix3 0 r q) = mom (k0_pay2 i a b (ix2 r q)) (x (ix3 0 r q)) := by
  unfold k0_pay6 k0_pay3; generalize k0_pay2 i a b = g; pointwise [mom]

theorem pay_sec (i : grid0.Coords) (a b : B2) (x : B3) (r : Fin 512) (q : Fin 1024) :
    k0_pay7 i a b x (ix3 0 r q) = sec (k0_pay2 i a b (ix2 r q)) (x (ix3 0 r q)) := by
  unfold k0_pay7 k0_pay4; generalize k0_pay2 i a b = g; pointwise [sec]

theorem pay_del (i : grid0.Coords) (a b : B2) (x y w : B3) (r : Fin 512) (q : Fin 1024) :
    k0_pay1 (k0_pay3 i a b x) (k0_pay4 i a b y) (k0_pay8 (F := Ideal)) w (ix3 0 r q)
      = del (w (ix3 0 r q)) (k0_pay2 i a b (ix2 r q)) (x (ix3 0 r q)) (y (ix3 0 r q)) := by
  unfold k0_pay1 k0_pay3 k0_pay4 k0_pay8; generalize k0_pay2 i a b = g; pointwise [del, mom, sec]

theorem idx : ∀ t : Fin cfg0.N, (t.val / 8 = 0 → win0_1.index t = ![t.val / 2 % 4, t.val % 2])
    ∧ (t.val / 8 = 1 → win0_2.index t = ![t.val / 2 % 4, t.val % 2])
    ∧ win0_5.index t = ![t.val / 8, t.val / 2 % 4, t.val % 2] ∧ (grid0.coords t 0).val = t.val / 8 :=
  (by decide +kernel : ∀ t : Fin grid0.N, _)

variable (m : (ℓ : Loc nD τ sig) → Buf (Elt Ideal) ℓ) (c : Dev nD)

/-- What the body takes for the gradient is the stacked gradients' block. -/
theorem g_at (t : Fin cfg0.N) (r : Fin 512) (q : Fin 1024) :
    k0_pay2 (grid0.coords t) (iblk m c 1 t) (iblk m c 2 t) (ix2 r q)
      = Reference14Ideal.Read.val_main_v2 (F := Ideal) (m ((c : Thread nD τ).loc main_arg1))
          (m ((c : Thread nD τ).loc main_arg2)) ((win0_5.blk t).view.emb (ix3 0 r q)) := by
  have ht : t.val < 16 := t.isLt
  obtain ⟨i1, i2, i5, ic⟩ := idx t
  have e0 : ((win0_5.blk t).view.emb (ix3 0 r q) 0).val = t.val / 8 := by blk_simp [i5]; rfl
  have e1 : ((win0_5.blk t).view.emb (ix3 0 r q) 1).val = t.val / 2 % 4 * 512 + r.val := by blk_simp [i5]
  have e2 : ((win0_5.blk t).view.emb (ix3 0 r q) 2).val = t.val % 2 * 1024 + q.val := by blk_simp [i5]
  rw [pick, ic]
  refine Eq.trans ?_ (stack_at _ _ _).symm
  rw [e0, e1, e2]
  by_cases h : t.val / 8 = 1
  · rw [if_pos h, if_pos h]
    refine Eq.trans ?_ (eq_at2 _ (((cfg0.win 2).blk t).view.emb (ix2 r q)) _ _ ?_ ?_)
    · simp only [iblk, V]; rfl
    · blk_simp [i2 h]
    · blk_simp [i2 h]
  · have h' : t.val / 8 = 0 := by omega
    rw [if_neg h, if_neg h]
    refine Eq.trans ?_ (eq_at2 _ (((cfg0.win 1).blk t).view.emb (ix2 r q)) _ _ ?_ ?_)
    · simp only [iblk, V]; rfl
    · blk_simp [i1 h']
    · blk_simp [i1 h']

section read
variable (t : Fin cfg0.N) (y : S1x512x1024.Idx)

theorem read_w : iblk m c 0 t y = m ((c : Thread nD τ).loc main_arg0) ((win0_5.blk t).view.emb y) :=
  congrFun (V_main_arg0 m c) _

theorem read_m : iblk m c 3 t y = m ((c : Thread nD τ).loc main_arg3) ((win0_5.blk t).view.emb y) :=
  congrFun (V_main_arg3 m c) _

theorem read_v : iblk m c 4 t y = m ((c : Thread nD τ).loc main_arg4) ((win0_5.blk t).view.emb y) :=
  congrFun (V_main_arg4 m c) _

end read

theorem eta (y : S1x512x1024.Idx) : y = ix3 (0 : Fin 1) (y 1) (y 2) := funext fun a => by
  match a with
  | ⟨0, _⟩ => exact Fin.ext (by have h : (y 0).val < 1 := (y 0).isLt; show (y 0).val = 0; omega)
  | ⟨1, _⟩ => rfl
  | ⟨2, _⟩ => rfl

theorem layers_g : (dats m 0 c).arrAt 5 cfg0.N = Reference14Ideal.Read.val_main_v2 (F := Ideal)
    (m ((c : Thread nD τ).loc main_arg1)) (m ((c : Thread nD τ).loc main_arg2)) := by
  refine (dats m 0 c).arrAt_eq_of_covers 5 _ (by decide +kernel) fun t _ y => ?_
  obtain ⟨r, q, rfl⟩ : ∃ (r : Fin 512) (q : Fin 1024), y = ix3 0 r q := ⟨_, _, eta y⟩
  blk_simp
  rw [after0_5]
  frame_out
  exact (pay_g _ _ _ r q).trans (g_at m c t r q)

theorem layers_delta : (dats m 0 c).arrAt 6 cfg0.N = Reference14Ideal.Read.val_main_v26 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 6 _ (by decide +kernel) fun t _ y => ?_
  obtain ⟨r, q, rfl⟩ : ∃ (r : Fin 512) (q : Fin 1024), y = ix3 0 r q := ⟨_, _, eta y⟩
  blk_simp
  rw [after0_6]
  frame_out
  exact (pay_del _ _ _ _ _ _ r q).trans ((congr (congr (congr (congrArg del (read_w m c t (ix3 0 r q))) (g_at m c t r q))
    (read_m m c t (ix3 0 r q))) (read_v m c t (ix3 0 r q))).trans (ref_del _ _ _ _ _ _).symm)

theorem layers_mom : (dats m 0 c).arrAt 7 cfg0.N = Reference14Ideal.Read.val_main_v7 (F := Ideal)
    (m ((c : Thread nD τ).loc main_arg1)) (m ((c : Thread nD τ).loc main_arg2)) (m ((c : Thread nD τ).loc main_arg3)) := by
  refine (dats m 0 c).arrAt_eq_of_covers 7 _ (by decide +kernel) fun t _ y => ?_
  obtain ⟨r, q, rfl⟩ : ∃ (r : Fin 512) (q : Fin 1024), y = ix3 0 r q := ⟨_, _, eta y⟩
  blk_simp
  rw [after0_7]
  frame_out
  exact (pay_mom _ _ _ _ r q).trans ((congr (congrArg mom (g_at m c t r q)) (read_m m c t (ix3 0 r q))).trans
    (ref_mom _ _ _ _).symm)

theorem layers_sec : (dats m 0 c).arrAt 8 cfg0.N = Reference14Ideal.Read.val_main_v13 (F := Ideal)
    (m ((c : Thread nD τ).loc main_arg1)) (m ((c : Thread nD τ).loc main_arg2)) (m ((c : Thread nD τ).loc main_arg4)) := by
  refine (dats m 0 c).arrAt_eq_of_covers 8 _ (by decide +kernel) fun t _ y => ?_
  obtain ⟨r, q, rfl⟩ : ∃ (r : Fin 512) (q : Fin 1024), y = ix3 0 r q := ⟨_, _, eta y⟩
  blk_simp
  rw [after0_8]
  frame_out
  exact (pay_sec _ _ _ _ r q).trans ((congr (congrArg sec (g_at m c t r q)) (read_v m c t (ix3 0 r q))).trans
    (ref_sec _ _ _ _).symm)

end Cert.AdamLayers

end
-- ==== Proof.MlpDx.lean ====
/- The gradient of the MLP's input: the blocked product with the transposed first weight over four quarters of the
   hidden axis, plus the scaled residual gradient, is the reference's; the weight comes in four stacked column shards,
   one to a block. -/
module

public import proofs.«01_k».proof.Proof.Gen.Kernel3Ideal.Value
public import proofs.«01_k».proof.Proof.Gen.Reference3Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.MlpDx

open Cert.ReadAt

section Reference
open Cert.Reference3Ideal Cert.Reference3Ideal.Gen Cert.Reference3Ideal.Read

theorem ref_at (x0 : FVec Ideal S8192x8192 .f32) (x1 : FVec Ideal S2048x8192 .f32) (x2 : FVec Ideal S8192x2048 .f32)
    (j : S8192x2048.Idx) :
    val_main_v7 (F := Ideal) x0 x1 x2 j = (∑ k : Fin 8192, at2 x0 (j 0).val k.val * at2 x1 (j 1).val k.val)
      + Ideal.ofBits .f32 0x3FB504F3#32 * at2 x2 (j 0).val (j 1).val := by
  rw [val_main_v7_apply, val_main_v4_apply, val_main_v6_apply]
  refine congrArg₂ _ (Finset.sum_congr rfl fun k _ => congrArg₂ _ (eq_at2 x0 _ _ _ rfl rfl) (eq_at2 x1 _ _ _ rfl rfl))
    (congrArg₂ _ ?_ (eq_at2 x2 _ _ _ rfl rfl))
  rw [val_main_v5_apply, val_main_cst_1_apply]
  rfl

end Reference

open Cert.Kernel3Ideal Cert.Kernel3Ideal.Gen

variable (m : (ℓ : Loc nD τ sig) → Buf (Elt Ideal) ℓ)

theorem idx : ∀ t : Fin cfg0.N, win0_0.index t = ![t.val / 8, t.val % 4]
    ∧ win0_1.index t = ![t.val % 4, t.val / 4 % 2, 0] ∧ win0_2.index t = ![t.val / 8, t.val / 4 % 2]
    ∧ win0_3.index t = ![t.val / 8, t.val / 4 % 2] :=
  (by decide +kernel : ∀ t : Fin grid0.N, _)

theorem pay (v0 : Vec Ideal S1024x2048 .bf16) (v2 : Vec Ideal S1x1024x2048 .bf16) (i j : Fin 1024) :
    (k0_pay1 (F := Ideal) v0 v2 (ix2 i j) : EReal) = ∑ k : Fin 2048, (v0 (ix2 i k) : EReal) * v2 (ix3 0 j k) := by
  pointwise [k0_pay1]

theorem dp_at (c : Dev nD) (t : Fin cfg0.N) (i : Fin 1024) (k : Fin 2048) :
    (iblk m c 0 t (ix2 i k) : EReal)
      = at2 (m ((c : Thread nD τ).loc main_arg0)) (t.val / 8 * 1024 + i.val) (t.val % 4 * 2048 + k.val) := by
  refine Eq.trans ?_ (eq_at2 _ (((cfg0.win 0).blk t).view.emb (ix2 i k)) _ _ ?_ ?_)
  · simp only [iblk, V]; rfl
  · blk_simp [(idx t).1]
  · blk_simp [(idx t).1]

theorem w_at (c : Dev nD) (t : Fin cfg0.N) (j : Fin 1024) (k : Fin 2048) :
    (iblk m c 1 t (ix3 0 j k) : EReal)
      = at2 (m ((c : Thread nD τ).loc main_arg1)) (t.val / 4 % 2 * 1024 + j.val) (t.val % 4 * 2048 + k.val) := by
  refine Eq.trans ?_ ((cols_at 2048 4096 6144 (m ((c : Thread nD τ).loc main_arg1))
    slices_S2048x8192_S2048x2048_0_0 slices_S2048x8192_S2048x2048_0_2048 slices_S2048x8192_S2048x2048_0_4096
    slices_S2048x8192_S2048x2048_0_6144 bcast_S2048x2048_S1x2048x2048_1_2
    concatenates_S1x2048x2048_S1x2048x2048_S1x2048x2048_S1x2048x2048_S4x2048x2048_d0
    (((cfg0.win 1).blk t).view.emb (ix3 0 j k)) rfl rfl rfl).trans (congrArg₂ (at2 _) ?_ ?_))
  · simp only [iblk, V]; rfl
  · blk_simp [(idx t).2.1]
  · blk_simp [(idx t).2.1]; simp

theorem dr_at (c : Dev nD) (t : Fin cfg0.N) (y : S1024x1024.Idx) :
    (iblk m c 2 t y : EReal)
      = at2 (m ((c : Thread nD τ).loc main_arg2)) (t.val / 8 * 1024 + (y 0).val) (t.val / 4 % 2 * 1024 + (y 1).val) := by
  refine Eq.trans ?_ (eq_at2 _ (((cfg0.win 2).blk t).view.emb y) _ _ ?_ ?_)
  · simp only [iblk, V]; rfl
  · blk_simp [(idx t).2.2.1]
  · blk_simp [(idx t).2.2.1]

theorem part (c : Dev nD) (t : Fin cfg0.N) (y : S1024x1024.Idx) (p a b : ℕ) (hp : t.val % 4 = p)
    (ha : t.val / 8 * 1024 + (y 0).val = a) (hb : t.val / 4 % 2 * 1024 + (y 1).val = b) :
    (k0_pay1 (F := Ideal) (iblk m c 0 t) (iblk m c 1 t) y : EReal)
      = ∑ k : Fin 2048, (fun l => at2 (m ((c : Thread nD τ).loc main_arg0)) a l
          * at2 (m ((c : Thread nD τ).loc main_arg1)) b l) (p * 2048 + k.val) := by
  subst hp ha hb
  refine ((congrArg (k0_pay1 (F := Ideal) (iblk m c 0 t) (iblk m c 1 t)) (ix2_eta y).symm).trans (pay _ _ (y 0) (y 1))).trans ?_
  exact Finset.sum_congr rfl fun k _ => congrArg₂ _ (dp_at m c t (y 0) k) (w_at m c t (y 1) k)

theorem final (c : Dev nD) : (dats m 0 c).arrAt 3 (cfgs 0).N =
    Cert.Reference3Ideal.Read.val_main_v7 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have h3 : t.val % 4 = 3 := (flush0_3 t).mp hf
  let t2 : Fin cfg0.N := ⟨t.val - 1, Nat.lt_of_le_of_lt (Nat.sub_le _ _) t.isLt⟩
  let t1 : Fin cfg0.N := ⟨t2.val - 1, Nat.lt_of_le_of_lt (Nat.sub_le _ _) t2.isLt⟩
  let t0 : Fin cfg0.N := ⟨t1.val - 1, Nat.lt_of_le_of_lt (Nat.sub_le _ _) t1.isLt⟩
  have e2 : t2.val = t.val - 1 := rfl
  have e1 : t1.val = t.val - 2 := by show t2.val - 1 = _; omega
  have e0 : t0.val = t.val - 3 := by show t1.val - 1 = _; omega
  blk_simp
  rw [after0_3, outsAt0_C m c t (by omega) (by omega) h3]
  dsimp only
  rw [show outsAt0 m c (t.val - 1) _ = outsAt0 m c t2.val t2.isLt from rfl,
    outsAt0_B m c t2 (by omega) (by omega) (by omega)]
  dsimp only
  rw [show outsAt0 m c (t2.val - 1) _ = outsAt0 m c t1.val t1.isLt from rfl,
    outsAt0_B m c t1 (by omega) (by omega) (by omega)]
  dsimp only
  rw [show outsAt0 m c (t1.val - 1) _ = outsAt0 m c t0.val t0.isLt from rfl,
    outsAt0_A m c t0 (by omega) (by omega) (by omega)]
  dsimp only
  frame_out
  rw [ref_at]
  pointwise [k0_pay4, k0_pay3, k0_pay2]
  simp only [read_unread_whole]
  pointwise [k0_pay4, k0_pay3, k0_pay2]
  have y1 : (y 0).val < 1024 := (y 0).isLt
  have y2 : (y 1).val < 1024 := (y 1).isLt
  refine (congrArg₂ (fun a b : EReal => a + b) (congrArg₂ (fun a b : EReal => a + b) (congrArg₂ (fun a b : EReal => a + b)
    (congrArg₂ (fun a b : EReal => a + b)
      (part m c t0 y 0 (t.val / 8 * 1024 + (y 0).val) (t.val / 4 % 2 * 1024 + (y 1).val) (by omega) (by omega) (by omega))
      (part m c t1 y 1 (t.val / 8 * 1024 + (y 0).val) (t.val / 4 % 2 * 1024 + (y 1).val) (by omega) (by omega) (by omega)))
    (part m c t2 y 2 (t.val / 8 * 1024 + (y 0).val) (t.val / 4 % 2 * 1024 + (y 1).val) (by omega) (by omega) (by omega)))
    (part m c t y 3 (t.val / 8 * 1024 + (y 0).val) (t.val / 4 % 2 * 1024 + (y 1).val) h3 rfl rfl))
    (congrArg (fun a : EReal => Ideal.ofBits .f32 0x3FB504F3#32 * a) (dr_at m c t y))).trans ?_
  have H := sum_quarters 2048 (L := 8192) (fun l => at2 (m ((c : Thread nD τ).loc main_arg0)) (t.val / 8 * 1024 + (y 0).val) l
          * at2 (m ((c : Thread nD τ).loc main_arg1)) (t.val / 4 % 2 * 1024 + (y 1).val) l) (by norm_num)
  beta_reduce at H ⊢
  rw [H]
  refine congrArg₂ (fun a b : EReal => a + b) (Finset.sum_congr rfl fun k _ => congrArg₂ (fun a b : EReal => a * b)
    (congrArg (fun r => at2 _ r _) ?_) (congrArg (fun r => at2 _ r _) ?_))
    (congrArg (fun a : EReal => Ideal.ofBits .f32 0x3FB504F3#32 * a) (congrArg₂ (at2 _) ?_ ?_)) <;>
  blk_simp [(idx t).2.2.2]

end Cert.MlpDx

end
-- ==== Proof.MlpDhid.lean ====
/- The gradient of the hidden activation: each block of the kernel's product with the transposed second weight, times
   twice the rectifier, is the reference's gradient of the squared rectifier, which is zero where the activation is not
   positive. The weight comes in four stacked row shards, half a shard to a block. -/
module

public import proofs.«01_k».proof.Proof.Gen.Kernel4Ideal.Value
public import proofs.«01_k».proof.Proof.Gen.Reference4Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.MlpDhid

open Cert.ReadAt

section Reference
open Cert.Reference4Ideal Cert.Reference4Ideal.Gen Cert.Reference4Ideal.Read

theorem ref_at (x0 : FVec Ideal S8192x2048 .f32) (x1 : FVec Ideal S8192x8192 .f32) (x2 : FVec Ideal S8192x2048 .f32) (j : S8192x8192.Idx) :
    (val_main_v12 (F := Ideal) x0 x1 x2 j : EReal)
      = (∑ k : Fin 2048, at2 x0 (j 0).val k.val * at2 x2 (j 1).val k.val)
        * (Ideal.ofBits .f32 0x40000000#32 * max (at2 x1 (j 0).val (j 1).val) 0) := by
  rw [← eq_at2 x1 j _ _ rfl rfl]
  have hs : val_main_v8 (F := Ideal) x0 x2 j = ∑ k : Fin 2048, at2 x0 (j 0).val k.val * at2 x2 (j 1).val k.val := by
    rw [val_main_v8_apply]
    exact Finset.sum_congr rfl fun k _ => congrArg₂ _ (eq_at2 x0 _ _ _ rfl rfl) (eq_at2 x2 _ _ _ rfl rfl)
  rw [val_main_v12_apply, val_main_v11_apply, val_main_v9_apply, val_main_v6_apply, val_main_v5_apply, val_main_cst_1_apply,
    val_main_v10_apply, val_main_cst_2_apply, val_main_v2_apply, val_main_v1_apply, val_main_cst_apply, val_main_v0_apply,
    val_main_call0_v0_apply, val_main_call0_cst_apply, hs]
  pointwise
  by_cases h : (0 : EReal) < x1 j
  · simp [h]
  · have h' : (x1 j : EReal) ≤ 0 := not_lt.mp h
    simp [h, max_eq_right h']

end Reference

open Cert.Kernel4Ideal Cert.Kernel4Ideal.Gen

variable (m : (ℓ : Loc nD τ sig) → Buf (Elt Ideal) ℓ)

theorem idx : ∀ t : Fin cfg0.N, win0_0.index t = ![t.val / 8, 0]
    ∧ win0_1.index t = ![t.val / 2 % 4, t.val % 2, 0] ∧ win0_2.index t = ![t.val / 8, t.val % 8]
    ∧ win0_3.index t = ![t.val / 8, t.val % 8] :=
  (by decide +kernel : ∀ t : Fin grid0.N, _)

theorem pay (v0 : Vec Ideal S1024x2048 .bf16) (v2 : Vec Ideal S1x1024x2048 .bf16) (v5 : Vec Ideal S1024x1024 .bf16) (i j : Fin 1024) :
    (k0_pay1 (F := Ideal) v0 v2 v5 (ix2 i j) : EReal)
      = (∑ k : Fin 2048, (v0 (ix2 i k) : EReal) * v2 (ix3 0 j k)) * (Ideal.ofBits .f32 0x40000000#32 * v5 (ix2 i j)) := by
  pointwise [k0_pay1]

theorem dr_at (c : Dev nD) (t : Fin cfg0.N) (i : Fin 1024) (k : Fin 2048) :
    (iblk m c 0 t (ix2 i k) : EReal) = at2 (m ((c : Thread nD τ).loc main_arg0)) (t.val / 8 * 1024 + i.val) k.val := by
  refine Eq.trans ?_ (eq_at2 _ (((cfg0.win 0).blk t).view.emb (ix2 i k)) _ _ ?_ ?_)
  · simp only [iblk, V]; rfl
  · blk_simp [(idx t).1]
  · blk_simp [(idx t).1]

theorem w_at (c : Dev nD) (t : Fin cfg0.N) (j : Fin 1024) (k : Fin 2048) :
    (iblk m c 1 t (ix3 0 j k) : EReal) = at2 (m ((c : Thread nD τ).loc main_arg2)) (t.val % 8 * 1024 + j.val) k.val := by
  refine Eq.trans ?_ ((rows_at (m ((c : Thread nD τ).loc main_arg2)) shapeCasts_S8192x2048_S4x2048x2048
    (((cfg0.win 1).blk t).view.emb (ix3 0 j k)) rfl).trans (congrArg₂ (at2 _) ?_ ?_))
  · simp only [iblk, V]; rfl
  · blk_simp [(idx t).2.1]; omega
  · blk_simp [(idx t).2.1]

theorem r_at (c : Dev nD) (t : Fin cfg0.N) (y : S1024x1024.Idx) :
    (iblk m c 2 t y : EReal)
      = max (at2 (m ((c : Thread nD τ).loc main_arg1)) (t.val / 8 * 1024 + (y 0).val) (t.val % 8 * 1024 + (y 1).val)) 0 := by
  rw [← eq_at2 (m ((c : Thread nD τ).loc main_arg1)) (((cfg0.win 2).blk t).view.emb y) _ _ (by blk_simp [(idx t).2.2.1])
    (by blk_simp [(idx t).2.2.1])]
  generalize hj : ((cfg0.win 2).blk t).view.emb y = j
  refine Eq.trans (b := (maximumf (F := Ideal) (m ((c : Thread nD τ).loc main_arg1))
    (broadcastInDim S8192x8192 ![] bcast_S_S8192x8192 (constant (F := Ideal) S_ .f32 0x00000000#32)) j : EReal)) ?_ ?_
  · subst hj; simp only [iblk, V]; rfl
  · pointwise

theorem final (c : Dev nD) : (dats m 0 c).arrAt 3 (cfgs 0).N =
    Cert.Reference4Ideal.Read.val_main_v12 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  frame_out
  rw [ref_at]
  refine ((congrArg (k0_pay1 (F := Ideal) (iblk m c 0 t) (iblk m c 1 t) (iblk m c 2 t)) (ix2_eta y).symm).trans
    (pay _ _ _ (y 0) (y 1))).trans ?_
  refine congrArg₂ (fun a b : EReal => a * b) (Finset.sum_congr rfl fun k _ => congrArg₂ (fun a b : EReal => a * b)
    ((dr_at m c t (y 0) k).trans (congrArg (fun r => at2 _ r _) ?_)) ((w_at m c t (y 1) k).trans (congrArg (fun r => at2 _ r _) ?_)))
    (congrArg (fun a : EReal => Ideal.ofBits .f32 0x40000000#32 * a) ((congrArg (iblk m c 2 t) (ix2_eta y)).trans ((r_at m c t y).trans
      (congrArg (fun a : EReal => max a 0) (congrArg₂ (at2 _) ?_ ?_)))))
  all_goals blk_simp [(idx t).2.2.2]

end Cert.MlpDhid

end
-- ==== Proof.MlpDw1.lean ====
/- The gradient of the first MLP weight: the blocked product over two halves of the time axis that the kernel keeps
   in scratch is the reference's product, stacked in the four column shards. -/
module

public import proofs.«01_k».proof.Proof.Gen.Kernel5Ideal.Value
public import proofs.«01_k».proof.Proof.Gen.Reference5Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.MlpDw1

open Cert.ReadAt

section Reference
open Cert.Reference5Ideal Cert.Reference5Ideal.Gen Cert.Reference5Ideal.Read

theorem ref_at (x0 : FVec Ideal S8192x2048 .f32) (x1 : FVec Ideal S8192x8192 .f32) (j : S4x2048x2048.Idx) :
    val_main_v12 (F := Ideal) x0 x1 j
      = ∑ k : Fin 8192, at2 x0 k.val (j 1).val * at2 x1 k.val ((j 0).val * 2048 + (j 2).val) := by
  have h0 : (j 0).val < 4 := (j 0).isLt
  have h1 : (j 1).val < 2048 := (j 1).isLt
  have h2 : (j 2).val < 2048 := (j 2).isLt
  refine (cols_at 2048 4096 6144 (val_main_v3 (F := Ideal) x0 x1) _ _ _ _ _ _ j rfl rfl rfl).trans ?_
  rw [at2_eq _ _ _ h1 (by omega), val_main_v3_apply, val_main_v2_apply]
  refine Finset.sum_congr rfl fun k _ => ?_
  rw [mul_comm]
  exact congrArg₂ _ (eq_at2 x0 _ _ _ rfl rfl) (eq_at2 x1 _ _ _ rfl rfl)

end Reference

open Cert.Kernel5Ideal Cert.Kernel5Ideal.Gen

variable (m : (ℓ : Loc nD τ sig) → Buf (Elt Ideal) ℓ)

theorem idx : ∀ t : Fin cfg0.N, win0_0.index t = ![t.val % 2, t.val / 16]
    ∧ win0_1.index t = ![t.val % 2, t.val / 2 % 8] ∧ win0_2.index t = ![t.val / 4 % 4, t.val / 16, t.val / 2 % 2] :=
  (by decide +kernel : ∀ t : Fin grid0.N, _)

theorem pay (v0 v2 : Vec Ideal S4096x1024 .bf16) (i j : Fin 1024) :
    (k0_pay1 (F := Ideal) v0 v2 (ix2 i j) : EReal) = ∑ k : Fin 4096, (v0 (ix2 k i) : EReal) * v2 (ix2 k j) := by
  pointwise [k0_pay1]

theorem x_at (c : Dev nD) (t : Fin cfg0.N) (k : Fin 4096) (i : Fin 1024) :
    (iblk m c 0 t (ix2 k i) : EReal)
      = at2 (m ((c : Thread nD τ).loc main_arg0)) (t.val % 2 * 4096 + k.val) (t.val / 16 * 1024 + i.val) := by
  refine Eq.trans ?_ (eq_at2 _ (((cfg0.win 0).blk t).view.emb (ix2 k i)) _ _ ?_ ?_)
  · simp only [iblk, V]; rfl
  · blk_simp [(idx t).1]
  · blk_simp [(idx t).1]

theorem dp_at (c : Dev nD) (t : Fin cfg0.N) (k : Fin 4096) (i : Fin 1024) :
    (iblk m c 1 t (ix2 k i) : EReal)
      = at2 (m ((c : Thread nD τ).loc main_arg1)) (t.val % 2 * 4096 + k.val) (t.val / 2 % 8 * 1024 + i.val) := by
  refine Eq.trans ?_ (eq_at2 _ (((cfg0.win 1).blk t).view.emb (ix2 k i)) _ _ ?_ ?_)
  · simp only [iblk, V]; rfl
  · blk_simp [(idx t).2.1]
  · blk_simp [(idx t).2.1]

theorem part (c : Dev nD) (t : Fin cfg0.N) (i j : Fin 1024) (p a b : ℕ) (hp : t.val % 2 = p)
    (ha : t.val / 16 * 1024 + i.val = a) (hb : t.val / 2 % 8 * 1024 + j.val = b) :
    (k0_pay1 (F := Ideal) (iblk m c 0 t) (iblk m c 1 t) (ix2 i j) : EReal)
      = ∑ k : Fin 4096, (fun l => at2 (m ((c : Thread nD τ).loc main_arg0)) l a
          * at2 (m ((c : Thread nD τ).loc main_arg1)) l b) (p * 4096 + k.val) := by
  subst hp ha hb
  rw [pay]
  exact Finset.sum_congr rfl fun k _ => congrArg₂ _ (x_at m c t k i) (dp_at m c t k j)

theorem final (c : Dev nD) : (dats m 0 c).arrAt 2 (cfgs 0).N =
    Cert.Reference5Ideal.Read.val_main_v12 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  let t' : Fin cfg0.N := ⟨t.val - 1, Nat.lt_of_le_of_lt (Nat.sub_le _ _) t.isLt⟩
  have h2 : t'.val = t.val - 1 := rfl
  blk_simp
  rw [after0_2, outsAt0_B m c t (by omega) h1 h1]
  dsimp only
  rw [show outsAt0 m c (t.val - 1) _ = outsAt0 m c t'.val t'.isLt from rfl,
    outsAt0_A m c t' (by omega) (by omega) (by omega)]
  dsimp only
  frame_out
  rw [ref_at]
  pointwise [k0_pay4, k0_pay3, k0_pay2]
  rw [read_unread_whole]
  have y1 : (y 1).val < 1024 := (y 1).isLt
  have y2 : (y 2).val < 1024 := (y 2).isLt
  have e1 : t'.val / 16 = t.val / 16 := by omega
  have e2 : t'.val / 2 = t.val / 2 := by omega
  refine (congrArg₂ (fun a b : EReal => a + b)
    (part m c t' (y 1) (y 2) 0 (t.val / 16 * 1024 + (y 1).val) (t.val / 2 % 8 * 1024 + (y 2).val) (by omega) (by rw [e1]) (by rw [e2]))
    (part m c t (y 1) (y 2) 1 (t.val / 16 * 1024 + (y 1).val) (t.val / 2 % 8 * 1024 + (y 2).val) h1 rfl rfl)).trans ?_
  have H := sum_halves 4096 (L := 8192) (fun l => at2 (m ((c : Thread nD τ).loc main_arg0)) l (t.val / 16 * 1024 + (y 1).val)
          * at2 (m ((c : Thread nD τ).loc main_arg1)) l (t.val / 2 % 8 * 1024 + (y 2).val)) (by norm_num)
  beta_reduce at H ⊢
  rw [H]
  refine Finset.sum_congr rfl fun k _ => ?_
  refine congrArg₂ _ (congrArg (at2 _ _) ?_) (congrArg (at2 _ _) ?_)
  · blk_simp [(idx t).2.2]
  · blk_simp [(idx t).2.2]; omega

end Cert.MlpDw1

end
-- ==== Proof.MlpDw2.lean ====
/- The gradient of the second MLP weight: the blocked product over two halves of the time axis that the kernel keeps
   in scratch is the reference's product, stacked in the four row shards. Its left factor is the squared rectifier. -/
module

public import proofs.«01_k».proof.Proof.Gen.Kernel6Ideal.Value
public import proofs.«01_k».proof.Proof.Gen.Reference6Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.MlpDw2

open Cert.ReadAt

section Reference
open Cert.Reference6Ideal Cert.Reference6Ideal.Gen Cert.Reference6Ideal.Read

theorem ref_at (x0 : FVec Ideal S8192x8192 .f32) (x1 : FVec Ideal S8192x2048 .f32) (j : S4x2048x2048.Idx) :
    val_main_v6 (F := Ideal) x0 x1 j
      = ∑ k : Fin 8192, at2 (val_main_v2 (F := Ideal) x0) k.val ((j 0).val * 2048 + (j 1).val) * at2 x1 k.val (j 2).val := by
  have h0 : (j 0).val < 4 := (j 0).isLt
  have h1 : (j 1).val < 2048 := (j 1).isLt
  have h2 : (j 2).val < 2048 := (j 2).isLt
  refine (rows_at (val_main_v5 (F := Ideal) x0 x1) _ j rfl).trans ?_
  rw [at2_eq _ _ _ (by omega) h2, val_main_v5_apply, val_main_v4_apply]
  refine Finset.sum_congr rfl fun k _ => ?_
  rw [mul_comm]
  exact congrArg₂ _ (eq_at2 _ _ _ _ rfl rfl) (eq_at2 x1 _ _ _ rfl rfl)

end Reference

/-- The squared rectifier of the saved product, as the reference writes it. -/
abbrev sq (x0 : FVec Ideal Cert.Reference6Ideal.S8192x8192 .f32) : (⟨2, ![8192, 8192]⟩ : Shape).Idx → EReal :=
  Cert.Reference6Ideal.Read.val_main_v2 (F := Ideal) x0

open Cert.Kernel6Ideal Cert.Kernel6Ideal.Gen

variable (m : (ℓ : Loc nD τ sig) → Buf (Elt Ideal) ℓ)

theorem idx : ∀ t : Fin cfg0.N, win0_0.index t = ![t.val % 2, t.val / 4]
    ∧ win0_1.index t = ![t.val % 2, t.val / 2 % 2] ∧ win0_2.index t = ![t.val / 8, t.val / 4 % 2, t.val / 2 % 2] :=
  (by decide +kernel : ∀ t : Fin grid0.N, _)

theorem pay (v0 v2 : Vec Ideal S4096x1024 .bf16) (i j : Fin 1024) :
    (k0_pay1 (F := Ideal) v0 v2 (ix2 i j) : EReal) = ∑ k : Fin 4096, (v0 (ix2 k i) : EReal) * v2 (ix2 k j) := by
  pointwise [k0_pay1]

theorem h_at (c : Dev nD) (t : Fin cfg0.N) (k : Fin 4096) (i : Fin 1024) :
    (iblk m c 0 t (ix2 k i) : EReal)
      = at2 (sq (m ((c : Thread nD τ).loc main_arg0))) (t.val % 2 * 4096 + k.val) (t.val / 4 * 1024 + i.val) := by
  refine Eq.trans ?_ (eq_at2 _ (((cfg0.win 0).blk t).view.emb (ix2 k i)) _ _ ?_ ?_)
  · simp only [iblk, V]; rfl
  · blk_simp [(idx t).1]
  · blk_simp [(idx t).1]

theorem dr_at (c : Dev nD) (t : Fin cfg0.N) (k : Fin 4096) (i : Fin 1024) :
    (iblk m c 1 t (ix2 k i) : EReal)
      = at2 (m ((c : Thread nD τ).loc main_arg1)) (t.val % 2 * 4096 + k.val) (t.val / 2 % 2 * 1024 + i.val) := by
  refine Eq.trans ?_ (eq_at2 _ (((cfg0.win 1).blk t).view.emb (ix2 k i)) _ _ ?_ ?_)
  · simp only [iblk, V]; rfl
  · blk_simp [(idx t).2.1]
  · blk_simp [(idx t).2.1]

theorem part (c : Dev nD) (t : Fin cfg0.N) (i j : Fin 1024) (p a b : ℕ) (hp : t.val % 2 = p)
    (ha : t.val / 4 * 1024 + i.val = a) (hb : t.val / 2 % 2 * 1024 + j.val = b) :
    (k0_pay1 (F := Ideal) (iblk m c 0 t) (iblk m c 1 t) (ix2 i j) : EReal)
      = ∑ k : Fin 4096, (fun l => at2 (sq (m ((c : Thread nD τ).loc main_arg0))) l a
          * at2 (m ((c : Thread nD τ).loc main_arg1)) l b) (p * 4096 + k.val) := by
  subst hp ha hb
  rw [pay]
  exact Finset.sum_congr rfl fun k _ => congrArg₂ _ (h_at m c t k i) (dr_at m c t k j)

theorem final (c : Dev nD) : (dats m 0 c).arrAt 2 (cfgs 0).N =
    Cert.Reference6Ideal.Read.val_main_v6 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  let t' : Fin cfg0.N := ⟨t.val - 1, Nat.lt_of_le_of_lt (Nat.sub_le _ _) t.isLt⟩
  have h2 : t'.val = t.val - 1 := rfl
  blk_simp
  rw [after0_2, outsAt0_B m c t (by omega) h1 h1]
  dsimp only
  rw [show outsAt0 m c (t.val - 1) _ = outsAt0 m c t'.val t'.isLt from rfl,
    outsAt0_A m c t' (by omega) (by omega) (by omega)]
  dsimp only
  frame_out
  rw [ref_at]
  pointwise [k0_pay4, k0_pay3, k0_pay2]
  rw [read_unread_whole]
  have y1 : (y 1).val < 1024 := (y 1).isLt
  have y2 : (y 2).val < 1024 := (y 2).isLt
  have e1 : t'.val / 4 = t.val / 4 := by omega
  have e2 : t'.val / 2 = t.val / 2 := by omega
  refine (congrArg₂ (fun a b : EReal => a + b)
    (part m c t' (y 1) (y 2) 0 (t.val / 4 * 1024 + (y 1).val) (t.val / 2 % 2 * 1024 + (y 2).val) (by omega) (by rw [e1]) (by rw [e2]))
    (part m c t (y 1) (y 2) 1 (t.val / 4 * 1024 + (y 1).val) (t.val / 2 % 2 * 1024 + (y 2).val) h1 rfl rfl)).trans ?_
  have H := sum_halves 4096 (L := 8192) (fun l => at2 (sq (m ((c : Thread nD τ).loc main_arg0))) l (t.val / 4 * 1024 + (y 1).val)
          * at2 (m ((c : Thread nD τ).loc main_arg1)) l (t.val / 2 % 2 * 1024 + (y 2).val)) (by norm_num)
  beta_reduce at H ⊢
  rw [H]
  refine Finset.sum_congr rfl fun k _ => ?_
  refine congrArg₂ _ (congrArg (at2 _ _) ?_) (congrArg (at2 _ _) ?_)
  · blk_simp [(idx t).2.2]; omega
  · blk_simp [(idx t).2.2]

end Cert.MlpDw2

end
-- ==== Proof.MlpUp.lean ====
/- The first MLP product of the forward pass with its squared rectifier and its rectifier: each block of the kernel is the
   reference's; the weight comes in four stacked column shards, half a shard to a block. -/
module

public import proofs.«01_k».proof.Proof.Gen.Kernel7Ideal.Value
public import proofs.«01_k».proof.Proof.Gen.Reference7Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.MlpUp

open Cert.ReadAt

section Reference
open Cert.Reference7Ideal Cert.Reference7Ideal.Gen Cert.Reference7Ideal.Read

theorem ref_at (x0 : FVec Ideal S8192x2048 .f32) (x1 : FVec Ideal S2048x8192 .f32) (j : S8192x8192.Idx) :
    (val_main_v1 (F := Ideal) x0 x1 j : EReal)
      = max (∑ k : Fin 2048, at2 x0 (j 0).val k.val * at2 x1 k.val (j 1).val) 0 := by
  rw [val_main_v1_apply, val_main_v0_apply, val_main_call0_v0_apply, val_main_call0_cst_apply]
  refine congrArg₂ (max : EReal → EReal → EReal)
    (Finset.sum_congr rfl fun k _ => congrArg₂ _ (eq_at2 x0 _ _ _ rfl rfl) (eq_at2 x1 _ _ _ rfl rfl)) ?_
  pointwise

end Reference

open Cert.Kernel7Ideal Cert.Kernel7Ideal.Gen

variable (m : (ℓ : Loc nD τ sig) → Buf (Elt Ideal) ℓ)

theorem idx : ∀ t : Fin cfg0.N, win0_0.index t = ![t.val / 8, 0]
    ∧ win0_1.index t = ![t.val / 2 % 4, 0, t.val % 2] ∧ win0_2.index t = ![t.val / 8, t.val % 8]
    ∧ win0_3.index t = ![t.val / 8, t.val % 8] :=
  (by decide +kernel : ∀ t : Fin grid0.N, _)

theorem pay (v0 : Vec Ideal S1024x2048 .bf16) (v2 : Vec Ideal S1x2048x1024 .bf16) (i j : Fin 1024) :
    (k0_pay1 (F := Ideal) v0 v2 (ix2 i j) : EReal) = max (∑ k : Fin 2048, (v0 (ix2 i k) : EReal) * v2 (ix3 0 k j)) 0 := by
  pointwise [k0_pay1]

theorem x_at (c : Dev nD) (t : Fin cfg0.N) (i : Fin 1024) (k : Fin 2048) :
    (iblk m c 0 t (ix2 i k) : EReal) = at2 (m ((c : Thread nD τ).loc main_arg0)) (t.val / 8 * 1024 + i.val) k.val := by
  refine Eq.trans ?_ (eq_at2 _ (((cfg0.win 0).blk t).view.emb (ix2 i k)) _ _ ?_ ?_)
  · simp only [iblk, V]; rfl
  · blk_simp [(idx t).1]
  · blk_simp [(idx t).1]

theorem w_at (c : Dev nD) (t : Fin cfg0.N) (k : Fin 2048) (j : Fin 1024) :
    (iblk m c 1 t (ix3 0 k j) : EReal) = at2 (m ((c : Thread nD τ).loc main_arg1)) k.val (t.val % 8 * 1024 + j.val) := by
  refine Eq.trans ?_ ((cols_at 2048 4096 6144 (m ((c : Thread nD τ).loc main_arg1))
    slices_S2048x8192_S2048x2048_0_0 slices_S2048x8192_S2048x2048_0_2048 slices_S2048x8192_S2048x2048_0_4096
    slices_S2048x8192_S2048x2048_0_6144 bcast_S2048x2048_S1x2048x2048_1_2
    concatenates_S1x2048x2048_S1x2048x2048_S1x2048x2048_S1x2048x2048_S4x2048x2048_d0
    (((cfg0.win 1).blk t).view.emb (ix3 0 k j)) rfl rfl rfl).trans (congrArg₂ (at2 _) ?_ ?_))
  · simp only [iblk, V]; rfl
  · blk_simp [(idx t).2.1]
  · blk_simp [(idx t).2.1]; omega

/-- The rectified product of a block: the reference's rectifier at the block's place in the array. -/
theorem part (c : Dev nD) (t : Fin cfg0.N) (y : S1024x1024.Idx) (j : S8192x8192.Idx)
    (h0 : (j 0).val = t.val / 8 * 1024 + (y 0).val) (h1 : (j 1).val = t.val % 8 * 1024 + (y 1).val) :
    (k0_pay1 (F := Ideal) (iblk m c 0 t) (iblk m c 1 t) y : EReal)
      = Cert.Reference7Ideal.Read.val_main_v1 (F := Ideal) (m ((c : Thread nD τ).loc main_arg0)) (m ((c : Thread nD τ).loc main_arg1)) j := by
  rw [ref_at, h0, h1]
  refine ((congrArg (k0_pay1 (F := Ideal) (iblk m c 0 t) (iblk m c 1 t)) (ix2_eta y).symm).trans (pay _ _ (y 0) (y 1))).trans ?_
  exact congrArg (fun a : EReal => max a 0) (Finset.sum_congr rfl fun k _ => congrArg₂ (fun a b : EReal => a * b)
    (x_at m c t (y 0) k) (w_at m c t k (y 1)))

theorem final_square (c : Dev nD) : (dats m 0 c).arrAt 2 (cfgs 0).N =
    Cert.Reference7Ideal.Read.val_main_v3 (F := Ideal) (m ((c : Thread nD τ).loc main_arg0)) (m ((c : Thread nD τ).loc main_arg1)) := by
  refine (dats m 0 c).arrAt_eq_of_covers 2 _ (by decide +kernel) fun t _ y => ?_
  have h := part m c t y (((cfg0.win 2).blk t).view.emb y) (by blk_simp [(idx t).2.2.1]) (by blk_simp [(idx t).2.2.1])
  blk_simp
  rw [after0_2]
  frame_out
  exact congrArg₂ (fun a b : EReal => a * b) h h

theorem final_rect (c : Dev nD) : (dats m 0 c).arrAt 3 (cfgs 0).N =
    Cert.Reference7Ideal.Read.val_main_v4 (F := Ideal) (m ((c : Thread nD τ).loc main_arg0)) (m ((c : Thread nD τ).loc main_arg1)) := by
  refine (dats m 0 c).arrAt_eq_of_covers 3 _ (by decide +kernel) fun t _ y => ?_
  have h := part m c t y (((cfg0.win 3).blk t).view.emb y) (by blk_simp [(idx t).2.2.2]) (by blk_simp [(idx t).2.2.2])
  blk_simp
  rw [after0_3]
  frame_out
  exact h

end Cert.MlpUp

end
-- ==== Proof.MlpDown.lean ====
/- The second MLP product of the forward pass: the blocked product over two halves of the hidden axis that the kernel
   keeps in scratch is the reference's product; the weight comes in four stacked row shards, two to a block. -/
module

public import proofs.«01_k».proof.Proof.Gen.Kernel8Ideal.Value
public import proofs.«01_k».proof.Proof.Gen.Reference8Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.MlpDown

open Cert.ReadAt

section Reference
open Cert.Reference8Ideal Cert.Reference8Ideal.Gen Cert.Reference8Ideal.Read

theorem ref_at (x0 : FVec Ideal S8192x8192 .f32) (x1 : FVec Ideal S8192x2048 .f32) (j : S8192x2048.Idx) :
    val_main_v0 (F := Ideal) x0 x1 j = ∑ k : Fin 8192, at2 x0 (j 0).val k.val * at2 x1 k.val (j 1).val := by
  rw [val_main_v0_apply]
  exact Finset.sum_congr rfl fun k _ => congrArg₂ _ (eq_at2 x0 _ _ _ rfl rfl) (eq_at2 x1 _ _ _ rfl rfl)

end Reference

open Cert.Kernel8Ideal Cert.Kernel8Ideal.Gen

variable (m : (ℓ : Loc nD τ sig) → Buf (Elt Ideal) ℓ)

theorem idx : ∀ t : Fin cfg0.N, win0_0.index t = ![t.val / 4, t.val % 2]
    ∧ win0_1.index t = ![t.val % 2, 0, t.val / 2 % 2] ∧ win0_2.index t = ![t.val / 4, t.val / 2 % 2] :=
  (by decide +kernel : ∀ t : Fin grid0.N, _)

theorem pay (v0 : Vec Ideal S1024x4096 .bf16) (v2 : Vec Ideal S2x2048x1024 .bf16) (i j : Fin 1024) :
    (k0_pay1 (F := Ideal) v0 v2 (ix2 i j) : EReal)
      = ∑ k : Fin 4096, (v0 (ix2 i k) : EReal) * v2 (ix3 ⟨k.val / 2048, by omega⟩ ⟨k.val % 2048, by omega⟩ j) := by
  pointwise [k0_pay1]

theorem h_at (c : Dev nD) (t : Fin cfg0.N) (i : Fin 1024) (k : Fin 4096) :
    (iblk m c 0 t (ix2 i k) : EReal)
      = at2 (m ((c : Thread nD τ).loc main_arg0)) (t.val / 4 * 1024 + i.val) (t.val % 2 * 4096 + k.val) := by
  refine Eq.trans ?_ (eq_at2 _ (((cfg0.win 0).blk t).view.emb (ix2 i k)) _ _ ?_ ?_)
  · simp only [iblk, V]; rfl
  · blk_simp [(idx t).1]
  · blk_simp [(idx t).1]

theorem w_at (c : Dev nD) (t : Fin cfg0.N) (s : Fin 2) (k : Fin 2048) (j : Fin 1024) :
    (iblk m c 1 t (ix3 s k j) : EReal)
      = at2 (m ((c : Thread nD τ).loc main_arg1)) (t.val % 2 * 4096 + (s.val * 2048 + k.val)) (t.val / 2 % 2 * 1024 + j.val) := by
  refine Eq.trans ?_ ((rows_at (m ((c : Thread nD τ).loc main_arg1)) shapeCasts_S8192x2048_S4x2048x2048
    (((cfg0.win 1).blk t).view.emb (ix3 s k j)) rfl).trans (congrArg₂ (at2 _) ?_ ?_))
  · simp only [iblk, V]; rfl
  · blk_simp [(idx t).2.1]; omega
  · blk_simp [(idx t).2.1]

theorem part (c : Dev nD) (t : Fin cfg0.N) (i j : Fin 1024) (p a b : ℕ) (hp : t.val % 2 = p)
    (ha : t.val / 4 * 1024 + i.val = a) (hb : t.val / 2 % 2 * 1024 + j.val = b) :
    (k0_pay1 (F := Ideal) (iblk m c 0 t) (iblk m c 1 t) (ix2 i j) : EReal)
      = ∑ k : Fin 4096, (fun l => at2 (m ((c : Thread nD τ).loc main_arg0)) a l
          * at2 (m ((c : Thread nD τ).loc main_arg1)) l b) (p * 4096 + k.val) := by
  subst hp ha hb
  rw [pay]
  refine Finset.sum_congr rfl fun k _ => congrArg₂ _ (h_at m c t i k) ((w_at m c t _ _ j).trans ?_)
  exact congrArg (fun l => at2 _ (t.val % 2 * 4096 + l) _) (Nat.div_add_mod' k.val 2048)

theorem final (c : Dev nD) : (dats m 0 c).arrAt 2 (cfgs 0).N =
    Cert.Reference8Ideal.Read.val_main_v0 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  let t' : Fin cfg0.N := ⟨t.val - 1, Nat.lt_of_le_of_lt (Nat.sub_le _ _) t.isLt⟩
  have h2 : t'.val = t.val - 1 := rfl
  blk_simp
  rw [after0_2, outsAt0_B m c t (by omega) h1 h1]
  dsimp only
  rw [show outsAt0 m c (t.val - 1) _ = outsAt0 m c t'.val t'.isLt from rfl,
    outsAt0_A m c t' (by omega) (by omega) (by omega)]
  dsimp only
  frame_out
  rw [ref_at]
  pointwise [k0_pay3, k0_pay2]
  rw [read_unread_whole]
  have y1 : (y 0).val < 1024 := (y 0).isLt
  have y2 : (y 1).val < 1024 := (y 1).isLt
  have e1 : t'.val / 4 = t.val / 4 := by omega
  have e2 : t'.val / 2 = t.val / 2 := by omega
  refine (congrArg₂ (fun a b : EReal => a + b)
    (part m c t' (y 0) (y 1) 0 (t.val / 4 * 1024 + (y 0).val) (t.val / 2 % 2 * 1024 + (y 1).val) (by omega) (by rw [e1]) (by rw [e2]))
    (part m c t (y 0) (y 1) 1 (t.val / 4 * 1024 + (y 0).val) (t.val / 2 % 2 * 1024 + (y 1).val) h1 rfl rfl)).trans ?_
  have H := sum_halves 4096 (L := 8192) (fun l => at2 (m ((c : Thread nD τ).loc main_arg0)) (t.val / 4 * 1024 + (y 0).val) l
          * at2 (m ((c : Thread nD τ).loc main_arg1)) l (t.val / 2 % 2 * 1024 + (y 1).val)) (by norm_num)
  beta_reduce at H ⊢
  rw [H]
  refine Finset.sum_congr rfl fun k _ => congrArg₂ _ (congrArg (fun r => at2 _ r _) ?_) (congrArg (at2 _ _) ?_)
  · blk_simp [(idx t).2.2]
  · blk_simp [(idx t).2.2]

end Cert.MlpDown

end
-- ==== Proof.GateDx.lean ====
/- The gradient of the convolution block's input: the blocked product with the transposed weight over two halves of the
   gate's axis, plus the scaled residual gradient, is the reference's; the weight comes in four stacked column shards,
   two to a block. -/
module

public import proofs.«01_k».proof.Proof.Gen.Kernel9Ideal.Value
public import proofs.«01_k».proof.Proof.Gen.Reference9Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.GateDx

open Cert.ReadAt

section Reference
open Cert.Reference9Ideal Cert.Reference9Ideal.Gen Cert.Reference9Ideal.Read

theorem ref_at (x0 : FVec Ideal S8192x4096 .f32) (x1 : FVec Ideal S2048x4096 .f32) (x2 : FVec Ideal S8192x2048 .f32)
    (j : S8192x2048.Idx) :
    val_main_v7 (F := Ideal) x0 x1 x2 j = (∑ k : Fin 4096, at2 x0 (j 0).val k.val * at2 x1 (j 1).val k.val)
      + Ideal.ofBits .f32 0x3FB504F3#32 * at2 x2 (j 0).val (j 1).val := by
  rw [val_main_v7_apply, val_main_v4_apply, val_main_v6_apply]
  refine congrArg₂ _ (Finset.sum_congr rfl fun k _ => congrArg₂ _ (eq_at2 x0 _ _ _ rfl rfl) (eq_at2 x1 _ _ _ rfl rfl))
    (congrArg₂ _ ?_ (eq_at2 x2 _ _ _ rfl rfl))
  rw [val_main_v5_apply, val_main_cst_1_apply]
  rfl

end Reference

open Cert.Kernel9Ideal Cert.Kernel9Ideal.Gen

variable (m : (ℓ : Loc nD τ sig) → Buf (Elt Ideal) ℓ)

theorem idx : ∀ t : Fin cfg0.N, win0_0.index t = ![t.val / 4, t.val % 2]
    ∧ win0_1.index t = ![t.val % 2, t.val / 2 % 2, 0] ∧ win0_2.index t = ![t.val / 4, t.val / 2 % 2]
    ∧ win0_3.index t = ![t.val / 4, t.val / 2 % 2] :=
  (by decide +kernel : ∀ t : Fin grid0.N, _)

theorem pay (v0 : Vec Ideal S1024x2048 .bf16) (v2 : Vec Ideal S2x1024x1024 .bf16) (i j : Fin 1024) :
    (k0_pay1 (F := Ideal) v0 v2 (ix2 i j) : EReal)
      = (∑ k : Fin 1024, (v0 (ix2 i ⟨k.val, by omega⟩) : EReal) * v2 (ix3 0 j k))
        + ∑ k : Fin 1024, (v0 (ix2 i ⟨1024 + k.val, by omega⟩) : EReal) * v2 (ix3 1 j k) := by
  pointwise [k0_pay1]

theorem dh_at (c : Dev nD) (t : Fin cfg0.N) (i : Fin 1024) (k : Fin 2048) :
    (iblk m c 0 t (ix2 i k) : EReal)
      = at2 (m ((c : Thread nD τ).loc main_arg0)) (t.val / 4 * 1024 + i.val) (t.val % 2 * 2048 + k.val) := by
  refine Eq.trans ?_ (eq_at2 _ (((cfg0.win 0).blk t).view.emb (ix2 i k)) _ _ ?_ ?_)
  · simp only [iblk, V]; rfl
  · blk_simp [(idx t).1]
  · blk_simp [(idx t).1]

theorem w_at (c : Dev nD) (t : Fin cfg0.N) (s : Fin 2) (j k : Fin 1024) :
    (iblk m c 1 t (ix3 s j k) : EReal)
      = at2 (m ((c : Thread nD τ).loc main_arg1)) (t.val / 2 % 2 * 1024 + j.val) (t.val % 2 * 2048 + (s.val * 1024 + k.val)) := by
  refine Eq.trans ?_ ((cols_at 1024 2048 3072 (m ((c : Thread nD τ).loc main_arg1))
    slices_S2048x4096_S2048x1024_0_0 slices_S2048x4096_S2048x1024_0_1024 slices_S2048x4096_S2048x1024_0_2048
    slices_S2048x4096_S2048x1024_0_3072 bcast_S2048x1024_S1x2048x1024_1_2
    concatenates_S1x2048x1024_S1x2048x1024_S1x2048x1024_S1x2048x1024_S4x2048x1024_d0
    (((cfg0.win 1).blk t).view.emb (ix3 s j k)) rfl rfl rfl).trans (congrArg₂ (at2 _) ?_ ?_))
  · simp only [iblk, V]; rfl
  · blk_simp [(idx t).2.1]
  · blk_simp [(idx t).2.1]; omega

theorem dr_at (c : Dev nD) (t : Fin cfg0.N) (y : S1024x1024.Idx) :
    (iblk m c 2 t y : EReal)
      = at2 (m ((c : Thread nD τ).loc main_arg2)) (t.val / 4 * 1024 + (y 0).val) (t.val / 2 % 2 * 1024 + (y 1).val) := by
  refine Eq.trans ?_ (eq_at2 _ (((cfg0.win 2).blk t).view.emb y) _ _ ?_ ?_)
  · simp only [iblk, V]; rfl
  · blk_simp [(idx t).2.2.1]
  · blk_simp [(idx t).2.2.1]

theorem part (c : Dev nD) (t : Fin cfg0.N) (y : S1024x1024.Idx) (p a b : ℕ) (hp : t.val % 2 = p)
    (ha : t.val / 4 * 1024 + (y 0).val = a) (hb : t.val / 2 % 2 * 1024 + (y 1).val = b) :
    (k0_pay1 (F := Ideal) (iblk m c 0 t) (iblk m c 1 t) y : EReal)
      = ∑ k : Fin 2048, (fun l => at2 (m ((c : Thread nD τ).loc main_arg0)) a l
          * at2 (m ((c : Thread nD τ).loc main_arg1)) b l) (p * 2048 + k.val) := by
  subst hp ha hb
  refine ((congrArg (k0_pay1 (F := Ideal) (iblk m c 0 t) (iblk m c 1 t)) (ix2_eta y).symm).trans (pay _ _ (y 0) (y 1))).trans ?_
  refine Eq.trans (congrArg₂ (fun a b : EReal => a + b)
    (Finset.sum_congr rfl fun k _ => congrArg₂ _ (dh_at m c t (y 0) _) (w_at m c t 0 (y 1) k))
    (Finset.sum_congr rfl fun k _ => congrArg₂ _ (dh_at m c t (y 0) _) (w_at m c t 1 (y 1) k))) ?_
  have H := sum_halves 1024 (L := 2048) (fun l => at2 (m ((c : Thread nD τ).loc main_arg0)) (t.val / 4 * 1024 + (y 0).val) (t.val % 2 * 2048 + l)
      * at2 (m ((c : Thread nD τ).loc main_arg1)) (t.val / 2 % 2 * 1024 + (y 1).val) (t.val % 2 * 2048 + l)) (by norm_num)
  beta_reduce at H ⊢
  rw [← H]
  refine congrArg₂ _ (Finset.sum_congr rfl fun k _ => ?_) (Finset.sum_congr rfl fun k _ => ?_)
  · simp
  · simp

theorem final (c : Dev nD) : (dats m 0 c).arrAt 3 (cfgs 0).N =
    Cert.Reference9Ideal.Read.val_main_v7 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have h1 : t.val % 2 = 1 := (flush0_3 t).mp hf
  let t' : Fin cfg0.N := ⟨t.val - 1, Nat.lt_of_le_of_lt (Nat.sub_le _ _) t.isLt⟩
  have h2 : t'.val = t.val - 1 := rfl
  blk_simp
  rw [after0_3, outsAt0_B m c t (by omega) h1 h1]
  dsimp only
  rw [show outsAt0 m c (t.val - 1) _ = outsAt0 m c t'.val t'.isLt from rfl,
    outsAt0_A m c t' (by omega) (by omega) (by omega)]
  dsimp only
  frame_out
  rw [ref_at]
  pointwise [k0_pay4, k0_pay3, k0_pay2]
  rw [read_unread_whole]
  have y1 : (y 0).val < 1024 := (y 0).isLt
  have y2 : (y 1).val < 1024 := (y 1).isLt
  have e1 : t'.val / 4 = t.val / 4 := by omega
  have e2 : t'.val / 2 = t.val / 2 := by omega
  refine (congrArg₂ (fun a b : EReal => a + b) (congrArg₂ (fun a b : EReal => a + b)
    (part m c t' y 0 (t.val / 4 * 1024 + (y 0).val) (t.val / 2 % 2 * 1024 + (y 1).val) (by omega) (by rw [e1]) (by rw [e2]))
    (part m c t y 1 (t.val / 4 * 1024 + (y 0).val) (t.val / 2 % 2 * 1024 + (y 1).val) h1 rfl rfl))
    (congrArg (fun a : EReal => Ideal.ofBits .f32 0x3FB504F3#32 * a) (dr_at m c t y))).trans ?_
  have H := sum_halves 2048 (L := 4096) (fun l => at2 (m ((c : Thread nD τ).loc main_arg0)) (t.val / 4 * 1024 + (y 0).val) l
          * at2 (m ((c : Thread nD τ).loc main_arg1)) (t.val / 2 % 2 * 1024 + (y 1).val) l) (by norm_num)
  beta_reduce at H ⊢
  rw [H]
  refine congrArg₂ (fun a b : EReal => a + b) (Finset.sum_congr rfl fun k _ => congrArg₂ (fun a b : EReal => a * b)
    (congrArg (fun r => at2 _ r _) ?_) (congrArg (fun r => at2 _ r _) ?_))
    (congrArg (fun a : EReal => Ideal.ofBits .f32 0x3FB504F3#32 * a) (congrArg₂ (at2 _) ?_ ?_)) <;>
  blk_simp [(idx t).2.2.2]

end Cert.GateDx

end
-- ==== Proof.GateDw.lean ====
/- The gradient of the weight before the gate: the blocked product over two halves of the time axis that the kernel keeps
   in scratch is the reference's product, stacked in the four column shards. -/
module

public import proofs.«01_k».proof.Proof.Gen.Kernel10Ideal.Value
public import proofs.«01_k».proof.Proof.Gen.Reference10Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.GateDw

open Cert.ReadAt

section Reference
open Cert.Reference10Ideal Cert.Reference10Ideal.Gen Cert.Reference10Ideal.Read

theorem ref_at (x0 : FVec Ideal S8192x2048 .f32) (x1 : FVec Ideal S8192x4096 .f32) (j : S4x2048x1024.Idx) :
    val_main_v12 (F := Ideal) x0 x1 j
      = ∑ k : Fin 8192, at2 x0 k.val (j 1).val * at2 x1 k.val ((j 0).val * 1024 + (j 2).val) := by
  have h0 : (j 0).val < 4 := (j 0).isLt
  have h1 : (j 1).val < 2048 := (j 1).isLt
  have h2 : (j 2).val < 1024 := (j 2).isLt
  refine (cols_at 1024 2048 3072 (val_main_v3 (F := Ideal) x0 x1) _ _ _ _ _ _ j rfl rfl rfl).trans ?_
  rw [at2_eq _ _ _ h1 (by omega), val_main_v3_apply, val_main_v2_apply]
  refine Finset.sum_congr rfl fun k _ => ?_
  rw [mul_comm]
  exact congrArg₂ _ (eq_at2 x0 _ _ _ rfl rfl) (eq_at2 x1 _ _ _ rfl rfl)

end Reference

open Cert.Kernel10Ideal Cert.Kernel10Ideal.Gen

variable (m : (ℓ : Loc nD τ sig) → Buf (Elt Ideal) ℓ)

theorem idx : ∀ t : Fin cfg0.N, win0_0.index t = ![t.val % 2, t.val / 8]
    ∧ win0_1.index t = ![t.val % 2, t.val / 2 % 4] ∧ win0_2.index t = ![t.val / 2 % 4, t.val / 8, 0] :=
  (by decide +kernel : ∀ t : Fin grid0.N, _)

theorem pay (v0 v2 : Vec Ideal S4096x1024 .bf16) (i j : Fin 1024) :
    (k0_pay1 (F := Ideal) v0 v2 (ix2 i j) : EReal) = ∑ k : Fin 4096, (v0 (ix2 k i) : EReal) * v2 (ix2 k j) := by
  pointwise [k0_pay1]

theorem x_at (c : Dev nD) (t : Fin cfg0.N) (k : Fin 4096) (i : Fin 1024) :
    (iblk m c 0 t (ix2 k i) : EReal)
      = at2 (m ((c : Thread nD τ).loc main_arg0)) (t.val % 2 * 4096 + k.val) (t.val / 8 * 1024 + i.val) := by
  refine Eq.trans ?_ (eq_at2 _ (((cfg0.win 0).blk t).view.emb (ix2 k i)) _ _ ?_ ?_)
  · simp only [iblk, V]; rfl
  · blk_simp [(idx t).1]
  · blk_simp [(idx t).1]

theorem dp_at (c : Dev nD) (t : Fin cfg0.N) (k : Fin 4096) (i : Fin 1024) :
    (iblk m c 1 t (ix2 k i) : EReal)
      = at2 (m ((c : Thread nD τ).loc main_arg1)) (t.val % 2 * 4096 + k.val) (t.val / 2 % 4 * 1024 + i.val) := by
  refine Eq.trans ?_ (eq_at2 _ (((cfg0.win 1).blk t).view.emb (ix2 k i)) _ _ ?_ ?_)
  · simp only [iblk, V]; rfl
  · blk_simp [(idx t).2.1]
  · blk_simp [(idx t).2.1]

theorem part (c : Dev nD) (t : Fin cfg0.N) (i j : Fin 1024) (p a b : ℕ) (hp : t.val % 2 = p)
    (ha : t.val / 8 * 1024 + i.val = a) (hb : t.val / 2 % 4 * 1024 + j.val = b) :
    (k0_pay1 (F := Ideal) (iblk m c 0 t) (iblk m c 1 t) (ix2 i j) : EReal)
      = ∑ k : Fin 4096, (fun l => at2 (m ((c : Thread nD τ).loc main_arg0)) l a
          * at2 (m ((c : Thread nD τ).loc main_arg1)) l b) (p * 4096 + k.val) := by
  subst hp ha hb
  rw [pay]
  exact Finset.sum_congr rfl fun k _ => congrArg₂ _ (x_at m c t k i) (dp_at m c t k j)

theorem final (c : Dev nD) : (dats m 0 c).arrAt 2 (cfgs 0).N =
    Cert.Reference10Ideal.Read.val_main_v12 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  let t' : Fin cfg0.N := ⟨t.val - 1, Nat.lt_of_le_of_lt (Nat.sub_le _ _) t.isLt⟩
  have h2 : t'.val = t.val - 1 := rfl
  blk_simp
  rw [after0_2, outsAt0_B m c t (by omega) h1 h1]
  dsimp only
  rw [show outsAt0 m c (t.val - 1) _ = outsAt0 m c t'.val t'.isLt from rfl,
    outsAt0_A m c t' (by omega) (by omega) (by omega)]
  dsimp only
  frame_out
  rw [ref_at]
  pointwise [k0_pay4, k0_pay3, k0_pay2]
  rw [read_unread_whole]
  have y1 : (y 1).val < 1024 := (y 1).isLt
  have y2 : (y 2).val < 1024 := (y 2).isLt
  have e1 : t'.val / 8 = t.val / 8 := by omega
  have e2 : t'.val / 2 = t.val / 2 := by omega
  refine (congrArg₂ (fun a b : EReal => a + b)
    (part m c t' (y 1) (y 2) 0 (t.val / 8 * 1024 + (y 1).val) (t.val / 2 % 4 * 1024 + (y 2).val) (by omega) (by rw [e1]) (by rw [e2]))
    (part m c t (y 1) (y 2) 1 (t.val / 8 * 1024 + (y 1).val) (t.val / 2 % 4 * 1024 + (y 2).val) h1 rfl rfl)).trans ?_
  have H := sum_halves 4096 (L := 8192) (fun l => at2 (m ((c : Thread nD τ).loc main_arg0)) l (t.val / 8 * 1024 + (y 1).val)
          * at2 (m ((c : Thread nD τ).loc main_arg1)) l (t.val / 2 % 4 * 1024 + (y 2).val)) (by norm_num)
  beta_reduce at H ⊢
  rw [H]
  refine Finset.sum_congr rfl fun k _ => ?_
  refine congrArg₂ _ (congrArg (at2 _ _) ?_) (congrArg (at2 _ _) ?_)
  · blk_simp [(idx t).2.2]
  · blk_simp [(idx t).2.2]

end Cert.GateDw

end
-- ==== Proof.GateUp.lean ====
/- The product before the gate in the forward pass, with its bias: each block of the kernel is the reference's product;
   the weight comes in four stacked column shards, one to a block. -/
module

public import proofs.«01_k».proof.Proof.Gen.Kernel11Ideal.Value
public import proofs.«01_k».proof.Proof.Gen.Reference11Ideal.Read
public import proofs.«01_k».proof.Proof.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.GateUp

open Cert.ReadAt

section Reference
open Cert.Reference11Ideal Cert.Reference11Ideal.Gen Cert.Reference11Ideal.Read

theorem ref_at (x0 : FVec Ideal S8192x2048 .f32) (x1 : FVec Ideal S2048x4096 .f32) (x2 : FVec Ideal S4096 .f32) (j : S8192x4096.Idx) :
    val_main_v3 (F := Ideal) x0 x1 x2 j = (∑ k : Fin 2048, at2 x0 (j 0).val k.val * at2 x1 k.val (j 1).val) + x2 (ix1 (j 1)) := by
  rw [val_main_v3_apply, val_main_v0_apply, val_main_v2_apply, val_main_v1_apply]
  exact congrArg₂ (fun a b : EReal => a + b)
    (Finset.sum_congr rfl fun k _ => congrArg₂ _ (eq_at2 x0 _ _ _ rfl rfl) (eq_at2 x1 _ _ _ rfl rfl))
    (congrArg x2 (funext fun a => by match a with | ⟨0, _⟩ => rfl))

end Reference

open Cert.Kernel11Ideal Cert.Kernel11Ideal.Gen

variable (m : (ℓ : Loc nD τ sig) → Buf (Elt Ideal) ℓ)

theorem idx : ∀ t : Fin cfg0.N, win0_0.index t = ![t.val / 4, 0]
    ∧ win0_1.index t = ![t.val % 4, 0, 0] ∧ win0_2.index t = ![0, t.val % 4] ∧ win0_3.index t = ![t.val / 4, t.val % 4] :=
  (by decide +kernel : ∀ t : Fin grid0.N, _)

theorem pay (v0 : Vec Ideal S1024x2048 .bf16) (v2 : Vec Ideal S1x2048x1024 .bf16) (v5 : Vec Ideal S1x1024 .f32) (i j : Fin 1024) :
    (k0_pay1 (F := Ideal) v0 v2 v5 (ix2 i j) : EReal)
      = (∑ k : Fin 2048, (v0 (ix2 i k) : EReal) * v2 (ix3 0 k j)) + v5 (ix2 0 j) := by
  pointwise [k0_pay1]

theorem x_at (c : Dev nD) (t : Fin cfg0.N) (i : Fin 1024) (k : Fin 2048) :
    (iblk m c 0 t (ix2 i k) : EReal) = at2 (m ((c : Thread nD τ).loc main_arg0)) (t.val / 4 * 1024 + i.val) k.val := by
  refine Eq.trans ?_ (eq_at2 _ (((cfg0.win 0).blk t).view.emb (ix2 i k)) _ _ ?_ ?_)
  · simp only [iblk, V]; rfl
  · blk_simp [(idx t).1]
  · blk_simp [(idx t).1]

theorem w_at (c : Dev nD) (t : Fin cfg0.N) (k : Fin 2048) (j : Fin 1024) :
    (iblk m c 1 t (ix3 0 k j) : EReal) = at2 (m ((c : Thread nD τ).loc main_arg1)) k.val (t.val % 4 * 1024 + j.val) := by
  refine Eq.trans ?_ ((cols_at 1024 2048 3072 (m ((c : Thread nD τ).loc main_arg1))
    slices_S2048x4096_S2048x1024_0_0 slices_S2048x4096_S2048x1024_0_1024 slices_S2048x4096_S2048x1024_0_2048
    slices_S2048x4096_S2048x1024_0_3072 bcast_S2048x1024_S1x2048x1024_1_2
    concatenates_S1x2048x1024_S1x2048x1024_S1x2048x1024_S1x2048x1024_S4x2048x1024_d0
    (((cfg0.win 1).blk t).view.emb (ix3 0 k j)) rfl rfl rfl).trans (congrArg₂ (at2 _) ?_ ?_))
  · simp only [iblk, V]; rfl
  · blk_simp [(idx t).2.1]
  · blk_simp [(idx t).2.1]; simp

theorem b_at (c : Dev nD) (t : Fin cfg0.N) (j : Fin 1024) (l : Fin 4096) (hl : t.val % 4 * 1024 + j.val = l.val) :
    (iblk m c 2 t (ix2 0 j) : EReal) = m ((c : Thread nD τ).loc main_arg2) (ix1 l) := by
  blk_point [iblk, V, idx t, hl]

theorem final (c : Dev nD) : (dats m 0 c).arrAt 3 (cfgs 0).N =
    Cert.Reference11Ideal.Read.val_main_v3 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  frame_out
  rw [ref_at]
  refine ((congrArg (k0_pay1 (F := Ideal) (iblk m c 0 t) (iblk m c 1 t) (iblk m c 2 t)) (ix2_eta y).symm).trans
    (pay _ _ _ (y 0) (y 1))).trans ?_
  refine congrArg₂ (fun a b : EReal => a + b) (Finset.sum_congr rfl fun k _ => congrArg₂ (fun a b : EReal => a * b)
    ((x_at m c t (y 0) k).trans (congrArg (fun r => at2 _ r _) ?_)) ((w_at m c t k (y 1)).trans (congrArg (at2 _ _) ?_)))
    (b_at m c t (y 1) _ ?_)
  all_goals blk_simp [(idx t).2.2.2]

end Cert.GateUp

end
-- ==== Proof.lean ====
/- The claim: the frames of every program at both number types, the preserved text, and the value claims. A value claim
   takes the kernel's run, the reference's run and the theorem that the array the kernel leaves is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.AdamSmall
public import proofs.«01_k».proof.Proof.GradSum
public import proofs.«01_k».proof.Proof.NormValue
public import proofs.«01_k».proof.Proof.Adam
public import proofs.«01_k».proof.Proof.AdamLayers
public import proofs.«01_k».proof.Proof.MlpDx
public import proofs.«01_k».proof.Proof.MlpDhid
public import proofs.«01_k».proof.Proof.MlpDw1
public import proofs.«01_k».proof.Proof.MlpDw2
public import proofs.«01_k».proof.Proof.MlpUp
public import proofs.«01_k».proof.Proof.MlpDown
public import proofs.«01_k».proof.Proof.GateDx
public import proofs.«01_k».proof.Proof.GateDw
public import proofs.«01_k».proof.Proof.GateUp
public import Idealize.ShloMosaic.Adequacy
public import Idealize.ShloMosaic.Init

@[expose] public section

noncomputable section

namespace Cert.Proof

open Idealize.ShloMosaic Idealize.SL.Sem

/-- The gradient of the MLP input. -/
theorem mlpDx : algebraic_Kernel3Ideal_Reference3Ideal (hKernel3Ideal := Kernel3Ideal.Gen.facts) (hReference3Ideal := Reference3Ideal.Gen.facts) :=
  fun m g m' g' _ hag => ⟨fun c => (Kernel3Ideal.Gen.dats m 0 c).arrAt 3 Kernel3Ideal.cfg0.N, Kernel3Ideal.Value.run_blocks m g,
    (θ_run _ _ _).mono (fun _ h c => ⟨by
        refine (h c).1.trans ((Reference3Ideal.Read.val_main_v7_eq _ _ _).trans ?_)
        rw [(hag c).1, (hag c).2.1, (hag c).2.2]
        exact (MlpDx.final m c).symm, (h c).2⟩)
      (Reference3Ideal.Value.run m' g')⟩

/-- The gradient of the hidden layer. -/
theorem mlpDhid : algebraic_Kernel4Ideal_Reference4Ideal (hKernel4Ideal := Kernel4Ideal.Gen.facts) (hReference4Ideal := Reference4Ideal.Gen.facts) :=
  fun m g m' g' _ hag => ⟨fun c => (Kernel4Ideal.Gen.dats m 0 c).arrAt 3 Kernel4Ideal.cfg0.N, Kernel4Ideal.Value.run_blocks m g,
    (θ_run _ _ _).mono (fun _ h c => ⟨by
        refine (h c).1.trans ((Reference4Ideal.Read.val_main_v12_eq _ _ _).trans ?_)
        rw [(hag c).1, (hag c).2.1, (hag c).2.2]
        exact (MlpDhid.final m c).symm, (h c).2⟩)
      (Reference4Ideal.Value.run m' g')⟩

/-- The gradient of the first MLP weight. -/
theorem mlpDw1 : algebraic_Kernel5Ideal_Reference5Ideal (hKernel5Ideal := Kernel5Ideal.Gen.facts) (hReference5Ideal := Reference5Ideal.Gen.facts) :=
  fun m g m' g' _ hag => ⟨fun c => (Kernel5Ideal.Gen.dats m 0 c).arrAt 2 Kernel5Ideal.cfg0.N, Kernel5Ideal.Value.run_blocks m g,
    (θ_run _ _ _).mono (fun _ h c => ⟨by
        refine (h c).1.trans ((Reference5Ideal.Read.val_main_v12_eq _ _).trans ?_)
        rw [(hag c).1, (hag c).2]
        exact (MlpDw1.final m c).symm, (h c).2⟩)
      (Reference5Ideal.Value.run m' g')⟩

/-- The gradient of the second MLP weight. -/
theorem mlpDw2 : algebraic_Kernel6Ideal_Reference6Ideal (hKernel6Ideal := Kernel6Ideal.Gen.facts) (hReference6Ideal := Reference6Ideal.Gen.facts) :=
  fun m g m' g' _ hag => ⟨fun c => (Kernel6Ideal.Gen.dats m 0 c).arrAt 2 Kernel6Ideal.cfg0.N, Kernel6Ideal.Value.run_blocks m g,
    (θ_run _ _ _).mono (fun _ h c => ⟨by
        refine (h c).1.trans ((Reference6Ideal.Read.val_main_v6_eq _ _).trans ?_)
        rw [(hag c).1, (hag c).2]
        exact (MlpDw2.final m c).symm, (h c).2⟩)
      (Reference6Ideal.Value.run m' g')⟩

/-- The first MLP product with its squared rectifier and its rectifier. -/
theorem mlpUp : algebraic_Kernel7Ideal_Reference7Ideal (hKernel7Ideal := Kernel7Ideal.Gen.facts) (hReference7Ideal := Reference7Ideal.Gen.facts) :=
  fun m g m' g' _ hag => ⟨fun c => (Kernel7Ideal.Gen.dats m 0 c).arrAt 2 Kernel7Ideal.cfg0.N, fun c => (Kernel7Ideal.Gen.dats m 0 c).arrAt 3 Kernel7Ideal.cfg0.N,
    Kernel7Ideal.Value.run_blocks m g,
    (θ_run _ _ _).mono (fun _ h c => ⟨by
        refine (h c).1.trans ((Reference7Ideal.Read.val_main_v3_eq _ _).trans ?_)
        rw [(hag c).1, (hag c).2]
        exact (MlpUp.final_square m c).symm, by
        refine (h c).2.1.trans ((Reference7Ideal.Read.val_main_v4_eq _ _).trans ?_)
        rw [(hag c).1, (hag c).2]
        exact (MlpUp.final_rect m c).symm, (h c).2.2⟩)
      (Reference7Ideal.Value.run m' g')⟩

/-- The second MLP product. -/
theorem mlpDown : algebraic_Kernel8Ideal_Reference8Ideal (hKernel8Ideal := Kernel8Ideal.Gen.facts) (hReference8Ideal := Reference8Ideal.Gen.facts) :=
  fun m g m' g' _ hag => ⟨fun c => (Kernel8Ideal.Gen.dats m 0 c).arrAt 2 Kernel8Ideal.cfg0.N, Kernel8Ideal.Value.run_blocks m g,
    (θ_run _ _ _).mono (fun _ h c => ⟨by
        refine (h c).1.trans ((Reference8Ideal.Read.val_main_v0_eq _ _).trans ?_)
        rw [(hag c).1, (hag c).2]
        exact (MlpDown.final m c).symm, (h c).2⟩)
      (Reference8Ideal.Value.run m' g')⟩

/-- The gradient of the step input. -/
theorem gateDx : algebraic_Kernel9Ideal_Reference9Ideal (hKernel9Ideal := Kernel9Ideal.Gen.facts) (hReference9Ideal := Reference9Ideal.Gen.facts) :=
  fun m g m' g' _ hag => ⟨fun c => (Kernel9Ideal.Gen.dats m 0 c).arrAt 3 Kernel9Ideal.cfg0.N, Kernel9Ideal.Value.run_blocks m g,
    (θ_run _ _ _).mono (fun _ h c => ⟨by
        refine (h c).1.trans ((Reference9Ideal.Read.val_main_v7_eq _ _ _).trans ?_)
        rw [(hag c).1, (hag c).2.1, (hag c).2.2]
        exact (GateDx.final m c).symm, (h c).2⟩)
      (Reference9Ideal.Value.run m' g')⟩

/-- The gradient of the gate weight. -/
theorem gateDw : algebraic_Kernel10Ideal_Reference10Ideal (hKernel10Ideal := Kernel10Ideal.Gen.facts) (hReference10Ideal := Reference10Ideal.Gen.facts) :=
  fun m g m' g' _ hag => ⟨fun c => (Kernel10Ideal.Gen.dats m 0 c).arrAt 2 Kernel10Ideal.cfg0.N, Kernel10Ideal.Value.run_blocks m g,
    (θ_run _ _ _).mono (fun _ h c => ⟨by
        refine (h c).1.trans ((Reference10Ideal.Read.val_main_v12_eq _ _).trans ?_)
        rw [(hag c).1, (hag c).2]
        exact (GateDw.final m c).symm, (h c).2⟩)
      (Reference10Ideal.Value.run m' g')⟩

/-- The gate projection. -/
theorem gateUp : algebraic_Kernel11Ideal_Reference11Ideal (hKernel11Ideal := Kernel11Ideal.Gen.facts) (hReference11Ideal := Reference11Ideal.Gen.facts) :=
  fun m g m' g' _ hag => ⟨fun c => (Kernel11Ideal.Gen.dats m 0 c).arrAt 3 Kernel11Ideal.cfg0.N, Kernel11Ideal.Value.run_blocks m g,
    (θ_run _ _ _).mono (fun _ h c => ⟨by
        refine (h c).1.trans ((Reference11Ideal.Read.val_main_v3_eq _ _ _).trans ?_)
        rw [(hag c).1, (hag c).2.1, (hag c).2.2]
        exact (GateUp.final m c).symm, (h c).2⟩)
      (Reference11Ideal.Value.run m' g')⟩

/-- The norm's backward kernel, for arguments that are finite numbers. -/
theorem norm : algebraic_Kernel2Ideal_Reference2Ideal_pre_finite (hKernel2Ideal := Kernel2Ideal.Gen.facts)
    (hReference2Ideal := Reference2Ideal.Gen.facts) (hPre_finite := NormValue.preFacts) :=
  letI := NormValue.preFacts
  fun m g m' g' hp hag => ⟨fun c => (Kernel2Ideal.Gen.dats m 0 c).arrAt 4 Kernel2Ideal.cfg0.N,
    fun c => (Kernel2Ideal.Gen.dats m 0 c).arrAt 5 Kernel2Ideal.cfg0.N,
    fun c => (Kernel2Ideal.Gen.dats m 0 c).arrAt 6 Kernel2Ideal.cfg0.N,
    fun c => (Kernel2Ideal.Gen.dats m 0 c).arrAt 7 Kernel2Ideal.cfg0.N, Kernel2Ideal.Value.run_blocks m g,
    (θ_run _ _ _).mono (fun _ h c => ⟨by
        refine (h c).1.trans ((Reference2Ideal.Read.val_main_v63_eq _ _).trans ?_)
        rw [(hag c).1, (hag c).2.1, (hag c).2.2.1, (hag c).2.2.2]
        exact (NormValue.out_dc m hp c).symm, by
        refine (h c).2.1.trans ((Reference2Ideal.Read.val_main_v65_eq _ _).trans ?_)
        rw [(hag c).1, (hag c).2.1, (hag c).2.2.1, (hag c).2.2.2]
        exact (NormValue.out_scale m hp c).symm, by
        refine (h c).2.2.1.trans ((Reference2Ideal.Read.val_main_v66_eq _ _).trans ?_)
        rw [(hag c).1, (hag c).2.1, (hag c).2.2.1, (hag c).2.2.2]
        exact (NormValue.out_offset m hp c).symm, by
        refine (h c).2.2.2.1.trans ((Reference2Ideal.Read.val_main_v67_eq _ _).trans ?_)
        rw [(hag c).1, (hag c).2.1, (hag c).2.2.1, (hag c).2.2.2]
        exact (NormValue.out_bias m hp c).symm, (h c).2.2.2.2⟩)
      (Reference2Ideal.Value.run m' g')⟩

/-- AdamW's call on a matrix. -/
theorem adamwWhole : algebraic_Kernel12Ideal_Reference12Ideal (hKernel12Ideal := Kernel12Ideal.Gen.facts) (hReference12Ideal := Reference12Ideal.Gen.facts) :=
  fun m g m' g' _ hag => ⟨fun c => (Kernel12Ideal.Gen.dats m 0 c).arrAt 4 Kernel12Ideal.cfg0.N,
    fun c => (Kernel12Ideal.Gen.dats m 0 c).arrAt 5 Kernel12Ideal.cfg0.N,
    fun c => (Kernel12Ideal.Gen.dats m 0 c).arrAt 6 Kernel12Ideal.cfg0.N,
    Kernel12Ideal.Value.run_blocks m g,
    (θ_run _ _ _).mono (fun _ h c => ⟨by
        refine (h c).1.trans ((Reference12Ideal.Read.val_main_v23_eq _ _ _ _).trans ?_)
        rw [(hag c).1, (hag c).2.1, (hag c).2.2.1, (hag c).2.2.2]
        exact (Adam.whole_delta m c).symm, by
        refine (h c).2.1.trans ((Reference12Ideal.Read.val_main_v4_eq _ _).trans ?_)
        rw [(hag c).2.1, (hag c).2.2.1]
        exact (Adam.whole_mom m c).symm, by
        refine (h c).2.2.1.trans ((Reference12Ideal.Read.val_main_v10_eq _ _).trans ?_)
        rw [(hag c).2.1, (hag c).2.2.2]
        exact (Adam.whole_sec m c).symm, (h c).2.2.2⟩)
      (Reference12Ideal.Value.run m' g')⟩

/-- AdamW's call on a matrix with a leading axis of one. -/
theorem adamwRows : algebraic_Kernel13Ideal_Reference13Ideal (hKernel13Ideal := Kernel13Ideal.Gen.facts) (hReference13Ideal := Reference13Ideal.Gen.facts) :=
  fun m g m' g' _ hag => ⟨fun c => (Kernel13Ideal.Gen.dats m 0 c).arrAt 4 Kernel13Ideal.cfg0.N,
    fun c => (Kernel13Ideal.Gen.dats m 0 c).arrAt 5 Kernel13Ideal.cfg0.N,
    fun c => (Kernel13Ideal.Gen.dats m 0 c).arrAt 6 Kernel13Ideal.cfg0.N,
    Kernel13Ideal.Value.run_blocks m g,
    (θ_run _ _ _).mono (fun _ h c => ⟨by
        refine (h c).1.trans ((Reference13Ideal.Read.val_main_v26_eq _ _ _ _).trans ?_)
        rw [(hag c).1, (hag c).2.1, (hag c).2.2.1, (hag c).2.2.2]
        exact (Adam.rows_delta m c).symm, by
        refine (h c).2.1.trans ((Reference13Ideal.Read.val_main_v7_eq _ _).trans ?_)
        rw [(hag c).2.1, (hag c).2.2.1]
        exact (Adam.rows_mom m c).symm, by
        refine (h c).2.2.1.trans ((Reference13Ideal.Read.val_main_v13_eq _ _).trans ?_)
        rw [(hag c).2.1, (hag c).2.2.2]
        exact (Adam.rows_sec m c).symm, (h c).2.2.2⟩)
      (Reference13Ideal.Value.run m' g')⟩

/-- AdamW's call on a weight of two layers. -/
theorem adamwLayers : algebraic_Kernel14Ideal_Reference14Ideal (hKernel14Ideal := Kernel14Ideal.Gen.facts) (hReference14Ideal := Reference14Ideal.Gen.facts) :=
  fun m g m' g' _ hag => ⟨fun c => (Kernel14Ideal.Gen.dats m 0 c).arrAt 5 Kernel14Ideal.cfg0.N,
    fun c => (Kernel14Ideal.Gen.dats m 0 c).arrAt 6 Kernel14Ideal.cfg0.N,
    fun c => (Kernel14Ideal.Gen.dats m 0 c).arrAt 7 Kernel14Ideal.cfg0.N,
    fun c => (Kernel14Ideal.Gen.dats m 0 c).arrAt 8 Kernel14Ideal.cfg0.N,
    Kernel14Ideal.Value.run_blocks m g,
    (θ_run _ _ _).mono (fun _ h c => ⟨by
        refine (h c).1.trans ((Reference14Ideal.Read.val_main_v2_eq _ _).trans ?_)
        rw [(hag c).2.1, (hag c).2.2.1]
        exact (AdamLayers.layers_g m c).symm, by
        refine (h c).2.1.trans ((Reference14Ideal.Read.val_main_v26_eq _ _ _ _ _).trans ?_)
        rw [(hag c).1, (hag c).2.1, (hag c).2.2.1, (hag c).2.2.2.1, (hag c).2.2.2.2]
        exact (AdamLayers.layers_delta m c).symm, by
        refine (h c).2.2.1.trans ((Reference14Ideal.Read.val_main_v7_eq _ _ _).trans ?_)
        rw [(hag c).2.1, (hag c).2.2.1, (hag c).2.2.2.1]
        exact (AdamLayers.layers_mom m c).symm, by
        refine (h c).2.2.2.1.trans ((Reference14Ideal.Read.val_main_v13_eq _ _ _).trans ?_)
        rw [(hag c).2.1, (hag c).2.2.1, (hag c).2.2.2.2]
        exact (AdamLayers.layers_sec m c).symm, (h c).2.2.2.2⟩)
      (Reference14Ideal.Value.run m' g')⟩

/-- AdamW's call on the eleven small weights. -/
theorem adamwSmall : algebraic_Kernel15Ideal_Reference15Ideal (hKernel15Ideal := Kernel15Ideal.Gen.facts) (hReference15Ideal := Reference15Ideal.Gen.facts) :=
  fun m g m' g' _ hag =>
  have same : ∀ c, AdamSmall.zip (AdamSmall.refW m' c) (AdamSmall.refG m' c) (AdamSmall.refM m' c) (AdamSmall.refV m' c)
      = AdamSmall.zip (AdamSmall.argW m c) (AdamSmall.argG m c) (AdamSmall.argM m c) (AdamSmall.argV m c) := fun c => by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43⟩ := hag c
    have eW : AdamSmall.refW m' c = AdamSmall.argW m c := AdamSmall.Small.ext h0 h1 h2 h3 h4 h5 h6 h7 h8 h9 h10
    have eG : AdamSmall.refG m' c = AdamSmall.argG m c := AdamSmall.Small.ext h11 h12 h13 h14 h15 h16 h17 h18 h19 h20 h21
    have eM : AdamSmall.refM m' c = AdamSmall.argM m c := AdamSmall.Small.ext h22 h23 h24 h25 h26 h27 h28 h29 h30 h31 h32
    have eV : AdamSmall.refV m' c = AdamSmall.argV m c := AdamSmall.Small.ext h33 h34 h35 h36 h37 h38 h39 h40 h41 h42 h43
    rw [eW, eG, eM, eV]
  ⟨fun c => (AdamSmall.steps m c AdamSmall.delOf).a0,
    fun c => (AdamSmall.steps m c AdamSmall.delOf).a1,
    fun c => (AdamSmall.steps m c AdamSmall.delOf).a2,
    fun c => (AdamSmall.steps m c AdamSmall.delOf).a3,
    fun c => (AdamSmall.steps m c AdamSmall.delOf).a4,
    fun c => (AdamSmall.steps m c AdamSmall.delOf).a5,
    fun c => (AdamSmall.steps m c AdamSmall.delOf).a6,
    fun c => (AdamSmall.steps m c AdamSmall.delOf).a7,
    fun c => (AdamSmall.steps m c AdamSmall.delOf).a8,
    fun c => (AdamSmall.steps m c AdamSmall.delOf).a9,
    fun c => (AdamSmall.steps m c AdamSmall.delOf).a10,
    fun c => (AdamSmall.steps m c AdamSmall.momOf).a0,
    fun c => (AdamSmall.steps m c AdamSmall.momOf).a1,
    fun c => (AdamSmall.steps m c AdamSmall.momOf).a2,
    fun c => (AdamSmall.steps m c AdamSmall.momOf).a3,
    fun c => (AdamSmall.steps m c AdamSmall.momOf).a4,
    fun c => (AdamSmall.steps m c AdamSmall.momOf).a5,
    fun c => (AdamSmall.steps m c AdamSmall.momOf).a6,
    fun c => (AdamSmall.steps m c AdamSmall.momOf).a7,
    fun c => (AdamSmall.steps m c AdamSmall.momOf).a8,
    fun c => (AdamSmall.steps m c AdamSmall.momOf).a9,
    fun c => (AdamSmall.steps m c AdamSmall.momOf).a10,
    fun c => (AdamSmall.steps m c AdamSmall.secOf).a0,
    fun c => (AdamSmall.steps m c AdamSmall.secOf).a1,
    fun c => (AdamSmall.steps m c AdamSmall.secOf).a2,
    fun c => (AdamSmall.steps m c AdamSmall.secOf).a3,
    fun c => (AdamSmall.steps m c AdamSmall.secOf).a4,
    fun c => (AdamSmall.steps m c AdamSmall.secOf).a5,
    fun c => (AdamSmall.steps m c AdamSmall.secOf).a6,
    fun c => (AdamSmall.steps m c AdamSmall.secOf).a7,
    fun c => (AdamSmall.steps m c AdamSmall.secOf).a8,
    fun c => (AdamSmall.steps m c AdamSmall.secOf).a9,
    fun c => (AdamSmall.steps m c AdamSmall.secOf).a10,
    AdamSmall.run m g,
    (θ_run _ _ _).mono (fun _ h c => ⟨
      (h c).1.trans ((Reference15Ideal.Read.val_main_v23_eq _).trans
        ((congrArg AdamSmall.Small.a0 (AdamSmall.ref_del (AdamSmall.refW m' c) (AdamSmall.refG m' c) (AdamSmall.refM m' c) (AdamSmall.refV m' c))).trans
          (congrArg (fun A => (AdamSmall.Small.map AdamSmall.delOf A).a0) (same c)))),
      (h c).2.1.trans ((Reference15Ideal.Read.val_main_v47_eq _).trans
        ((congrArg AdamSmall.Small.a1 (AdamSmall.ref_del (AdamSmall.refW m' c) (AdamSmall.refG m' c) (AdamSmall.refM m' c) (AdamSmall.refV m' c))).trans
          (congrArg (fun A => (AdamSmall.Small.map AdamSmall.delOf A).a1) (same c)))),
      (h c).2.2.1.trans ((Reference15Ideal.Read.val_main_v71_eq _).trans
        ((congrArg AdamSmall.Small.a2 (AdamSmall.ref_del (AdamSmall.refW m' c) (AdamSmall.refG m' c) (AdamSmall.refM m' c) (AdamSmall.refV m' c))).trans
          (congrArg (fun A => (AdamSmall.Small.map AdamSmall.delOf A).a2) (same c)))),
      (h c).2.2.2.1.trans ((Reference15Ideal.Read.val_main_v95_eq _).trans
        ((congrArg AdamSmall.Small.a3 (AdamSmall.ref_del (AdamSmall.refW m' c) (AdamSmall.refG m' c) (AdamSmall.refM m' c) (AdamSmall.refV m' c))).trans
          (congrArg (fun A => (AdamSmall.Small.map AdamSmall.delOf A).a3) (same c)))),
      (h c).2.2.2.2.1.trans ((Reference15Ideal.Read.val_main_v119_eq _).trans
        ((congrArg AdamSmall.Small.a4 (AdamSmall.ref_del (AdamSmall.refW m' c) (AdamSmall.refG m' c) (AdamSmall.refM m' c) (AdamSmall.refV m' c))).trans
          (congrArg (fun A => (AdamSmall.Small.map AdamSmall.delOf A).a4) (same c)))),
      (h c).2.2.2.2.2.1.trans ((Reference15Ideal.Read.val_main_v143_eq _).trans
        ((congrArg AdamSmall.Small.a5 (AdamSmall.ref_del (AdamSmall.refW m' c) (AdamSmall.refG m' c) (AdamSmall.refM m' c) (AdamSmall.refV m' c))).trans
          (congrArg (fun A => (AdamSmall.Small.map AdamSmall.delOf A).a5) (same c)))),
      (h c).2.2.2.2.2.2.1.trans ((Reference15Ideal.Read.val_main_v167_eq _).trans
        ((congrArg AdamSmall.Small.a6 (AdamSmall.ref_del (AdamSmall.refW m' c) (AdamSmall.refG m' c) (AdamSmall.refM m' c) (AdamSmall.refV m' c))).trans
          (congrArg (fun A => (AdamSmall.Small.map AdamSmall.delOf A).a6) (same c)))),
      (h c).2.2.2.2.2.2.2.1.trans ((Reference15Ideal.Read.val_main_v191_eq _).trans
        ((congrArg AdamSmall.Small.a7 (AdamSmall.ref_del (AdamSmall.refW m' c) (AdamSmall.refG m' c) (AdamSmall.refM m' c) (AdamSmall.refV m' c))).trans
          (congrArg (fun A => (AdamSmall.Small.map AdamSmall.delOf A).a7) (same c)))),
      (h c).2.2.2.2.2.2.2.2.1.trans ((Reference15Ideal.Read.val_main_v215_eq _).trans
        ((congrArg AdamSmall.Small.a8 (AdamSmall.ref_del (AdamSmall.refW m' c) (AdamSmall.refG m' c) (AdamSmall.refM m' c) (AdamSmall.refV m' c))).trans
          (congrArg (fun A => (AdamSmall.Small.map AdamSmall.delOf A).a8) (same c)))),
      (h c).2.2.2.2.2.2.2.2.2.1.trans ((Reference15Ideal.Read.val_main_v239_eq _).trans
        ((congrArg AdamSmall.Small.a9 (AdamSmall.ref_del (AdamSmall.refW m' c) (AdamSmall.refG m' c) (AdamSmall.refM m' c) (AdamSmall.refV m' c))).trans
          (congrArg (fun A => (AdamSmall.Small.map AdamSmall.delOf A).a9) (same c)))),
      (h c).2.2.2.2.2.2.2.2.2.2.1.trans ((Reference15Ideal.Read.val_main_v263_eq _).trans
        ((congrArg AdamSmall.Small.a10 (AdamSmall.ref_del (AdamSmall.refW m' c) (AdamSmall.refG m' c) (AdamSmall.refM m' c) (AdamSmall.refV m' c))).trans
          (congrArg (fun A => (AdamSmall.Small.map AdamSmall.delOf A).a10) (same c)))),
      (h c).2.2.2.2.2.2.2.2.2.2.2.1.trans ((Reference15Ideal.Read.val_main_v4_eq _).trans
        ((congrArg AdamSmall.Small.a0 (AdamSmall.ref_mom (AdamSmall.refW m' c) (AdamSmall.refG m' c) (AdamSmall.refM m' c) (AdamSmall.refV m' c))).trans
          (congrArg (fun A => (AdamSmall.Small.map AdamSmall.momOf A).a0) (same c)))),
      (h c).2.2.2.2.2.2.2.2.2.2.2.2.1.trans ((Reference15Ideal.Read.val_main_v28_eq _).trans
        ((congrArg AdamSmall.Small.a1 (AdamSmall.ref_mom (AdamSmall.refW m' c) (AdamSmall.refG m' c) (AdamSmall.refM m' c) (AdamSmall.refV m' c))).trans
          (congrArg (fun A => (AdamSmall.Small.map AdamSmall.momOf A).a1) (same c)))),
      (h c).2.2.2.2.2.2.2.2.2.2.2.2.2.1.trans ((Reference15Ideal.Read.val_main_v52_eq _).trans
        ((congrArg AdamSmall.Small.a2 (AdamSmall.ref_mom (AdamSmall.refW m' c) (AdamSmall.refG m' c) (AdamSmall.refM m' c) (AdamSmall.refV m' c))).trans
          (congrArg (fun A => (AdamSmall.Small.map AdamSmall.momOf A).a2) (same c)))),
      (h c).2.2.2.2.2.2.2.2.2.2.2.2.2.2.1.trans ((Reference15Ideal.Read.val_main_v76_eq _).trans
        ((congrArg AdamSmall.Small.a3 (AdamSmall.ref_mom (AdamSmall.refW m' c) (AdamSmall.refG m' c) (AdamSmall.refM m' c) (AdamSmall.refV m' c))).trans
          (congrArg (fun A => (AdamSmall.Small.map AdamSmall.momOf A).a3) (same c)))),
      (h c).2.2.2.2.2.2.2.2.2.2.2.2.2.2.2.1.trans ((Reference15Ideal.Read.val_main_v100_eq _).trans
        ((congrArg AdamSmall.Small.a4 (AdamSmall.ref_mom (AdamSmall.refW m' c) (AdamSmall.refG m' c) (AdamSmall.refM m' c) (AdamSmall.refV m' c))).trans
          (congrArg (fun A => (AdamSmall.Small.map AdamSmall.momOf A).a4) (same c)))),
      (h c).2.2.2.2.2.2.2.2.2.2.2.2.2.2.2.2.1.trans ((Reference15Ideal.Read.val_main_v124_eq _).trans
        ((congrArg AdamSmall.Small.a5 (AdamSmall.ref_mom (AdamSmall.refW m' c) (AdamSmall.refG m' c) (AdamSmall.refM m' c) (AdamSmall.refV m' c))).trans
          (congrArg (fun A => (AdamSmall.Small.map AdamSmall.momOf A).a5) (same c)))),
      (h c).2.2.2.2.2.2.2.2.2.2.2.2.2.2.2.2.2.1.trans ((Reference15Ideal.Read.val_main_v148_eq _).trans
        ((congrArg AdamSmall.Small.a6 (AdamSmall.ref_mom (AdamSmall.refW m' c) (AdamSmall.refG m' c) (AdamSmall.refM m' c) (AdamSmall.refV m' c))).trans
          (congrArg (fun A => (AdamSmall.Small.map AdamSmall.momOf A).a6) (same c)))),
      (h c).2.2.2.2.2.2.2.2.2.2.2.2.2.2.2.2.2.2.1.trans ((Reference15Ideal.Read.val_main_v172_eq _).trans
        ((congrArg AdamSmall.Small.a7 (AdamSmall.ref_mom (AdamSmall.refW m' c) (AdamSmall.refG m' c) (AdamSmall.refM m' c) (AdamSmall.refV m' c))).trans
          (congrArg (fun A => (AdamSmall.Small.map AdamSmall.momOf A).a7) (same c)))),
      (h c).2.2.2.2.2.2.2.2.2.2.2.2.2.2.2.2.2.2.2.1.trans ((Reference15Ideal.Read.val_main_v196_eq _).trans
        ((congrArg AdamSmall.Small.a8 (AdamSmall.ref_mom (AdamSmall.refW m' c) (AdamSmall.refG m' c) (AdamSmall.refM m' c) (AdamSmall.refV m' c))).trans
          (congrArg (fun A => (AdamSmall.Small.map AdamSmall.momOf A).a8) (same c)))),
      (h c).2.2.2.2.2.2.2.2.2.2.2.2.2.2.2.2.2.2.2.2.1.trans ((Reference15Ideal.Read.val_main_v220_eq _).trans
        ((congrArg AdamSmall.Small.a9 (AdamSmall.ref_mom (AdamSmall.refW m' c) (AdamSmall.refG m' c) (AdamSmall.refM m' c) (AdamSmall.refV m' c))).trans
          (congrArg (fun A => (AdamSmall.Small.map AdamSmall.momOf A).a9) (same c)))),
      (h c).2.2.2.2.2.2.2.2.2.2.2.2.2.2.2.2.2.2.2.2.2.1.trans ((Reference15Ideal.Read.val_main_v244_eq _).trans
        ((congrArg AdamSmall.Small.a10 (AdamSmall.ref_mom (AdamSmall.refW m' c) (AdamSmall.refG m' c) (AdamSmall.refM m' c) (AdamSmall.refV m' c))).trans
          (congrArg (fun A => (AdamSmall.Small.map AdamSmall.momOf A).a10) (same c)))),
      (h c).2.2.2.2.2.2.2.2.2.2.2.2.2.2.2.2.2.2.2.2.2.2.1.trans ((Reference15Ideal.Read.val_main_v10_eq _).trans
        ((congrArg AdamSmall.Small.a0 (AdamSmall.ref_sec (AdamSmall.refW m' c) (AdamSmall.refG m' c) (AdamSmall.refM m' c) (AdamSmall.refV m' c))).trans
          (congrArg (fun A => (AdamSmall.Small.map AdamSmall.secOf A).a0) (same c)))),
      (h c).2.2.2.2.2.2.2.2.2.2.2.2.2.2.2.2.2.2.2.2.2.2.2.1.trans ((Reference15Ideal.Read.val_main_v34_eq _).trans
        ((congrArg AdamSmall.Small.a1 (AdamSmall.ref_sec (AdamSmall.refW m' c) (AdamSmall.refG m' c) (AdamSmall.refM m' c) (AdamSmall.refV m' c))).trans
          (congrArg (fun A => (AdamSmall.Small.map AdamSmall.secOf A).a1) (same c)))),
      (h c).2.2.2.2.2.2.2.2.2.2.2.2.2.2.2.2.2.2.2.2.2.2.2.2.1.trans ((Reference15Ideal.Read.val_main_v58_eq _).trans
        ((congrArg AdamSmall.Small.a2 (AdamSmall.ref_sec (AdamSmall.refW m' c) (AdamSmall.refG m' c) (AdamSmall.refM m' c) (AdamSmall.refV m' c))).trans
          (congrArg (fun A => (AdamSmall.Small.map AdamSmall.secOf A).a2) (same c)))),
      (h c).2.2.2.2.2.2.2.2.2.2.2.2.2.2.2.2.2.2.2.2.2.2.2.2.2.1.trans ((Reference15Ideal.Read.val_main_v82_eq _).trans
        ((congrArg AdamSmall.Small.a3 (AdamSmall.ref_sec (AdamSmall.refW m' c) (AdamSmall.refG m' c) (AdamSmall.refM m' c) (AdamSmall.refV m' c))).trans
          (congrArg (fun A => (AdamSmall.Small.map AdamSmall.secOf A).a3) (same c)))),
      (h c).2.2.2.2.2.2.2.2.2.2.2.2.2.2.2.2.2.2.2.2.2.2.2.2.2.2.1.trans ((Reference15Ideal.Read.val_main_v106_eq _).trans
        ((congrArg AdamSmall.Small.a4 (AdamSmall.ref_sec (AdamSmall.refW m' c) (AdamSmall.refG m' c) (AdamSmall.refM m' c) (AdamSmall.refV m' c))).trans
          (congrArg (fun A => (AdamSmall.Small.map AdamSmall.secOf A).a4) (same c)))),
      (h c).2.2.2.2.2.2.2.2.2.2.2.2.2.2.2.2.2.2.2.2.2.2.2.2.2.2.2.1.trans ((Reference15Ideal.Read.val_main_v130_eq _).trans
        ((congrArg AdamSmall.Small.a5 (AdamSmall.ref_sec (AdamSmall.refW m' c) (AdamSmall.refG m' c) (AdamSmall.refM m' c) (AdamSmall.refV m' c))).trans
          (congrArg (fun A => (AdamSmall.Small.map AdamSmall.secOf A).a5) (same c)))),
      (h c).2.2.2.2.2.2.2.2.2.2.2.2.2.2.2.2.2.2.2.2.2.2.2.2.2.2.2.2.1.trans ((Reference15Ideal.Read.val_main_v154_eq _).trans
        ((congrArg AdamSmall.Small.a6 (AdamSmall.ref_sec (AdamSmall.refW m' c) (AdamSmall.refG m' c) (AdamSmall.refM m' c) (AdamSmall.refV m' c))).trans
          (congrArg (fun A => (AdamSmall.Small.map AdamSmall.secOf A).a6) (same c)))),
      (h c).2.2.2.2.2.2.2.2.2.2.2.2.2.2.2.2.2.2.2.2.2.2.2.2.2.2.2.2.2.1.trans ((Reference15Ideal.Read.val_main_v178_eq _).trans
        ((congrArg AdamSmall.Small.a7 (AdamSmall.ref_sec (AdamSmall.refW m' c) (AdamSmall.refG m' c) (AdamSmall.refM m' c) (AdamSmall.refV m' c))).trans
          (congrArg (fun A => (AdamSmall.Small.map AdamSmall.secOf A).a7) (same c)))),
      (h c).2.2.2.2.2.2.2.2.2.2.2.2.2.2.2.2.2.2.2.2.2.2.2.2.2.2.2.2.2.2.1.trans ((Reference15Ideal.Read.val_main_v202_eq _).trans
        ((congrArg AdamSmall.Small.a8 (AdamSmall.ref_sec (AdamSmall.refW m' c) (AdamSmall.refG m' c) (AdamSmall.refM m' c) (AdamSmall.refV m' c))).trans
          (congrArg (fun A => (AdamSmall.Small.map AdamSmall.secOf A).a8) (same c)))),
      (h c).2.2.2.2.2.2.2.2.2.2.2.2.2.2.2.2.2.2.2.2.2.2.2.2.2.2.2.2.2.2.2.1.trans ((Reference15Ideal.Read.val_main_v226_eq _).trans
        ((congrArg AdamSmall.Small.a9 (AdamSmall.ref_sec (AdamSmall.refW m' c) (AdamSmall.refG m' c) (AdamSmall.refM m' c) (AdamSmall.refV m' c))).trans
          (congrArg (fun A => (AdamSmall.Small.map AdamSmall.secOf A).a9) (same c)))),
      (h c).2.2.2.2.2.2.2.2.2.2.2.2.2.2.2.2.2.2.2.2.2.2.2.2.2.2.2.2.2.2.2.2.1.trans ((Reference15Ideal.Read.val_main_v250_eq _).trans
        ((congrArg AdamSmall.Small.a10 (AdamSmall.ref_sec (AdamSmall.refW m' c) (AdamSmall.refG m' c) (AdamSmall.refM m' c) (AdamSmall.refV m' c))).trans
          (congrArg (fun A => (AdamSmall.Small.map AdamSmall.secOf A).a10) (same c)))),
      (h c).2.2.2.2.2.2.2.2.2.2.2.2.2.2.2.2.2.2.2.2.2.2.2.2.2.2.2.2.2.2.2.2.2⟩)
      (Reference15Ideal.Value.run m' g')⟩

/-- The sum of the devices' gradients of the small weights. -/
theorem gradSum : algebraic_Kernel16Ideal_Reference16Ideal (hKernel16Ideal := Kernel16Ideal.Gen.facts) (hReference16Ideal := Reference16Ideal.Gen.facts) :=
  fun m g m' g' _ hag => ⟨fun c => Kernel16Ideal.Value.G1 (m ((c.tc : Thread Kernel16Ideal.nD Kernel16Ideal.τ).loc Kernel16Ideal.main_arg0)), Kernel16Ideal.Value.run m g,
    (θ_run _ _ _).mono (fun _ h c => ⟨by
        refine (h c).1.trans ((Reference16Ideal.Read.val_main_v0_eq _).trans ?_)
        rw [hag c]
        exact (GradSum.final _).symm, (h c).2⟩)
      (Reference16Ideal.Value.run m' g')⟩

theorem claim : Cert.Claim :=
  ⟨Kernel.Gen.facts,
    KernelIdeal.Gen.facts,
    ReferenceIdeal.Gen.facts,
    Kernel2.Gen.facts,
    Kernel2Ideal.Gen.facts,
    Reference2Ideal.Gen.facts,
    Kernel3.Gen.facts,
    Kernel3Ideal.Gen.facts,
    Reference3Ideal.Gen.facts,
    Kernel4.Gen.facts,
    Kernel4Ideal.Gen.facts,
    Reference4Ideal.Gen.facts,
    Kernel5.Gen.facts,
    Kernel5Ideal.Gen.facts,
    Reference5Ideal.Gen.facts,
    Kernel6.Gen.facts,
    Kernel6Ideal.Gen.facts,
    Reference6Ideal.Gen.facts,
    Kernel7.Gen.facts,
    Kernel7Ideal.Gen.facts,
    Reference7Ideal.Gen.facts,
    Kernel8.Gen.facts,
    Kernel8Ideal.Gen.facts,
    Reference8Ideal.Gen.facts,
    Kernel9.Gen.facts,
    Kernel9Ideal.Gen.facts,
    Reference9Ideal.Gen.facts,
    Kernel10.Gen.facts,
    Kernel10Ideal.Gen.facts,
    Reference10Ideal.Gen.facts,
    Kernel11.Gen.facts,
    Kernel11Ideal.Gen.facts,
    Reference11Ideal.Gen.facts,
    Kernel12.Gen.facts,
    Kernel12Ideal.Gen.facts,
    Reference12Ideal.Gen.facts,
    Kernel13.Gen.facts,
    Kernel13Ideal.Gen.facts,
    Reference13Ideal.Gen.facts,
    Kernel14.Gen.facts,
    Kernel14Ideal.Gen.facts,
    Reference14Ideal.Gen.facts,
    Kernel15.Gen.facts,
    Kernel15Ideal.Gen.facts,
    Reference15Ideal.Gen.facts,
    Kernel16.Gen.facts,
    Kernel16Ideal.Gen.facts,
    Reference16Ideal.Gen.facts,
    NormValue.preFacts,
    fun m g _ => Kernel.Gen.frame m g,
    fun m g _ => KernelIdeal.Gen.frame m g,
    fun m g _ => (θ_run ReferenceIdeal.defs _ _).mono (fun r h => ⟨fun c => (h c).2.2.2, sem_eq_zero_of_no_sems (by decide) r.2⟩)
      (ReferenceIdeal.Value.run m g),
    fun m g _ => Kernel2.Gen.frame m g,
    fun m g _ => Kernel2Ideal.Gen.frame m g,
    fun m g _ => Kernel2Ideal.Gen.frame m g,
    fun m g _ => (θ_run Reference2Ideal.defs _ _).mono (fun r h => ⟨fun c => (h c).2.2.2.2, sem_eq_zero_of_no_sems (by decide) r.2⟩)
      (Reference2Ideal.Value.run m g),
    fun m g _ => (θ_run Reference2Ideal.defs _ _).mono (fun r h => ⟨fun c => (h c).2.2.2.2, sem_eq_zero_of_no_sems (by decide) r.2⟩)
      (Reference2Ideal.Value.run m g),
    fun m g _ => Kernel3.Gen.frame m g,
    fun m g _ => Kernel3Ideal.Gen.frame m g,
    fun m g _ => (θ_run Reference3Ideal.defs _ _).mono (fun r h => ⟨fun c => (h c).2, sem_eq_zero_of_no_sems (by decide) r.2⟩)
      (Reference3Ideal.Value.run m g),
    fun m g _ => Kernel4.Gen.frame m g,
    fun m g _ => Kernel4Ideal.Gen.frame m g,
    fun m g _ => (θ_run Reference4Ideal.defs _ _).mono (fun r h => ⟨fun c => (h c).2, sem_eq_zero_of_no_sems (by decide) r.2⟩)
      (Reference4Ideal.Value.run m g),
    fun m g _ => Kernel5.Gen.frame m g,
    fun m g _ => Kernel5Ideal.Gen.frame m g,
    fun m g _ => (θ_run Reference5Ideal.defs _ _).mono (fun r h => ⟨fun c => (h c).2, sem_eq_zero_of_no_sems (by decide) r.2⟩)
      (Reference5Ideal.Value.run m g),
    fun m g _ => Kernel6.Gen.frame m g,
    fun m g _ => Kernel6Ideal.Gen.frame m g,
    fun m g _ => (θ_run Reference6Ideal.defs _ _).mono (fun r h => ⟨fun c => (h c).2, sem_eq_zero_of_no_sems (by decide) r.2⟩)
      (Reference6Ideal.Value.run m g),
    fun m g _ => Kernel7.Gen.frame m g,
    fun m g _ => Kernel7Ideal.Gen.frame m g,
    fun m g _ => (θ_run Reference7Ideal.defs _ _).mono (fun r h => ⟨fun c => (h c).2.2, sem_eq_zero_of_no_sems (by decide) r.2⟩)
      (Reference7Ideal.Value.run m g),
    fun m g _ => Kernel8.Gen.frame m g,
    fun m g _ => Kernel8Ideal.Gen.frame m g,
    fun m g _ => (θ_run Reference8Ideal.defs _ _).mono (fun r h => ⟨fun c => (h c).2, sem_eq_zero_of_no_sems (by decide) r.2⟩)
      (Reference8Ideal.Value.run m g),
    fun m g _ => Kernel9.Gen.frame m g,
    fun m g _ => Kernel9Ideal.Gen.frame m g,
    fun m g _ => (θ_run Reference9Ideal.defs _ _).mono (fun r h => ⟨fun c => (h c).2, sem_eq_zero_of_no_sems (by decide) r.2⟩)
      (Reference9Ideal.Value.run m g),
    fun m g _ => Kernel10.Gen.frame m g,
    fun m g _ => Kernel10Ideal.Gen.frame m g,
    fun m g _ => (θ_run Reference10Ideal.defs _ _).mono (fun r h => ⟨fun c => (h c).2, sem_eq_zero_of_no_sems (by decide) r.2⟩)
      (Reference10Ideal.Value.run m g),
    fun m g _ => Kernel11.Gen.frame m g,
    fun m g _ => Kernel11Ideal.Gen.frame m g,
    fun m g _ => (θ_run Reference11Ideal.defs _ _).mono (fun r h => ⟨fun c => (h c).2, sem_eq_zero_of_no_sems (by decide) r.2⟩)
      (Reference11Ideal.Value.run m g),
    fun m g _ => Kernel12.Gen.frame m g,
    fun m g _ => Kernel12Ideal.Gen.frame m g,
    fun m g _ => (θ_run Reference12Ideal.defs _ _).mono (fun r h => ⟨fun c => (h c).2.2.2, sem_eq_zero_of_no_sems (by decide) r.2⟩)
      (Reference12Ideal.Value.run m g),
    fun m g _ => Kernel13.Gen.frame m g,
    fun m g _ => Kernel13Ideal.Gen.frame m g,
    fun m g _ => (θ_run Reference13Ideal.defs _ _).mono (fun r h => ⟨fun c => (h c).2.2.2, sem_eq_zero_of_no_sems (by decide) r.2⟩)
      (Reference13Ideal.Value.run m g),
    fun m g _ => Kernel14.Gen.frame m g,
    fun m g _ => Kernel14Ideal.Gen.frame m g,
    fun m g _ => (θ_run Reference14Ideal.defs _ _).mono (fun r h => ⟨fun c => (h c).2.2.2.2, sem_eq_zero_of_no_sems (by decide) r.2⟩)
      (Reference14Ideal.Value.run m g),
    fun m g _ => Kernel15.Gen.frame m g,
    fun m g _ => Kernel15Ideal.Gen.frame m g,
    fun m g _ => (θ_run Reference15Ideal.defs _ _).mono (fun r h => ⟨fun c => (h c).2.2.2.2.2.2.2.2.2.2.2.2.2.2.2.2.2.2.2.2.2.2.2.2.2.2.2.2.2.2.2.2.2, sem_eq_zero_of_no_sems (by decide) r.2⟩)
      (Reference15Ideal.Value.run m g),
    fun m g _ => Kernel16.Gen.frame m g,
    fun m g _ => Kernel16Ideal.Gen.frame m g,
    fun m g _ => (θ_run Reference16Ideal.defs _ _).mono (fun r h => ⟨fun c => (h c).2, sem_eq_zero_of_no_sems (by decide) r.2⟩)
      (Reference16Ideal.Value.run m g),
    trivial,
    trivial,
    norm,
    trivial,
    mlpDx,
    trivial,
    mlpDhid,
    trivial,
    mlpDw1,
    trivial,
    mlpDw2,
    trivial,
    mlpUp,
    trivial,
    mlpDown,
    trivial,
    gateDx,
    trivial,
    gateDw,
    trivial,
    gateUp,
    trivial,
    adamwWhole,
    trivial,
    adamwRows,
    trivial,
    adamwLayers,
    trivial,
    adamwSmall,
    trivial,
    gradSum⟩

end Cert.Proof

end
